-- ==== Defs.lean ====
def Pre_Kernel [hPre_rois_in_range : Cert.Pre_rois_in_range.Facts] (m : (ℓ : Loc Cert.Kernel.nD Cert.Kernel.τ Cert.Kernel.sig) → Buf (Elt Bits) ℓ) : Prop :=
  ∀ c : Dev Cert.Kernel.nD,
    (Cert.Pre_rois_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_rois_in_range : Cert.Pre_rois_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_rois_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_rois_in_range : Cert.Pre_rois_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rois_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_rois_in_range : Cert.Pre_rois_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_rois_in_range : Cert.Pre_rois_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] [hPre_rois_in_range : Cert.Pre_rois_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "neg" .f32 0xFF61B1E6#32 ⊥

def algebraic_KernelIdeal_ReferenceIdeal [hKernelIdeal : Cert.KernelIdeal.Facts] [hReferenceIdeal : Cert.ReferenceIdeal.Facts] [hPre_rois_in_range : Cert.Pre_rois_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v246)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v246) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v166) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_rois_in_range : Cert.Pre_rois_in_range.Facts),
    quiescent_Kernel (hKernel := hKernel) (hPre_rois_in_range := hPre_rois_in_range)
    ∧ quiescent_KernelIdeal (hKernelIdeal := hKernelIdeal) (hPre_rois_in_range := hPre_rois_in_range)
    ∧ quiescent_ReferenceIdeal (hReferenceIdeal := hReferenceIdeal) (hPre_rois_in_range := hPre_rois_in_range)
    ∧ preserves_Kernel_KernelIdeal
    ∧ algebraic_KernelIdeal_ReferenceIdeal (hKernelIdeal := hKernelIdeal) (hReferenceIdeal := hReferenceIdeal) (hPre_rois_in_range := hPre_rois_in_range)
-- ==== Pre_rois_in_range.lean ====
abbrev S2x512x50x50 : Shape := ⟨4, ![2, 512, 50, 50]⟩
abbrev S300x5 : Shape := ⟨2, ![300, 5]⟩
abbrev S300x1 : Shape := ⟨2, ![300, 1]⟩
abbrev S300 : Shape := ⟨1, ![300]⟩
abbrev S_ : Shape := ⟨0, ![]⟩

class Facts : Prop where
  slices_S300x5_S300x1_0_0 : S300x5.Slices ![0, 0] S300x1
  shapeCasts_S300x1_S300 : S300x1.ShapeCasts S300
  bcast_S_S300 : S_.BroadcastsInDim S300 (![] : Fin 0 → Fin S300.rank)
  reducesTo_S300_S_d0 : S300.ReducesTo [0] S_
  h_S_ : 0 < S_.numel
  slices_S300x5_S300x1_0_1 : S300x5.Slices ![0, 1] S300x1
  slices_S300x5_S300x1_0_3 : S300x5.Slices ![0, 3] S300x1

variable [Facts]

def fn_part1 {F : FTy → Type} [FloatOps F] (main_arg1 : FVec F S300x5 .f32) (main_v8 : IVec S_ 1) (main_v17 : IVec S300 1) (main_c_3 : IVec S_ 1) : IVec S_ 1 :=
  let main_v18 : IVec S_ 1 := (fun x v => Host.reduce IntOp.andi x v reducesTo_S300_S_d0 h_S_) main_v17 main_c_3
  let main_v19 : IVec S_ 1 := andi main_v8 main_v18
  let main_v20 : FVec F S300x1 .f32 := (extractStridedSlice S300x1 ![0, 3] · slices_S300x5_S300x1_0_3) main_arg1
  let main_v21 : FVec F S300 .f32 := shapeCast S300 main_v20 shapeCasts_S300x1_S300
  let main_cst_4 : FVec F S_ .f32 := constant S_ .f32 0x00000000#32
  let main_v22 : FVec F S300 .f32 := broadcastInDim S300 ![] bcast_S_S300 main_cst_4
  let main_v23 : IVec S300 1 := cmpf .oge main_v21 main_v22
  let main_v24 : FVec F S300x1 .f32 := (extractStridedSlice S300x1 ![0, 3] · slices_S300x5_S300x1_0_3) main_arg1
  let main_v25 : FVec F S300 .f32 := shapeCast S300 main_v24 shapeCasts_S300x1_S300
  let main_cst_5 : FVec F S_ .f32 := constant S_ .f32 0x4447C000#32
  let main_v26 : FVec F S300 .f32 := broadcastInDim S300 ![] bcast_S_S300 main_cst_5
  let main_v27 : IVec S300 1 := cmpf .ole main_v25 main_v26
  let main_v28 : IVec S300 1 := andi main_v23 main_v27
  let main_c_6 : IVec S_ 1 := constantI S_ 1 1#1
  let main_v29 : IVec S_ 1 := (fun x v => Host.reduce IntOp.andi x v reducesTo_S300_S_d0 h_S_) main_v28 main_c_6
  let main_v30 : IVec S_ 1 := andi main_v19 main_v29
  main_v30

def fn {F : FTy → Type} [FloatOps F] (main_arg0 : FVec F S2x512x50x50 .f32) (main_arg1 : FVec F S300x5 .f32) : IVec S_ 1 :=
  let main_v0 : FVec F S300x1 .f32 := (extractStridedSlice S300x1 ![0, 0] · slices_S300x5_S300x1_0_0) main_arg1
  let main_v1 : FVec F S300 .f32 := shapeCast S300 main_v0 shapeCasts_S300x1_S300
  let main_v2 : IVec S300 32 := fptosi 32 main_v1
  let main_c : IVec S_ 32 := constantI S_ 32 0#32
  let main_v3 : IVec S300 32 := broadcastInDim S300 ![] bcast_S_S300 main_c
  let main_v4 : IVec S300 1 := cmpi .sge main_v2 main_v3
  let main_c_0 : IVec S_ 32 := constantI S_ 32 2#32
  let main_v5 : IVec S300 32 := broadcastInDim S300 ![] bcast_S_S300 main_c_0
  let main_v6 : IVec S300 1 := cmpi .slt main_v2 main_v5
  let main_v7 : IVec S300 1 := andi main_v4 main_v6
  let main_c_1 : IVec S_ 1 := constantI S_ 1 1#1
  let main_v8 : IVec S_ 1 := (fun x v => Host.reduce IntOp.andi x v reducesTo_S300_S_d0 h_S_) main_v7 main_c_1
  let main_v9 : FVec F S300x1 .f32 := (extractStridedSlice S300x1 ![0, 1] · slices_S300x5_S300x1_0_1) main_arg1
  let main_v10 : FVec F S300 .f32 := shapeCast S300 main_v9 shapeCasts_S300x1_S300
  let main_cst : FVec F S_ .f32 := constant S_ .f32 0x00000000#32
  let main_v11 : FVec F S300 .f32 := broadcastInDim S300 ![] bcast_S_S300 main_cst
  let main_v12 : IVec S300 1 := cmpf .oge main_v10 main_v11
  let main_v13 : FVec F S300x1 .f32 := (extractStridedSlice S300x1 ![0, 1] · slices_S300x5_S300x1_0_1) main_arg1
  let main_v14 : FVec F S300 .f32 := shapeCast S300 main_v13 shapeCasts_S300x1_S300
  let main_cst_2 : FVec F S_ .f32 := constant S_ .f32 0x4447C000#32
  let main_v15 : FVec F S300 .f32 := broadcastInDim S300 ![] bcast_S_S300 main_cst_2
  let main_v16 : IVec S300 1 := cmpf .ole main_v14 main_v15
  let main_v17 : IVec S300 1 := andi main_v12 main_v16
  let main_c_3 : IVec S_ 1 := constantI S_ 1 1#1
  fn_part1 (F := F) main_arg1 main_v8 main_v17 main_c_3
-- ==== Kernel.lean ====
abbrev S2x512x50x50 : Shape := ⟨4, ![2, 512, 50, 50]⟩
abbrev S300x5 : Shape := ⟨2, ![300, 5]⟩
abbrev S2x50x50x512 : Shape := ⟨4, ![2, 50, 50, 512]⟩
abbrev S300x1 : Shape := ⟨2, ![300, 1]⟩
abbrev S300 : Shape := ⟨1, ![300]⟩
abbrev S_ : Shape := ⟨0, ![]⟩
abbrev S300x7 : Shape := ⟨2, ![300, 7]⟩
abbrev S300x49x512 : Shape := ⟨3, ![300, 49, 512]⟩
abbrev S1x49x512 : Shape := ⟨3, ![1, 49, 512]⟩
abbrev S1 : Shape := ⟨1, ![1]⟩
abbrev S10x1x1 : Shape := ⟨3, ![10, 1, 1]⟩
abbrev S50x1 : Shape := ⟨2, ![50, 1]⟩
abbrev S1x1 : Shape := ⟨2, ![1, 1]⟩
abbrev S1x10x50x512 : Shape := ⟨4, ![1, 10, 50, 512]⟩
abbrev S10x50x512 : Shape := ⟨3, ![10, 50, 512]⟩
abbrev S50x512 : Shape := ⟨2, ![50, 512]⟩
abbrev S512 : Shape := ⟨1, ![512]⟩
abbrev S1x1x512 : Shape := ⟨3, ![1, 1, 512]⟩
abbrev S300x512x49 : Shape := ⟨3, ![300, 512, 49]⟩
abbrev S300x512x7x7 : Shape := ⟨4, ![300, 512, 7, 7]⟩

abbrev nBuf : Space → Nat
  | .hbm => 478
  | .vmem => 3
  | .smem => 5
  | _ => 0

abbrev hbmTy0_0 (i : Nat) : BufTy := match i % 128 with
  | 0 => ⟨S2x512x50x50, .f32⟩
  | 1 => ⟨S300x5, .f32⟩
  | 2 => ⟨S2x50x50x512, .f32⟩
  | 3 => ⟨S300x1, .f32⟩
  | 4 => ⟨S300, .f32⟩
  | 5 => ⟨S300x1, .f32⟩
  | 6 => ⟨S300, .f32⟩
  | 7 => ⟨S_, .f32⟩
  | 8 => ⟨S300, .f32⟩
  | 9 => ⟨S300, .f32⟩
  | 10 => ⟨S300, .f32⟩
  | 11 => ⟨S300, .i32⟩
  | 12 => ⟨S300x1, .f32⟩
  | 13 => ⟨S300, .f32⟩
  | 14 => ⟨S_, .f32⟩
  | 15 => ⟨S300, .f32⟩
  | 16 => ⟨S300, .f32⟩
  | 17 => ⟨S300, .f32⟩
  | 18 => ⟨S300, .i32⟩
  | 19 => ⟨S300x1, .f32⟩
  | 20 => ⟨S300, .f32⟩
  | 21 => ⟨S_, .f32⟩
  | 22 => ⟨S300, .f32⟩
  | 23 => ⟨S300, .f32⟩
  | 24 => ⟨S300, .f32⟩
  | 25 => ⟨S300, .i32⟩
  | 26 => ⟨S300x1, .f32⟩
  | 27 => ⟨S300, .f32⟩
  | 28 => ⟨S_, .f32⟩
  | 29 => ⟨S300, .f32⟩
  | 30 => ⟨S300, .f32⟩
  | 31 => ⟨S300, .f32⟩
  | 32 => ⟨S300, .i32⟩
  | 33 => ⟨S300, .i32⟩
  | 34 => ⟨S_, .i32⟩
  | 35 => ⟨S300, .i32⟩
  | 36 => ⟨S300, .i32⟩
  | 37 => ⟨S_, .i32⟩
  | 38 => ⟨S300, .i32⟩
  | 39 => ⟨S300, .i32⟩
  | 40 => ⟨S300, .f32⟩
  | 41 => ⟨S300, .i32⟩
  | 42 => ⟨S_, .i32⟩
  | 43 => ⟨S300, .i32⟩
  | 44 => ⟨S300, .i32⟩
  | 45 => ⟨S_, .i32⟩
  | 46 => ⟨S300, .i32⟩
  | 47 => ⟨S300, .i32⟩
  | 48 => ⟨S300, .f32⟩
  | 49 => ⟨S_, .f32⟩
  | 50 => ⟨S300, .f32⟩
  | 51 => ⟨S300, .f32⟩
  | 52 => ⟨S_, .f32⟩
  | 53 => ⟨S300, .f32⟩
  | 54 => ⟨S300, .f32⟩
  | 55 => ⟨S_, .f32⟩
  | 56 => ⟨S300, .f32⟩
  | 57 => ⟨S300, .f32⟩
  | 58 => ⟨S300, .f32⟩
  | 59 => ⟨S300, .i32⟩
  | 60 => ⟨S300, .i32⟩
  | 61 => ⟨S_, .i32⟩
  | 62 => ⟨S_, .i32⟩
  | 63 => ⟨S_, .i32⟩
  | 64 => ⟨S300, .i32⟩
  | 65 => ⟨S300, .i32⟩
  | 66 => ⟨S_, .i32⟩
  | 67 => ⟨S300, .i32⟩
  | 68 => ⟨S300, .i32⟩
  | 69 => ⟨S_, .f32⟩
  | 70 => ⟨S300, .f32⟩
  | 71 => ⟨S300, .f32⟩
  | 72 => ⟨S300, .f32⟩
  | 73 => ⟨S300, .i32⟩
  | 74 => ⟨S300, .i32⟩
  | 75 => ⟨S_, .i32⟩
  | 76 => ⟨S_, .i32⟩
  | 77 => ⟨S_, .i32⟩
  | 78 => ⟨S300, .i32⟩
  | 79 => ⟨S300, .i32⟩
  | 80 => ⟨S_, .i32⟩
  | 81 => ⟨S300, .i32⟩
  | 82 => ⟨S300, .i32⟩
  | 83 => ⟨S_, .f32⟩
  | 84 => ⟨S300, .f32⟩
  | 85 => ⟨S300, .f32⟩
  | 86 => ⟨S300, .f32⟩
  | 87 => ⟨S300, .i32⟩
  | 88 => ⟨S300, .i32⟩
  | 89 => ⟨S_, .i32⟩
  | 90 => ⟨S_, .i32⟩
  | 91 => ⟨S_, .i32⟩
  | 92 => ⟨S300, .i32⟩
  | 93 => ⟨S300, .i32⟩
  | 94 => ⟨S_, .i32⟩
  | 95 => ⟨S300, .i32⟩
  | 96 => ⟨S300, .i32⟩
  | 97 => ⟨S_, .f32⟩
  | 98 => ⟨S300, .f32⟩
  | 99 => ⟨S300, .f32⟩
  | 100 => ⟨S300, .f32⟩
  | 101 => ⟨S300, .i32⟩
  | 102 => ⟨S300, .i32⟩
  | 103 => ⟨S_, .i32⟩
  | 104 => ⟨S_, .i32⟩
  | 105 => ⟨S_, .i32⟩
  | 106 => ⟨S300, .i32⟩
  | 107 => ⟨S300, .i32⟩
  | 108 => ⟨S_, .i32⟩
  | 109 => ⟨S300, .i32⟩
  | 110 => ⟨S300, .i32⟩
  | 111 => ⟨S_, .f32⟩
  | 112 => ⟨S300, .f32⟩
  | 113 => ⟨S300, .f32⟩
  | 114 => ⟨S300, .f32⟩
  | 115 => ⟨S300, .i32⟩
  | 116 => ⟨S300, .i32⟩
  | 117 => ⟨S_, .i32⟩
  | 118 => ⟨S_, .i32⟩
  | 119 => ⟨S_, .i32⟩
  | 120 => ⟨S300, .i32⟩
  | 121 => ⟨S300, .i32⟩
  | 122 => ⟨S_, .i32⟩
  | 123 => ⟨S300, .i32⟩
  | 124 => ⟨S300, .i32⟩
  | 125 => ⟨S_, .f32⟩
  | 126 => ⟨S300, .f32⟩
  | 127 => ⟨S300, .f32⟩
  | _ => ⟨S2x512x50x50, .f32⟩

abbrev hbmTy0_1 (i : Nat) : BufTy := match i % 128 with
  | 0 => ⟨S300, .f32⟩
  | 1 => ⟨S300, .i32⟩
  | 2 => ⟨S300, .i32⟩
  | 3 => ⟨S_, .i32⟩
  | 4 => ⟨S_, .i32⟩
  | 5 => ⟨S_, .i32⟩
  | 6 => ⟨S300, .i32⟩
  | 7 => ⟨S300, .i32⟩
  | 8 => ⟨S_, .i32⟩
  | 9 => ⟨S300, .i32⟩
  | 10 => ⟨S300, .i32⟩
  | 11 => ⟨S_, .f32⟩
  | 12 => ⟨S300, .f32⟩
  | 13 => ⟨S300, .f32⟩
  | 14 => ⟨S300, .f32⟩
  | 15 => ⟨S300, .i32⟩
  | 16 => ⟨S300, .i32⟩
  | 17 => ⟨S_, .i32⟩
  | 18 => ⟨S_, .i32⟩
  | 19 => ⟨S_, .i32⟩
  | 20 => ⟨S300, .i32⟩
  | 21 => ⟨S300, .i32⟩
  | 22 => ⟨S_, .i32⟩
  | 23 => ⟨S300, .i32⟩
  | 24 => ⟨S300, .i32⟩
  | 25 => ⟨S300x1, .i32⟩
  | 26 => ⟨S300x1, .i32⟩
  | 27 => ⟨S300x1, .i32⟩
  | 28 => ⟨S300x1, .i32⟩
  | 29 => ⟨S300x1, .i32⟩
  | 30 => ⟨S300x1, .i32⟩
  | 31 => ⟨S300x1, .i32⟩
  | 32 => ⟨S_, .f32⟩
  | 33 => ⟨S300, .f32⟩
  | 34 => ⟨S300, .f32⟩
  | 35 => ⟨S300, .f32⟩
  | 36 => ⟨S300, .i32⟩
  | 37 => ⟨S300, .i32⟩
  | 38 => ⟨S_, .i32⟩
  | 39 => ⟨S_, .i32⟩
  | 40 => ⟨S_, .i32⟩
  | 41 => ⟨S300, .i32⟩
  | 42 => ⟨S300, .i32⟩
  | 43 => ⟨S_, .i32⟩
  | 44 => ⟨S300, .i32⟩
  | 45 => ⟨S300, .i32⟩
  | 46 => ⟨S_, .f32⟩
  | 47 => ⟨S300, .f32⟩
  | 48 => ⟨S300, .f32⟩
  | 49 => ⟨S300, .f32⟩
  | 50 => ⟨S300, .i32⟩
  | 51 => ⟨S300, .i32⟩
  | 52 => ⟨S_, .i32⟩
  | 53 => ⟨S_, .i32⟩
  | 54 => ⟨S_, .i32⟩
  | 55 => ⟨S300, .i32⟩
  | 56 => ⟨S300, .i32⟩
  | 57 => ⟨S_, .i32⟩
  | 58 => ⟨S300, .i32⟩
  | 59 => ⟨S300, .i32⟩
  | 60 => ⟨S_, .f32⟩
  | 61 => ⟨S300, .f32⟩
  | 62 => ⟨S300, .f32⟩
  | 63 => ⟨S300, .f32⟩
  | 64 => ⟨S300, .i32⟩
  | 65 => ⟨S300, .i32⟩
  | 66 => ⟨S_, .i32⟩
  | 67 => ⟨S_, .i32⟩
  | 68 => ⟨S_, .i32⟩
  | 69 => ⟨S300, .i32⟩
  | 70 => ⟨S300, .i32⟩
  | 71 => ⟨S_, .i32⟩
  | 72 => ⟨S300, .i32⟩
  | 73 => ⟨S300, .i32⟩
  | 74 => ⟨S_, .f32⟩
  | 75 => ⟨S300, .f32⟩
  | 76 => ⟨S300, .f32⟩
  | 77 => ⟨S300, .f32⟩
  | 78 => ⟨S300, .i32⟩
  | 79 => ⟨S300, .i32⟩
  | 80 => ⟨S_, .i32⟩
  | 81 => ⟨S_, .i32⟩
  | 82 => ⟨S_, .i32⟩
  | 83 => ⟨S300, .i32⟩
  | 84 => ⟨S300, .i32⟩
  | 85 => ⟨S_, .i32⟩
  | 86 => ⟨S300, .i32⟩
  | 87 => ⟨S300, .i32⟩
  | 88 => ⟨S_, .f32⟩
  | 89 => ⟨S300, .f32⟩
  | 90 => ⟨S300, .f32⟩
  | 91 => ⟨S300, .f32⟩
  | 92 => ⟨S300, .i32⟩
  | 93 => ⟨S300, .i32⟩
  | 94 => ⟨S_, .i32⟩
  | 95 => ⟨S_, .i32⟩
  | 96 => ⟨S_, .i32⟩
  | 97 => ⟨S300, .i32⟩
  | 98 => ⟨S300, .i32⟩
  | 99 => ⟨S_, .i32⟩
  | 100 => ⟨S300, .i32⟩
  | 101 => ⟨S300, .i32⟩
  | 102 => ⟨S_, .f32⟩
  | 103 => ⟨S300, .f32⟩
  | 104 => ⟨S300, .f32⟩
  | 105 => ⟨S300, .f32⟩
  | 106 => ⟨S300, .i32⟩
  | 107 => ⟨S300, .i32⟩
  | 108 => ⟨S_, .i32⟩
  | 109 => ⟨S_, .i32⟩
  | 110 => ⟨S_, .i32⟩
  | 111 => ⟨S300, .i32⟩
  | 112 => ⟨S300, .i32⟩
  | 113 => ⟨S_, .i32⟩
  | 114 => ⟨S300, .i32⟩
  | 115 => ⟨S300, .i32⟩
  | 116 => ⟨S_, .f32⟩
  | 117 => ⟨S300, .f32⟩
  | 118 => ⟨S300, .f32⟩
  | 119 => ⟨S300, .f32⟩
  | 120 => ⟨S300, .i32⟩
  | 121 => ⟨S300, .i32⟩
  | 122 => ⟨S_, .i32⟩
  | 123 => ⟨S_, .i32⟩
  | 124 => ⟨S_, .i32⟩
  | 125 => ⟨S300, .i32⟩
  | 126 => ⟨S300, .i32⟩
  | 127 => ⟨S_, .i32⟩
  | _ => ⟨S2x512x50x50, .f32⟩

abbrev hbmTy0_2 (i : Nat) : BufTy := match i % 128 with
  | 0 => ⟨S300, .i32⟩
  | 1 => ⟨S300, .i32⟩
  | 2 => ⟨S300x1, .i32⟩
  | 3 => ⟨S300x1, .i32⟩
  | 4 => ⟨S300x1, .i32⟩
  | 5 => ⟨S300x1, .i32⟩
  | 6 => ⟨S300x1, .i32⟩
  | 7 => ⟨S300x1, .i32⟩
  | 8 => ⟨S300x1, .i32⟩
  | 9 => ⟨S_, .f32⟩
  | 10 => ⟨S300, .f32⟩
  | 11 => ⟨S300, .f32⟩
  | 12 => ⟨S300, .f32⟩
  | 13 => ⟨S300, .i32⟩
  | 14 => ⟨S300, .i32⟩
  | 15 => ⟨S_, .i32⟩
  | 16 => ⟨S_, .i32⟩
  | 17 => ⟨S_, .i32⟩
  | 18 => ⟨S300, .i32⟩
  | 19 => ⟨S300, .i32⟩
  | 20 => ⟨S_, .i32⟩
  | 21 => ⟨S300, .i32⟩
  | 22 => ⟨S300, .i32⟩
  | 23 => ⟨S_, .f32⟩
  | 24 => ⟨S300, .f32⟩
  | 25 => ⟨S300, .f32⟩
  | 26 => ⟨S300, .f32⟩
  | 27 => ⟨S300, .i32⟩
  | 28 => ⟨S300, .i32⟩
  | 29 => ⟨S_, .i32⟩
  | 30 => ⟨S_, .i32⟩
  | 31 => ⟨S_, .i32⟩
  | 32 => ⟨S300, .i32⟩
  | 33 => ⟨S300, .i32⟩
  | 34 => ⟨S_, .i32⟩
  | 35 => ⟨S300, .i32⟩
  | 36 => ⟨S300, .i32⟩
  | 37 => ⟨S_, .f32⟩
  | 38 => ⟨S300, .f32⟩
  | 39 => ⟨S300, .f32⟩
  | 40 => ⟨S300, .f32⟩
  | 41 => ⟨S300, .i32⟩
  | 42 => ⟨S300, .i32⟩
  | 43 => ⟨S_, .i32⟩
  | 44 => ⟨S_, .i32⟩
  | 45 => ⟨S_, .i32⟩
  | 46 => ⟨S300, .i32⟩
  | 47 => ⟨S300, .i32⟩
  | 48 => ⟨S_, .i32⟩
  | 49 => ⟨S300, .i32⟩
  | 50 => ⟨S300, .i32⟩
  | 51 => ⟨S_, .f32⟩
  | 52 => ⟨S300, .f32⟩
  | 53 => ⟨S300, .f32⟩
  | 54 => ⟨S300, .f32⟩
  | 55 => ⟨S300, .i32⟩
  | 56 => ⟨S300, .i32⟩
  | 57 => ⟨S_, .i32⟩
  | 58 => ⟨S_, .i32⟩
  | 59 => ⟨S_, .i32⟩
  | 60 => ⟨S300, .i32⟩
  | 61 => ⟨S300, .i32⟩
  | 62 => ⟨S_, .i32⟩
  | 63 => ⟨S300, .i32⟩
  | 64 => ⟨S300, .i32⟩
  | 65 => ⟨S_, .f32⟩
  | 66 => ⟨S300, .f32⟩
  | 67 => ⟨S300, .f32⟩
  | 68 => ⟨S300, .f32⟩
  | 69 => ⟨S300, .i32⟩
  | 70 => ⟨S300, .i32⟩
  | 71 => ⟨S_, .i32⟩
  | 72 => ⟨S_, .i32⟩
  | 73 => ⟨S_, .i32⟩
  | 74 => ⟨S300, .i32⟩
  | 75 => ⟨S300, .i32⟩
  | 76 => ⟨S_, .i32⟩
  | 77 => ⟨S300, .i32⟩
  | 78 => ⟨S300, .i32⟩
  | 79 => ⟨S_, .f32⟩
  | 80 => ⟨S300, .f32⟩
  | 81 => ⟨S300, .f32⟩
  | 82 => ⟨S300, .f32⟩
  | 83 => ⟨S300, .i32⟩
  | 84 => ⟨S300, .i32⟩
  | 85 => ⟨S_, .i32⟩
  | 86 => ⟨S_, .i32⟩
  | 87 => ⟨S_, .i32⟩
  | 88 => ⟨S300, .i32⟩
  | 89 => ⟨S300, .i32⟩
  | 90 => ⟨S_, .i32⟩
  | 91 => ⟨S300, .i32⟩
  | 92 => ⟨S300, .i32⟩
  | 93 => ⟨S_, .f32⟩
  | 94 => ⟨S300, .f32⟩
  | 95 => ⟨S300, .f32⟩
  | 96 => ⟨S300, .f32⟩
  | 97 => ⟨S300, .i32⟩
  | 98 => ⟨S300, .i32⟩
  | 99 => ⟨S_, .i32⟩
  | 100 => ⟨S_, .i32⟩
  | 101 => ⟨S_, .i32⟩
  | 102 => ⟨S300, .i32⟩
  | 103 => ⟨S300, .i32⟩
  | 104 => ⟨S_, .i32⟩
  | 105 => ⟨S300, .i32⟩
  | 106 => ⟨S300, .i32⟩
  | 107 => ⟨S300x1, .i32⟩
  | 108 => ⟨S300x1, .i32⟩
  | 109 => ⟨S300x1, .i32⟩
  | 110 => ⟨S300x1, .i32⟩
  | 111 => ⟨S300x1, .i32⟩
  | 112 => ⟨S300x1, .i32⟩
  | 113 => ⟨S300x1, .i32⟩
  | 114 => ⟨S_, .f32⟩
  | 115 => ⟨S300, .f32⟩
  | 116 => ⟨S300, .f32⟩
  | 117 => ⟨S300, .f32⟩
  | 118 => ⟨S300, .i32⟩
  | 119 => ⟨S300, .i32⟩
  | 120 => ⟨S_, .i32⟩
  | 121 => ⟨S_, .i32⟩
  | 122 => ⟨S_, .i32⟩
  | 123 => ⟨S300, .i32⟩
  | 124 => ⟨S300, .i32⟩
  | 125 => ⟨S_, .i32⟩
  | 126 => ⟨S300, .i32⟩
  | 127 => ⟨S300, .i32⟩
  | _ => ⟨S2x512x50x50, .f32⟩

abbrev hbmTy0_3 (i : Nat) : BufTy := match i % 128 with
  | 0 => ⟨S_, .f32⟩
  | 1 => ⟨S300, .f32⟩
  | 2 => ⟨S300, .f32⟩
  | 3 => ⟨S300, .f32⟩
  | 4 => ⟨S300, .i32⟩
  | 5 => ⟨S300, .i32⟩
  | 6 => ⟨S_, .i32⟩
  | 7 => ⟨S_, .i32⟩
  | 8 => ⟨S_, .i32⟩
  | 9 => ⟨S300, .i32⟩
  | 10 => ⟨S300, .i32⟩
  | 11 => ⟨S_, .i32⟩
  | 12 => ⟨S300, .i32⟩
  | 13 => ⟨S300, .i32⟩
  | 14 => ⟨S_, .f32⟩
  | 15 => ⟨S300, .f32⟩
  | 16 => ⟨S300, .f32⟩
  | 17 => ⟨S300, .f32⟩
  | 18 => ⟨S300, .i32⟩
  | 19 => ⟨S300, .i32⟩
  | 20 => ⟨S_, .i32⟩
  | 21 => ⟨S_, .i32⟩
  | 22 => ⟨S_, .i32⟩
  | 23 => ⟨S300, .i32⟩
  | 24 => ⟨S300, .i32⟩
  | 25 => ⟨S_, .i32⟩
  | 26 => ⟨S300, .i32⟩
  | 27 => ⟨S300, .i32⟩
  | 28 => ⟨S_, .f32⟩
  | 29 => ⟨S300, .f32⟩
  | 30 => ⟨S300, .f32⟩
  | 31 => ⟨S300, .f32⟩
  | 32 => ⟨S300, .i32⟩
  | 33 => ⟨S300, .i32⟩
  | 34 => ⟨S_, .i32⟩
  | 35 => ⟨S_, .i32⟩
  | 36 => ⟨S_, .i32⟩
  | 37 => ⟨S300, .i32⟩
  | 38 => ⟨S300, .i32⟩
  | 39 => ⟨S_, .i32⟩
  | 40 => ⟨S300, .i32⟩
  | 41 => ⟨S300, .i32⟩
  | 42 => ⟨S_, .f32⟩
  | 43 => ⟨S300, .f32⟩
  | 44 => ⟨S300, .f32⟩
  | 45 => ⟨S300, .f32⟩
  | 46 => ⟨S300, .i32⟩
  | 47 => ⟨S300, .i32⟩
  | 48 => ⟨S_, .i32⟩
  | 49 => ⟨S_, .i32⟩
  | 50 => ⟨S_, .i32⟩
  | 51 => ⟨S300, .i32⟩
  | 52 => ⟨S300, .i32⟩
  | 53 => ⟨S_, .i32⟩
  | 54 => ⟨S300, .i32⟩
  | 55 => ⟨S300, .i32⟩
  | 56 => ⟨S_, .f32⟩
  | 57 => ⟨S300, .f32⟩
  | 58 => ⟨S300, .f32⟩
  | 59 => ⟨S300, .f32⟩
  | 60 => ⟨S300, .i32⟩
  | 61 => ⟨S300, .i32⟩
  | 62 => ⟨S_, .i32⟩
  | 63 => ⟨S_, .i32⟩
  | 64 => ⟨S_, .i32⟩
  | 65 => ⟨S300, .i32⟩
  | 66 => ⟨S300, .i32⟩
  | 67 => ⟨S_, .i32⟩
  | 68 => ⟨S300, .i32⟩
  | 69 => ⟨S300, .i32⟩
  | 70 => ⟨S_, .f32⟩
  | 71 => ⟨S300, .f32⟩
  | 72 => ⟨S300, .f32⟩
  | 73 => ⟨S300, .f32⟩
  | 74 => ⟨S300, .i32⟩
  | 75 => ⟨S300, .i32⟩
  | 76 => ⟨S_, .i32⟩
  | 77 => ⟨S_, .i32⟩
  | 78 => ⟨S_, .i32⟩
  | 79 => ⟨S300, .i32⟩
  | 80 => ⟨S300, .i32⟩
  | 81 => ⟨S_, .i32⟩
  | 82 => ⟨S300, .i32⟩
  | 83 => ⟨S300, .i32⟩
  | 84 => ⟨S300x1, .i32⟩
  | 85 => ⟨S300x1, .i32⟩
  | 86 => ⟨S300x1, .i32⟩
  | 87 => ⟨S300x1, .i32⟩
  | 88 => ⟨S300x1, .i32⟩
  | 89 => ⟨S300x1, .i32⟩
  | 90 => ⟨S300x1, .i32⟩
  | 91 => ⟨S300x49x512, .f32⟩
  | 92 => ⟨S300x512x49, .f32⟩
  | 93 => ⟨S300x512x7x7, .f32⟩
  | _ => ⟨S2x512x50x50, .f32⟩

abbrev hbmTy (i : Nat) : BufTy := match i / 128 with
  | 0 => hbmTy0_0 i
  | 1 => hbmTy0_1 i
  | 2 => hbmTy0_2 i
  | 3 => hbmTy0_3 i
  | _ => ⟨S2x512x50x50, .f32⟩

abbrev bufTy : (tb : Table) → Fin (tcTables nBuf tb) → BufTy
  | .hbm, ⟨i, _⟩ => hbmTy i
  | .local _ .vmem, ⟨0, _⟩ => ⟨S2x50x50x512, .f32⟩
  | .local _ .vmem, ⟨1, _⟩ => ⟨S1x49x512, .f32⟩
  | .local _ .vmem, ⟨2, _⟩ => ⟨S1x49x512, .f32⟩
  | .local _ .smem, ⟨0, _⟩ => ⟨S300, .i32⟩
  | .local _ .smem, ⟨1, _⟩ => ⟨S300x7, .i32⟩
  | .local _ .smem, ⟨2, _⟩ => ⟨S300x7, .i32⟩
  | .local _ .smem, ⟨3, _⟩ => ⟨S300x7, .i32⟩
  | .local _ .smem, ⟨4, _⟩ => ⟨S300x7, .i32⟩
  | _, _ => ⟨S2x512x50x50, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v4 : Ref sig .tc := ⟨.hbm, 5, rfl⟩
abbrev main_v5 : Ref sig .tc := ⟨.hbm, 6, rfl⟩
abbrev main_cst : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst_0 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_cst_1 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_cst_2 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_c : Ref sig .tc := ⟨.hbm, 34, rfl⟩
abbrev main_v29 : Ref sig .tc := ⟨.hbm, 35, rfl⟩
abbrev main_v30 : Ref sig .tc := ⟨.hbm, 36, rfl⟩
abbrev main_c_3 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_c_4 : Ref sig .tc := ⟨.hbm, 42, rfl⟩
abbrev main_v35 : Ref sig .tc := ⟨.hbm, 43, rfl⟩
abbrev main_v36 : Ref sig .tc := ⟨.hbm, 44, rfl⟩
abbrev main_c_5 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_cst_6 : Ref sig .tc := ⟨.hbm, 49, rfl⟩
abbrev main_v40 : Ref sig .tc := ⟨.hbm, 50, rfl⟩
abbrev main_v41 : Ref sig .tc := ⟨.hbm, 51, rfl⟩
abbrev main_cst_7 : Ref sig .tc := ⟨.hbm, 52, rfl⟩
abbrev main_v42 : Ref sig .tc := ⟨.hbm, 53, rfl⟩
abbrev main_v43 : Ref sig .tc := ⟨.hbm, 54, rfl⟩
abbrev main_cst_8 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_c_9 : Ref sig .tc := ⟨.hbm, 61, rfl⟩
abbrev main_c_10 : Ref sig .tc := ⟨.hbm, 62, rfl⟩
abbrev main_call4_v0 : Ref sig .tc := ⟨.hbm, 63, rfl⟩
abbrev main_call4_v1 : Ref sig .tc := ⟨.hbm, 64, rfl⟩
abbrev main_call4_v2 : Ref sig .tc := ⟨.hbm, 65, rfl⟩
abbrev main_call4_v3 : Ref sig .tc := ⟨.hbm, 66, rfl⟩
abbrev main_call4_v4 : Ref sig .tc := ⟨.hbm, 67, rfl⟩
abbrev main_v49 : Ref sig .tc := ⟨.hbm, 68, rfl⟩
abbrev main_cst_11 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_c_12 : Ref sig .tc := ⟨.hbm, 75, rfl⟩
abbrev main_c_13 : Ref sig .tc := ⟨.hbm, 76, rfl⟩
abbrev main_call5_v0 : Ref sig .tc := ⟨.hbm, 77, rfl⟩
abbrev main_call5_v1 : Ref sig .tc := ⟨.hbm, 78, rfl⟩
abbrev main_call5_v2 : Ref sig .tc := ⟨.hbm, 79, rfl⟩
abbrev main_call5_v3 : Ref sig .tc := ⟨.hbm, 80, rfl⟩
abbrev main_call5_v4 : Ref sig .tc := ⟨.hbm, 81, rfl⟩
abbrev main_v55 : Ref sig .tc := ⟨.hbm, 82, rfl⟩
abbrev main_cst_14 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_c_15 : Ref sig .tc := ⟨.hbm, 89, rfl⟩
abbrev main_c_16 : Ref sig .tc := ⟨.hbm, 90, rfl⟩
abbrev main_call6_v0 : Ref sig .tc := ⟨.hbm, 91, rfl⟩
abbrev main_call6_v1 : Ref sig .tc := ⟨.hbm, 92, rfl⟩
abbrev main_call6_v2 : Ref sig .tc := ⟨.hbm, 93, rfl⟩
abbrev main_call6_v3 : Ref sig .tc := ⟨.hbm, 94, rfl⟩
abbrev main_call6_v4 : Ref sig .tc := ⟨.hbm, 95, rfl⟩
abbrev main_v61 : Ref sig .tc := ⟨.hbm, 96, rfl⟩
abbrev main_cst_17 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_c_18 : Ref sig .tc := ⟨.hbm, 103, rfl⟩
abbrev main_c_19 : Ref sig .tc := ⟨.hbm, 104, rfl⟩
abbrev main_call7_v0 : Ref sig .tc := ⟨.hbm, 105, rfl⟩
abbrev main_call7_v1 : Ref sig .tc := ⟨.hbm, 106, rfl⟩
abbrev main_call7_v2 : Ref sig .tc := ⟨.hbm, 107, rfl⟩
abbrev main_call7_v3 : Ref sig .tc := ⟨.hbm, 108, rfl⟩
abbrev main_call7_v4 : Ref sig .tc := ⟨.hbm, 109, rfl⟩
abbrev main_v67 : Ref sig .tc := ⟨.hbm, 110, rfl⟩
abbrev main_cst_20 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_c_21 : Ref sig .tc := ⟨.hbm, 117, rfl⟩
abbrev main_c_22 : Ref sig .tc := ⟨.hbm, 118, rfl⟩
abbrev main_call8_v0 : Ref sig .tc := ⟨.hbm, 119, rfl⟩
abbrev main_call8_v1 : Ref sig .tc := ⟨.hbm, 120, rfl⟩
abbrev main_call8_v2 : Ref sig .tc := ⟨.hbm, 121, rfl⟩
abbrev main_call8_v3 : Ref sig .tc := ⟨.hbm, 122, rfl⟩
abbrev main_call8_v4 : Ref sig .tc := ⟨.hbm, 123, rfl⟩
abbrev main_v73 : Ref sig .tc := ⟨.hbm, 124, rfl⟩
abbrev main_cst_23 : Ref sig .tc := ⟨.hbm, 125, rfl⟩
abbrev main_v74 : Ref sig .tc := ⟨.hbm, 126, rfl⟩
abbrev main_v75 : Ref sig .tc := ⟨.hbm, 127, rfl⟩
abbrev main_v76 : Ref sig .tc := ⟨.hbm, 128, rfl⟩
abbrev main_v77 : Ref sig .tc := ⟨.hbm, 129, rfl⟩
abbrev main_v78 : Ref sig .tc := ⟨.hbm, 130, rfl⟩
abbrev main_c_24 : Ref sig .tc := ⟨.hbm, 131, rfl⟩
abbrev main_c_25 : Ref sig .tc := ⟨.hbm, 132, rfl⟩
abbrev main_call9_v0 : Ref sig .tc := ⟨.hbm, 133, rfl⟩
abbrev main_call9_v1 : Ref sig .tc := ⟨.hbm, 134, rfl⟩
abbrev main_call9_v2 : Ref sig .tc := ⟨.hbm, 135, rfl⟩
abbrev main_call9_v3 : Ref sig .tc := ⟨.hbm, 136, rfl⟩
abbrev main_call9_v4 : Ref sig .tc := ⟨.hbm, 137, rfl⟩
abbrev main_v79 : Ref sig .tc := ⟨.hbm, 138, rfl⟩
abbrev main_cst_26 : Ref sig .tc := ⟨.hbm, 139, rfl⟩
abbrev main_v80 : Ref sig .tc := ⟨.hbm, 140, rfl⟩
abbrev main_v81 : Ref sig .tc := ⟨.hbm, 141, rfl⟩
abbrev main_v82 : Ref sig .tc := ⟨.hbm, 142, rfl⟩
abbrev main_v83 : Ref sig .tc := ⟨.hbm, 143, rfl⟩
abbrev main_v84 : Ref sig .tc := ⟨.hbm, 144, rfl⟩
abbrev main_c_27 : Ref sig .tc := ⟨.hbm, 145, rfl⟩
abbrev main_c_28 : Ref sig .tc := ⟨.hbm, 146, rfl⟩
abbrev main_call10_v0 : Ref sig .tc := ⟨.hbm, 147, rfl⟩
abbrev main_call10_v1 : Ref sig .tc := ⟨.hbm, 148, rfl⟩
abbrev main_call10_v2 : Ref sig .tc := ⟨.hbm, 149, rfl⟩
abbrev main_call10_v3 : Ref sig .tc := ⟨.hbm, 150, rfl⟩
abbrev main_call10_v4 : Ref sig .tc := ⟨.hbm, 151, rfl⟩
abbrev main_v85 : Ref sig .tc := ⟨.hbm, 152, rfl⟩
abbrev main_v86 : Ref sig .tc := ⟨.hbm, 153, rfl⟩
abbrev main_v87 : Ref sig .tc := ⟨.hbm, 154, rfl⟩
abbrev main_v88 : Ref sig .tc := ⟨.hbm, 155, rfl⟩
abbrev main_v89 : Ref sig .tc := ⟨.hbm, 156, rfl⟩
abbrev main_v90 : Ref sig .tc := ⟨.hbm, 157, rfl⟩
abbrev main_v91 : Ref sig .tc := ⟨.hbm, 158, rfl⟩
abbrev main_v92 : Ref sig .tc := ⟨.hbm, 159, rfl⟩
abbrev main_cst_29 : Ref sig .tc := ⟨.hbm, 160, rfl⟩
abbrev main_v94 : Ref sig .tc := ⟨.hbm, 161, rfl⟩
abbrev main_v95 : Ref sig .tc := ⟨.hbm, 162, rfl⟩
abbrev main_v96 : Ref sig .tc := ⟨.hbm, 163, rfl⟩
abbrev main_v97 : Ref sig .tc := ⟨.hbm, 164, rfl⟩
abbrev main_v98 : Ref sig .tc := ⟨.hbm, 165, rfl⟩
abbrev main_c_30 : Ref sig .tc := ⟨.hbm, 166, rfl⟩
abbrev main_c_31 : Ref sig .tc := ⟨.hbm, 167, rfl⟩
abbrev main_call11_v0 : Ref sig .tc := ⟨.hbm, 168, rfl⟩
abbrev main_call11_v1 : Ref sig .tc := ⟨.hbm, 169, rfl⟩
abbrev main_call11_v2 : Ref sig .tc := ⟨.hbm, 170, rfl⟩
abbrev main_call11_v3 : Ref sig .tc := ⟨.hbm, 171, rfl⟩
abbrev main_call11_v4 : Ref sig .tc := ⟨.hbm, 172, rfl⟩
abbrev main_v99 : Ref sig .tc := ⟨.hbm, 173, rfl⟩
abbrev main_cst_32 : Ref sig .tc := ⟨.hbm, 174, rfl⟩
abbrev main_v100 : Ref sig .tc := ⟨.hbm, 175, rfl⟩
abbrev main_v101 : Ref sig .tc := ⟨.hbm, 176, rfl⟩
abbrev main_v102 : Ref sig .tc := ⟨.hbm, 177, rfl⟩
abbrev main_v103 : Ref sig .tc := ⟨.hbm, 178, rfl⟩
abbrev main_v104 : Ref sig .tc := ⟨.hbm, 179, rfl⟩
abbrev main_c_33 : Ref sig .tc := ⟨.hbm, 180, rfl⟩
abbrev main_c_34 : Ref sig .tc := ⟨.hbm, 181, rfl⟩
abbrev main_call12_v0 : Ref sig .tc := ⟨.hbm, 182, rfl⟩
abbrev main_call12_v1 : Ref sig .tc := ⟨.hbm, 183, rfl⟩
abbrev main_call12_v2 : Ref sig .tc := ⟨.hbm, 184, rfl⟩
abbrev main_call12_v3 : Ref sig .tc := ⟨.hbm, 185, rfl⟩
abbrev main_call12_v4 : Ref sig .tc := ⟨.hbm, 186, rfl⟩
abbrev main_v105 : Ref sig .tc := ⟨.hbm, 187, rfl⟩
abbrev main_cst_35 : Ref sig .tc := ⟨.hbm, 188, rfl⟩
abbrev main_v106 : Ref sig .tc := ⟨.hbm, 189, rfl⟩
abbrev main_v107 : Ref sig .tc := ⟨.hbm, 190, rfl⟩
abbrev main_v108 : Ref sig .tc := ⟨.hbm, 191, rfl⟩
abbrev main_v109 : Ref sig .tc := ⟨.hbm, 192, rfl⟩
abbrev main_v110 : Ref sig .tc := ⟨.hbm, 193, rfl⟩
abbrev main_c_36 : Ref sig .tc := ⟨.hbm, 194, rfl⟩
abbrev main_c_37 : Ref sig .tc := ⟨.hbm, 195, rfl⟩
abbrev main_call13_v0 : Ref sig .tc := ⟨.hbm, 196, rfl⟩
abbrev main_call13_v1 : Ref sig .tc := ⟨.hbm, 197, rfl⟩
abbrev main_call13_v2 : Ref sig .tc := ⟨.hbm, 198, rfl⟩
abbrev main_call13_v3 : Ref sig .tc := ⟨.hbm, 199, rfl⟩
abbrev main_call13_v4 : Ref sig .tc := ⟨.hbm, 200, rfl⟩
abbrev main_v111 : Ref sig .tc := ⟨.hbm, 201, rfl⟩
abbrev main_cst_38 : Ref sig .tc := ⟨.hbm, 202, rfl⟩
abbrev main_v112 : Ref sig .tc := ⟨.hbm, 203, rfl⟩
abbrev main_v113 : Ref sig .tc := ⟨.hbm, 204, rfl⟩
abbrev main_v114 : Ref sig .tc := ⟨.hbm, 205, rfl⟩
abbrev main_v115 : Ref sig .tc := ⟨.hbm, 206, rfl⟩
abbrev main_v116 : Ref sig .tc := ⟨.hbm, 207, rfl⟩
abbrev main_c_39 : Ref sig .tc := ⟨.hbm, 208, rfl⟩
abbrev main_c_40 : Ref sig .tc := ⟨.hbm, 209, rfl⟩
abbrev main_call14_v0 : Ref sig .tc := ⟨.hbm, 210, rfl⟩
abbrev main_call14_v1 : Ref sig .tc := ⟨.hbm, 211, rfl⟩
abbrev main_call14_v2 : Ref sig .tc := ⟨.hbm, 212, rfl⟩
abbrev main_call14_v3 : Ref sig .tc := ⟨.hbm, 213, rfl⟩
abbrev main_call14_v4 : Ref sig .tc := ⟨.hbm, 214, rfl⟩
abbrev main_v117 : Ref sig .tc := ⟨.hbm, 215, rfl⟩
abbrev main_cst_41 : Ref sig .tc := ⟨.hbm, 216, rfl⟩
abbrev main_v118 : Ref sig .tc := ⟨.hbm, 217, rfl⟩
abbrev main_v119 : Ref sig .tc := ⟨.hbm, 218, rfl⟩
abbrev main_v120 : Ref sig .tc := ⟨.hbm, 219, rfl⟩
abbrev main_v121 : Ref sig .tc := ⟨.hbm, 220, rfl⟩
abbrev main_v122 : Ref sig .tc := ⟨.hbm, 221, rfl⟩
abbrev main_c_42 : Ref sig .tc := ⟨.hbm, 222, rfl⟩
abbrev main_c_43 : Ref sig .tc := ⟨.hbm, 223, rfl⟩
abbrev main_call15_v0 : Ref sig .tc := ⟨.hbm, 224, rfl⟩
abbrev main_call15_v1 : Ref sig .tc := ⟨.hbm, 225, rfl⟩
abbrev main_call15_v2 : Ref sig .tc := ⟨.hbm, 226, rfl⟩
abbrev main_call15_v3 : Ref sig .tc := ⟨.hbm, 227, rfl⟩
abbrev main_call15_v4 : Ref sig .tc := ⟨.hbm, 228, rfl⟩
abbrev main_v123 : Ref sig .tc := ⟨.hbm, 229, rfl⟩
abbrev main_cst_44 : Ref sig .tc := ⟨.hbm, 230, rfl⟩
abbrev main_v124 : Ref sig .tc := ⟨.hbm, 231, rfl⟩
abbrev main_v125 : Ref sig .tc := ⟨.hbm, 232, rfl⟩
abbrev main_v126 : Ref sig .tc := ⟨.hbm, 233, rfl⟩
abbrev main_v127 : Ref sig .tc := ⟨.hbm, 234, rfl⟩
abbrev main_v128 : Ref sig .tc := ⟨.hbm, 235, rfl⟩
abbrev main_c_45 : Ref sig .tc := ⟨.hbm, 236, rfl⟩
abbrev main_c_46 : Ref sig .tc := ⟨.hbm, 237, rfl⟩
abbrev main_call16_v0 : Ref sig .tc := ⟨.hbm, 238, rfl⟩
abbrev main_call16_v1 : Ref sig .tc := ⟨.hbm, 239, rfl⟩
abbrev main_call16_v2 : Ref sig .tc := ⟨.hbm, 240, rfl⟩
abbrev main_call16_v3 : Ref sig .tc := ⟨.hbm, 241, rfl⟩
abbrev main_call16_v4 : Ref sig .tc := ⟨.hbm, 242, rfl⟩
abbrev main_v129 : Ref sig .tc := ⟨.hbm, 243, rfl⟩
abbrev main_cst_47 : Ref sig .tc := ⟨.hbm, 244, rfl⟩
abbrev main_v130 : Ref sig .tc := ⟨.hbm, 245, rfl⟩
abbrev main_v131 : Ref sig .tc := ⟨.hbm, 246, rfl⟩
abbrev main_v132 : Ref sig .tc := ⟨.hbm, 247, rfl⟩
abbrev main_v133 : Ref sig .tc := ⟨.hbm, 248, rfl⟩
abbrev main_v134 : Ref sig .tc := ⟨.hbm, 249, rfl⟩
abbrev main_c_48 : Ref sig .tc := ⟨.hbm, 250, rfl⟩
abbrev main_c_49 : Ref sig .tc := ⟨.hbm, 251, rfl⟩
abbrev main_call17_v0 : Ref sig .tc := ⟨.hbm, 252, rfl⟩
abbrev main_call17_v1 : Ref sig .tc := ⟨.hbm, 253, rfl⟩
abbrev main_call17_v2 : Ref sig .tc := ⟨.hbm, 254, rfl⟩
abbrev main_call17_v3 : Ref sig .tc := ⟨.hbm, 255, rfl⟩
abbrev main_call17_v4 : Ref sig .tc := ⟨.hbm, 256, rfl⟩
abbrev main_v135 : Ref sig .tc := ⟨.hbm, 257, rfl⟩
abbrev main_v136 : Ref sig .tc := ⟨.hbm, 258, rfl⟩
abbrev main_v137 : Ref sig .tc := ⟨.hbm, 259, rfl⟩
abbrev main_v138 : Ref sig .tc := ⟨.hbm, 260, rfl⟩
abbrev main_v139 : Ref sig .tc := ⟨.hbm, 261, rfl⟩
abbrev main_v140 : Ref sig .tc := ⟨.hbm, 262, rfl⟩
abbrev main_v141 : Ref sig .tc := ⟨.hbm, 263, rfl⟩
abbrev main_v142 : Ref sig .tc := ⟨.hbm, 264, rfl⟩
abbrev main_cst_50 : Ref sig .tc := ⟨.hbm, 265, rfl⟩
abbrev main_v144 : Ref sig .tc := ⟨.hbm, 266, rfl⟩
abbrev main_v145 : Ref sig .tc := ⟨.hbm, 267, rfl⟩
abbrev main_v146 : Ref sig .tc := ⟨.hbm, 268, rfl⟩
abbrev main_v147 : Ref sig .tc := ⟨.hbm, 269, rfl⟩
abbrev main_v148 : Ref sig .tc := ⟨.hbm, 270, rfl⟩
abbrev main_c_51 : Ref sig .tc := ⟨.hbm, 271, rfl⟩
abbrev main_c_52 : Ref sig .tc := ⟨.hbm, 272, rfl⟩
abbrev main_call18_v0 : Ref sig .tc := ⟨.hbm, 273, rfl⟩
abbrev main_call18_v1 : Ref sig .tc := ⟨.hbm, 274, rfl⟩
abbrev main_call18_v2 : Ref sig .tc := ⟨.hbm, 275, rfl⟩
abbrev main_call18_v3 : Ref sig .tc := ⟨.hbm, 276, rfl⟩
abbrev main_call18_v4 : Ref sig .tc := ⟨.hbm, 277, rfl⟩
abbrev main_v149 : Ref sig .tc := ⟨.hbm, 278, rfl⟩
abbrev main_cst_53 : Ref sig .tc := ⟨.hbm, 279, rfl⟩
abbrev main_v150 : Ref sig .tc := ⟨.hbm, 280, rfl⟩
abbrev main_v151 : Ref sig .tc := ⟨.hbm, 281, rfl⟩
abbrev main_v152 : Ref sig .tc := ⟨.hbm, 282, rfl⟩
abbrev main_v153 : Ref sig .tc := ⟨.hbm, 283, rfl⟩
abbrev main_v154 : Ref sig .tc := ⟨.hbm, 284, rfl⟩
abbrev main_c_54 : Ref sig .tc := ⟨.hbm, 285, rfl⟩
abbrev main_c_55 : Ref sig .tc := ⟨.hbm, 286, rfl⟩
abbrev main_call19_v0 : Ref sig .tc := ⟨.hbm, 287, rfl⟩
abbrev main_call19_v1 : Ref sig .tc := ⟨.hbm, 288, rfl⟩
abbrev main_call19_v2 : Ref sig .tc := ⟨.hbm, 289, rfl⟩
abbrev main_call19_v3 : Ref sig .tc := ⟨.hbm, 290, rfl⟩
abbrev main_call19_v4 : Ref sig .tc := ⟨.hbm, 291, rfl⟩
abbrev main_v155 : Ref sig .tc := ⟨.hbm, 292, rfl⟩
abbrev main_cst_56 : Ref sig .tc := ⟨.hbm, 293, rfl⟩
abbrev main_v156 : Ref sig .tc := ⟨.hbm, 294, rfl⟩
abbrev main_v157 : Ref sig .tc := ⟨.hbm, 295, rfl⟩
abbrev main_v158 : Ref sig .tc := ⟨.hbm, 296, rfl⟩
abbrev main_v159 : Ref sig .tc := ⟨.hbm, 297, rfl⟩
abbrev main_v160 : Ref sig .tc := ⟨.hbm, 298, rfl⟩
abbrev main_c_57 : Ref sig .tc := ⟨.hbm, 299, rfl⟩
abbrev main_c_58 : Ref sig .tc := ⟨.hbm, 300, rfl⟩
abbrev main_call20_v0 : Ref sig .tc := ⟨.hbm, 301, rfl⟩
abbrev main_call20_v1 : Ref sig .tc := ⟨.hbm, 302, rfl⟩
abbrev main_call20_v2 : Ref sig .tc := ⟨.hbm, 303, rfl⟩
abbrev main_call20_v3 : Ref sig .tc := ⟨.hbm, 304, rfl⟩
abbrev main_call20_v4 : Ref sig .tc := ⟨.hbm, 305, rfl⟩
abbrev main_v161 : Ref sig .tc := ⟨.hbm, 306, rfl⟩
abbrev main_cst_59 : Ref sig .tc := ⟨.hbm, 307, rfl⟩
abbrev main_v162 : Ref sig .tc := ⟨.hbm, 308, rfl⟩
abbrev main_v163 : Ref sig .tc := ⟨.hbm, 309, rfl⟩
abbrev main_v164 : Ref sig .tc := ⟨.hbm, 310, rfl⟩
abbrev main_v165 : Ref sig .tc := ⟨.hbm, 311, rfl⟩
abbrev main_v166 : Ref sig .tc := ⟨.hbm, 312, rfl⟩
abbrev main_c_60 : Ref sig .tc := ⟨.hbm, 313, rfl⟩
abbrev main_c_61 : Ref sig .tc := ⟨.hbm, 314, rfl⟩
abbrev main_call21_v0 : Ref sig .tc := ⟨.hbm, 315, rfl⟩
abbrev main_call21_v1 : Ref sig .tc := ⟨.hbm, 316, rfl⟩
abbrev main_call21_v2 : Ref sig .tc := ⟨.hbm, 317, rfl⟩
abbrev main_call21_v3 : Ref sig .tc := ⟨.hbm, 318, rfl⟩
abbrev main_call21_v4 : Ref sig .tc := ⟨.hbm, 319, rfl⟩
abbrev main_v167 : Ref sig .tc := ⟨.hbm, 320, rfl⟩
abbrev main_cst_62 : Ref sig .tc := ⟨.hbm, 321, rfl⟩
abbrev main_v168 : Ref sig .tc := ⟨.hbm, 322, rfl⟩
abbrev main_v169 : Ref sig .tc := ⟨.hbm, 323, rfl⟩
abbrev main_v170 : Ref sig .tc := ⟨.hbm, 324, rfl⟩
abbrev main_v171 : Ref sig .tc := ⟨.hbm, 325, rfl⟩
abbrev main_v172 : Ref sig .tc := ⟨.hbm, 326, rfl⟩
abbrev main_c_63 : Ref sig .tc := ⟨.hbm, 327, rfl⟩
abbrev main_c_64 : Ref sig .tc := ⟨.hbm, 328, rfl⟩
abbrev main_call22_v0 : Ref sig .tc := ⟨.hbm, 329, rfl⟩
abbrev main_call22_v1 : Ref sig .tc := ⟨.hbm, 330, rfl⟩
abbrev main_call22_v2 : Ref sig .tc := ⟨.hbm, 331, rfl⟩
abbrev main_call22_v3 : Ref sig .tc := ⟨.hbm, 332, rfl⟩
abbrev main_call22_v4 : Ref sig .tc := ⟨.hbm, 333, rfl⟩
abbrev main_v173 : Ref sig .tc := ⟨.hbm, 334, rfl⟩
abbrev main_cst_65 : Ref sig .tc := ⟨.hbm, 335, rfl⟩
abbrev main_v174 : Ref sig .tc := ⟨.hbm, 336, rfl⟩
abbrev main_v175 : Ref sig .tc := ⟨.hbm, 337, rfl⟩
abbrev main_v176 : Ref sig .tc := ⟨.hbm, 338, rfl⟩
abbrev main_v177 : Ref sig .tc := ⟨.hbm, 339, rfl⟩
abbrev main_v178 : Ref sig .tc := ⟨.hbm, 340, rfl⟩
abbrev main_c_66 : Ref sig .tc := ⟨.hbm, 341, rfl⟩
abbrev main_c_67 : Ref sig .tc := ⟨.hbm, 342, rfl⟩
abbrev main_call23_v0 : Ref sig .tc := ⟨.hbm, 343, rfl⟩
abbrev main_call23_v1 : Ref sig .tc := ⟨.hbm, 344, rfl⟩
abbrev main_call23_v2 : Ref sig .tc := ⟨.hbm, 345, rfl⟩
abbrev main_call23_v3 : Ref sig .tc := ⟨.hbm, 346, rfl⟩
abbrev main_call23_v4 : Ref sig .tc := ⟨.hbm, 347, rfl⟩
abbrev main_v179 : Ref sig .tc := ⟨.hbm, 348, rfl⟩
abbrev main_cst_68 : Ref sig .tc := ⟨.hbm, 349, rfl⟩
abbrev main_v180 : Ref sig .tc := ⟨.hbm, 350, rfl⟩
abbrev main_v181 : Ref sig .tc := ⟨.hbm, 351, rfl⟩
abbrev main_v182 : Ref sig .tc := ⟨.hbm, 352, rfl⟩
abbrev main_v183 : Ref sig .tc := ⟨.hbm, 353, rfl⟩
abbrev main_v184 : Ref sig .tc := ⟨.hbm, 354, rfl⟩
abbrev main_c_69 : Ref sig .tc := ⟨.hbm, 355, rfl⟩
abbrev main_c_70 : Ref sig .tc := ⟨.hbm, 356, rfl⟩
abbrev main_call24_v0 : Ref sig .tc := ⟨.hbm, 357, rfl⟩
abbrev main_call24_v1 : Ref sig .tc := ⟨.hbm, 358, rfl⟩
abbrev main_call24_v2 : Ref sig .tc := ⟨.hbm, 359, rfl⟩
abbrev main_call24_v3 : Ref sig .tc := ⟨.hbm, 360, rfl⟩
abbrev main_call24_v4 : Ref sig .tc := ⟨.hbm, 361, rfl⟩
abbrev main_v185 : Ref sig .tc := ⟨.hbm, 362, rfl⟩
abbrev main_v186 : Ref sig .tc := ⟨.hbm, 363, rfl⟩
abbrev main_v187 : Ref sig .tc := ⟨.hbm, 364, rfl⟩
abbrev main_v188 : Ref sig .tc := ⟨.hbm, 365, rfl⟩
abbrev main_v189 : Ref sig .tc := ⟨.hbm, 366, rfl⟩
abbrev main_v190 : Ref sig .tc := ⟨.hbm, 367, rfl⟩
abbrev main_v191 : Ref sig .tc := ⟨.hbm, 368, rfl⟩
abbrev main_v192 : Ref sig .tc := ⟨.hbm, 369, rfl⟩
abbrev main_cst_71 : Ref sig .tc := ⟨.hbm, 370, rfl⟩
abbrev main_v194 : Ref sig .tc := ⟨.hbm, 371, rfl⟩
abbrev main_v195 : Ref sig .tc := ⟨.hbm, 372, rfl⟩
abbrev main_v196 : Ref sig .tc := ⟨.hbm, 373, rfl⟩
abbrev main_v197 : Ref sig .tc := ⟨.hbm, 374, rfl⟩
abbrev main_v198 : Ref sig .tc := ⟨.hbm, 375, rfl⟩
abbrev main_c_72 : Ref sig .tc := ⟨.hbm, 376, rfl⟩
abbrev main_c_73 : Ref sig .tc := ⟨.hbm, 377, rfl⟩
abbrev main_call25_v0 : Ref sig .tc := ⟨.hbm, 378, rfl⟩
abbrev main_call25_v1 : Ref sig .tc := ⟨.hbm, 379, rfl⟩
abbrev main_call25_v2 : Ref sig .tc := ⟨.hbm, 380, rfl⟩
abbrev main_call25_v3 : Ref sig .tc := ⟨.hbm, 381, rfl⟩
abbrev main_call25_v4 : Ref sig .tc := ⟨.hbm, 382, rfl⟩
abbrev main_v199 : Ref sig .tc := ⟨.hbm, 383, rfl⟩
abbrev main_cst_74 : Ref sig .tc := ⟨.hbm, 384, rfl⟩
abbrev main_v200 : Ref sig .tc := ⟨.hbm, 385, rfl⟩
abbrev main_v201 : Ref sig .tc := ⟨.hbm, 386, rfl⟩
abbrev main_v202 : Ref sig .tc := ⟨.hbm, 387, rfl⟩
abbrev main_v203 : Ref sig .tc := ⟨.hbm, 388, rfl⟩
abbrev main_v204 : Ref sig .tc := ⟨.hbm, 389, rfl⟩
abbrev main_c_75 : Ref sig .tc := ⟨.hbm, 390, rfl⟩
abbrev main_c_76 : Ref sig .tc := ⟨.hbm, 391, rfl⟩
abbrev main_call26_v0 : Ref sig .tc := ⟨.hbm, 392, rfl⟩
abbrev main_call26_v1 : Ref sig .tc := ⟨.hbm, 393, rfl⟩
abbrev main_call26_v2 : Ref sig .tc := ⟨.hbm, 394, rfl⟩
abbrev main_call26_v3 : Ref sig .tc := ⟨.hbm, 395, rfl⟩
abbrev main_call26_v4 : Ref sig .tc := ⟨.hbm, 396, rfl⟩
abbrev main_v205 : Ref sig .tc := ⟨.hbm, 397, rfl⟩
abbrev main_cst_77 : Ref sig .tc := ⟨.hbm, 398, rfl⟩
abbrev main_v206 : Ref sig .tc := ⟨.hbm, 399, rfl⟩
abbrev main_v207 : Ref sig .tc := ⟨.hbm, 400, rfl⟩
abbrev main_v208 : Ref sig .tc := ⟨.hbm, 401, rfl⟩
abbrev main_v209 : Ref sig .tc := ⟨.hbm, 402, rfl⟩
abbrev main_v210 : Ref sig .tc := ⟨.hbm, 403, rfl⟩
abbrev main_c_78 : Ref sig .tc := ⟨.hbm, 404, rfl⟩
abbrev main_c_79 : Ref sig .tc := ⟨.hbm, 405, rfl⟩
abbrev main_call27_v0 : Ref sig .tc := ⟨.hbm, 406, rfl⟩
abbrev main_call27_v1 : Ref sig .tc := ⟨.hbm, 407, rfl⟩
abbrev main_call27_v2 : Ref sig .tc := ⟨.hbm, 408, rfl⟩
abbrev main_call27_v3 : Ref sig .tc := ⟨.hbm, 409, rfl⟩
abbrev main_call27_v4 : Ref sig .tc := ⟨.hbm, 410, rfl⟩
abbrev main_v211 : Ref sig .tc := ⟨.hbm, 411, rfl⟩
abbrev main_cst_80 : Ref sig .tc := ⟨.hbm, 412, rfl⟩
abbrev main_v212 : Ref sig .tc := ⟨.hbm, 413, rfl⟩
abbrev main_v213 : Ref sig .tc := ⟨.hbm, 414, rfl⟩
abbrev main_v214 : Ref sig .tc := ⟨.hbm, 415, rfl⟩
abbrev main_v215 : Ref sig .tc := ⟨.hbm, 416, rfl⟩
abbrev main_v216 : Ref sig .tc := ⟨.hbm, 417, rfl⟩
abbrev main_c_81 : Ref sig .tc := ⟨.hbm, 418, rfl⟩
abbrev main_c_82 : Ref sig .tc := ⟨.hbm, 419, rfl⟩
abbrev main_call28_v0 : Ref sig .tc := ⟨.hbm, 420, rfl⟩
abbrev main_call28_v1 : Ref sig .tc := ⟨.hbm, 421, rfl⟩
abbrev main_call28_v2 : Ref sig .tc := ⟨.hbm, 422, rfl⟩
abbrev main_call28_v3 : Ref sig .tc := ⟨.hbm, 423, rfl⟩
abbrev main_call28_v4 : Ref sig .tc := ⟨.hbm, 424, rfl⟩
abbrev main_v217 : Ref sig .tc := ⟨.hbm, 425, rfl⟩
abbrev main_cst_83 : Ref sig .tc := ⟨.hbm, 426, rfl⟩
abbrev main_v218 : Ref sig .tc := ⟨.hbm, 427, rfl⟩
abbrev main_v219 : Ref sig .tc := ⟨.hbm, 428, rfl⟩
abbrev main_v220 : Ref sig .tc := ⟨.hbm, 429, rfl⟩
abbrev main_v221 : Ref sig .tc := ⟨.hbm, 430, rfl⟩
abbrev main_v222 : Ref sig .tc := ⟨.hbm, 431, rfl⟩
abbrev main_c_84 : Ref sig .tc := ⟨.hbm, 432, rfl⟩
abbrev main_c_85 : Ref sig .tc := ⟨.hbm, 433, rfl⟩
abbrev main_call29_v0 : Ref sig .tc := ⟨.hbm, 434, rfl⟩
abbrev main_call29_v1 : Ref sig .tc := ⟨.hbm, 435, rfl⟩
abbrev main_call29_v2 : Ref sig .tc := ⟨.hbm, 436, rfl⟩
abbrev main_call29_v3 : Ref sig .tc := ⟨.hbm, 437, rfl⟩
abbrev main_call29_v4 : Ref sig .tc := ⟨.hbm, 438, rfl⟩
abbrev main_v223 : Ref sig .tc := ⟨.hbm, 439, rfl⟩
abbrev main_cst_86 : Ref sig .tc := ⟨.hbm, 440, rfl⟩
abbrev main_v224 : Ref sig .tc := ⟨.hbm, 441, rfl⟩
abbrev main_v225 : Ref sig .tc := ⟨.hbm, 442, rfl⟩
abbrev main_v226 : Ref sig .tc := ⟨.hbm, 443, rfl⟩
abbrev main_v227 : Ref sig .tc := ⟨.hbm, 444, rfl⟩
abbrev main_v228 : Ref sig .tc := ⟨.hbm, 445, rfl⟩
abbrev main_c_87 : Ref sig .tc := ⟨.hbm, 446, rfl⟩
abbrev main_c_88 : Ref sig .tc := ⟨.hbm, 447, rfl⟩
abbrev main_call30_v0 : Ref sig .tc := ⟨.hbm, 448, rfl⟩
abbrev main_call30_v1 : Ref sig .tc := ⟨.hbm, 449, rfl⟩
abbrev main_call30_v2 : Ref sig .tc := ⟨.hbm, 450, rfl⟩
abbrev main_call30_v3 : Ref sig .tc := ⟨.hbm, 451, rfl⟩
abbrev main_call30_v4 : Ref sig .tc := ⟨.hbm, 452, rfl⟩
abbrev main_v229 : Ref sig .tc := ⟨.hbm, 453, rfl⟩
abbrev main_cst_89 : Ref sig .tc := ⟨.hbm, 454, rfl⟩
abbrev main_v230 : Ref sig .tc := ⟨.hbm, 455, rfl⟩
abbrev main_v231 : Ref sig .tc := ⟨.hbm, 456, rfl⟩
abbrev main_v232 : Ref sig .tc := ⟨.hbm, 457, rfl⟩
abbrev main_v233 : Ref sig .tc := ⟨.hbm, 458, rfl⟩
abbrev main_v234 : Ref sig .tc := ⟨.hbm, 459, rfl⟩
abbrev main_c_90 : Ref sig .tc := ⟨.hbm, 460, rfl⟩
abbrev main_c_91 : Ref sig .tc := ⟨.hbm, 461, rfl⟩
abbrev main_call31_v0 : Ref sig .tc := ⟨.hbm, 462, rfl⟩
abbrev main_call31_v1 : Ref sig .tc := ⟨.hbm, 463, rfl⟩
abbrev main_call31_v2 : Ref sig .tc := ⟨.hbm, 464, rfl⟩
abbrev main_call31_v3 : Ref sig .tc := ⟨.hbm, 465, rfl⟩
abbrev main_call31_v4 : Ref sig .tc := ⟨.hbm, 466, rfl⟩
abbrev main_v235 : Ref sig .tc := ⟨.hbm, 467, rfl⟩
abbrev main_v236 : Ref sig .tc := ⟨.hbm, 468, rfl⟩
abbrev main_v237 : Ref sig .tc := ⟨.hbm, 469, rfl⟩
abbrev main_v238 : Ref sig .tc := ⟨.hbm, 470, rfl⟩
abbrev main_v239 : Ref sig .tc := ⟨.hbm, 471, rfl⟩
abbrev main_v240 : Ref sig .tc := ⟨.hbm, 472, rfl⟩
abbrev main_v241 : Ref sig .tc := ⟨.hbm, 473, rfl⟩
abbrev main_v242 : Ref sig .tc := ⟨.hbm, 474, rfl⟩
abbrev main_v244 : Ref sig .tc := ⟨.hbm, 475, rfl⟩
abbrev main_v245 : Ref sig .tc := ⟨.hbm, 476, rfl⟩
abbrev main_v246 : Ref sig .tc := ⟨.hbm, 477, rfl⟩
abbrev main_v3 : Ref sig .tc := ⟨.smem, 0, rfl⟩
abbrev main_v93 : Ref sig .tc := ⟨.smem, 1, rfl⟩
abbrev main_v143 : Ref sig .tc := ⟨.smem, 2, rfl⟩
abbrev main_v193 : Ref sig .tc := ⟨.smem, 3, rfl⟩
abbrev main_v243 : Ref sig .tc := ⟨.smem, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_sem0_0 : DmaSem sig := 0
abbrev cc0_sem1_0 : DmaSem sig := 1
abbrev cc0_sem1_1 : DmaSem sig := 2

abbrev nD : Nat := 1
abbrev τ : Topo := Topo.v7x

variable {F : FTy → Type} [FloatOps F]

abbrev grid0 : Pipeline.Grid := ⟨1, ![300], ![false]⟩

abbrev pre0 : Pipeline.Prefetch sig := ⟨5, ![main_v3.idx, main_v93.idx, main_v143.idx, main_v193.idx, main_v243.idx], fun | 0 => main_v3.names | 1 => main_v93.names | 2 => main_v143.names | 3 => main_v193.names | 4 => main_v243.names | ⟨_ + 5, h⟩ => absurd h (Nat.not_lt.2 (Nat.le_add_left _ _)), fun | 0 => rfl | 1 => rfl | 2 => rfl | 3 => rfl | 4 => rfl | ⟨_ + 5, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 2 → Nat :=
  let arg0 : BitVec 32 := BitVec.ofNat 32 (i 0).val
  let v4 : Index := Scalar.indexCast arg0
  let c0 : Index := 0#32
  ![v4.toNat, 0]
def k0_off3 (v1 : BitVec 32) (v5 : BitVec 32) : Fin 4 → Nat :=
  let v10 : Index := Scalar.indexCast v1
  let c40_i32 : BitVec 32 := 40#32
  let c0_i32 : BitVec 32 := 0#32
  let v8 : BitVec 32 := Scalar.maxsi c0_i32 v5
  let v9 : BitVec 32 := Scalar.minsi c40_i32 v8
  let v11 : Index := Scalar.indexCast v9
  let c0_1 : Index := 0#32
  let c0_2 : Index := 0#32
  ![v10.toNat, v11.toNat, 0, 0]

def k0_chk1 (v1 : BitVec 32) (v5 : BitVec 32) : Prop :=
  (∀ a, (k0_off3 v1 v5) a + S1x10x50x512.size a ≤ S2x50x50x512.size a)
theorem k0_off3_inb : ∀ (v1 : BitVec 32) (v5 : BitVec 32) (k0_hw1 : k0_chk1 v1 v5), ∀ a, (k0_off3 v1 v5) a + S1x10x50x512.size a ≤ S2x50x50x512.size a := fun v1 v5 k0_hw1 => k0_hw1

def k0_off4 (i : grid0.Coords) : Fin 2 → Nat :=
  let arg0 : BitVec 32 := BitVec.ofNat 32 (i 0).val
  let v26 : Index := Scalar.indexCast arg0
  let c0_4 : Index := 0#32
  ![v26.toNat, 0]
def k0_off5 (i : grid0.Coords) : Fin 2 → Nat :=
  let arg0 : BitVec 32 := BitVec.ofNat 32 (i 0).val
  let v48 : Index := Scalar.indexCast arg0
  let c1 : Index := 1#32
  ![v48.toNat, 1]
def k0_off6 (i : grid0.Coords) : Fin 2 → Nat :=
  let arg0 : BitVec 32 := BitVec.ofNat 32 (i 0).val
  let v70 : Index := Scalar.indexCast arg0
  let c2 : Index := 2#32
  ![v70.toNat, 2]
def k0_off7 (i : grid0.Coords) : Fin 2 → Nat :=
  let arg0 : BitVec 32 := BitVec.ofNat 32 (i 0).val
  let v92 : Index := Scalar.indexCast arg0
  let c3 : Index := 3#32
  ![v92.toNat, 3]
def k0_off8 (i : grid0.Coords) : Fin 2 → Nat :=
  let arg0 : BitVec 32 := BitVec.ofNat 32 (i 0).val
  let v114 : Index := Scalar.indexCast arg0
  let c4 : Index := 4#32
  ![v114.toNat, 4]
def k0_off9 (i : grid0.Coords) : Fin 2 → Nat :=
  let arg0 : BitVec 32 := BitVec.ofNat 32 (i 0).val
  let v136 : Index := Scalar.indexCast arg0
  let c5 : Index := 5#32
  ![v136.toNat, 5]
def k0_off10 (i : grid0.Coords) : Fin 2 → Nat :=
  let arg0 : BitVec 32 := BitVec.ofNat 32 (i 0).val
  let v158 : Index := Scalar.indexCast arg0
  let c6 : Index := 6#32
  ![v158.toNat, 6]
def k0_off11 (v1 : BitVec 32) (v181 : BitVec 32) : Fin 4 → Nat :=
  let v186 : Index := Scalar.indexCast v1
  let c40_i32_57 : BitVec 32 := 40#32
  let c0_i32_56 : BitVec 32 := 0#32
  let v184 : BitVec 32 := Scalar.maxsi c0_i32_56 v181
  let v185 : BitVec 32 := Scalar.minsi c40_i32_57 v184
  let v187 : Index := Scalar.indexCast v185
  let c0_58 : Index := 0#32
  let c0_59 : Index := 0#32
  ![v186.toNat, v187.toNat, 0, 0]

def k0_chk2 (v1 : BitVec 32) (v181 : BitVec 32) : Prop :=
  (∀ a, (k0_off11 v1 v181) a + S1x10x50x512.size a ≤ S2x50x50x512.size a)
theorem k0_off11_inb : ∀ (v1 : BitVec 32) (v181 : BitVec 32) (k0_hw2 : k0_chk2 v1 v181), ∀ a, (k0_off11 v1 v181) a + S1x10x50x512.size a ≤ S2x50x50x512.size a := fun v1 v181 k0_hw2 => k0_hw2

def k0_off12 (i : grid0.Coords) : Fin 2 → Nat :=
  let arg0 : BitVec 32 := BitVec.ofNat 32 (i 0).val
  let v202 : Index := Scalar.indexCast arg0
  let c0_62 : Index := 0#32
  ![v202.toNat, 0]
def k0_off13 (i : grid0.Coords) : Fin 2 → Nat :=
  let arg0 : BitVec 32 := BitVec.ofNat 32 (i 0).val
  let v224 : Index := Scalar.indexCast arg0
  let c1_69 : Index := 1#32
  ![v224.toNat, 1]
def k0_off14 (i : grid0.Coords) : Fin 2 → Nat :=
  let arg0 : BitVec 32 := BitVec.ofNat 32 (i 0).val
  let v246 : Index := Scalar.indexCast arg0
  let c2_76 : Index := 2#32
  ![v246.toNat, 2]
def k0_off15 (i : grid0.Coords) : Fin 2 → Nat :=
  let arg0 : BitVec 32 := BitVec.ofNat 32 (i 0).val
  let v268 : Index := Scalar.indexCast arg0
  let c3_83 : Index := 3#32
  ![v268.toNat, 3]
def k0_off16 (i : grid0.Coords) : Fin 2 → Nat :=
  let arg0 : BitVec 32 := BitVec.ofNat 32 (i 0).val
  let v290 : Index := Scalar.indexCast arg0
  let c4_90 : Index := 4#32
  ![v290.toNat, 4]
def k0_off17 (i : grid0.Coords) : Fin 2 → Nat :=
  let arg0 : BitVec 32 := BitVec.ofNat 32 (i 0).val
  let v312 : Index := Scalar.indexCast arg0
  let c5_97 : Index := 5#32
  ![v312.toNat, 5]
def k0_off18 (i : grid0.Coords) : Fin 2 → Nat :=
  let arg0 : BitVec 32 := BitVec.ofNat 32 (i 0).val
  let v334 : Index := Scalar.indexCast arg0
  let c6_104 : Index := 6#32
  ![v334.toNat, 6]
def k0_off19 (v1 : BitVec 32) (v357 : BitVec 32) : Fin 4 → Nat :=
  let v362 : Index := Scalar.indexCast v1
  let c40_i32_114 : BitVec 32 := 40#32
  let c0_i32_113 : BitVec 32 := 0#32
  let v360 : BitVec 32 := Scalar.maxsi c0_i32_113 v357
  let v361 : BitVec 32 := Scalar.minsi c40_i32_114 v360
  let v363 : Index := Scalar.indexCast v361
  let c0_115 : Index := 0#32
  let c0_116 : Index := 0#32
  ![v362.toNat, v363.toNat, 0, 0]

def k0_chk3 (v1 : BitVec 32) (v357 : BitVec 32) : Prop :=
  (∀ a, (k0_off19 v1 v357) a + S1x10x50x512.size a ≤ S2x50x50x512.size a)
theorem k0_off19_inb : ∀ (v1 : BitVec 32) (v357 : BitVec 32) (k0_hw3 : k0_chk3 v1 v357), ∀ a, (k0_off19 v1 v357) a + S1x10x50x512.size a ≤ S2x50x50x512.size a := fun v1 v357 k0_hw3 => k0_hw3

def k0_off20 (i : grid0.Coords) : Fin 2 → Nat :=
  let arg0 : BitVec 32 := BitVec.ofNat 32 (i 0).val
  let v378 : Index := Scalar.indexCast arg0
  let c0_119 : Index := 0#32
  ![v378.toNat, 0]
def k0_off21 (i : grid0.Coords) : Fin 2 → Nat :=
  let arg0 : BitVec 32 := BitVec.ofNat 32 (i 0).val
  let v400 : Index := Scalar.indexCast arg0
  let c1_126 : Index := 1#32
  ![v400.toNat, 1]
def k0_off22 (i : grid0.Coords) : Fin 2 → Nat :=
  let arg0 : BitVec 32 := BitVec.ofNat 32 (i 0).val
  let v422 : Index := Scalar.indexCast arg0
  let c2_133 : Index := 2#32
  ![v422.toNat, 2]
def k0_off23 (i : grid0.Coords) : Fin 2 → Nat :=
  let arg0 : BitVec 32 := BitVec.ofNat 32 (i 0).val
  let v444 : Index := Scalar.indexCast arg0
  let c3_140 : Index := 3#32
  ![v444.toNat, 3]
def k0_off24 (i : grid0.Coords) : Fin 2 → Nat :=
  let arg0 : BitVec 32 := BitVec.ofNat 32 (i 0).val
  let v466 : Index := Scalar.indexCast arg0
  let c4_147 : Index := 4#32
  ![v466.toNat, 4]
def k0_off25 (i : grid0.Coords) : Fin 2 → Nat :=
  let arg0 : BitVec 32 := BitVec.ofNat 32 (i 0).val
  let v488 : Index := Scalar.indexCast arg0
  let c5_154 : Index := 5#32
  ![v488.toNat, 5]
def k0_off26 (i : grid0.Coords) : Fin 2 → Nat :=
  let arg0 : BitVec 32 := BitVec.ofNat 32 (i 0).val
  let v510 : Index := Scalar.indexCast arg0
  let c6_161 : Index := 6#32
  ![v510.toNat, 6]
def k0_off27 (v1 : BitVec 32) (v533 : BitVec 32) : Fin 4 → Nat :=
  let v538 : Index := Scalar.indexCast v1
  let c40_i32_171 : BitVec 32 := 40#32
  let c0_i32_170 : BitVec 32 := 0#32
  let v536 : BitVec 32 := Scalar.maxsi c0_i32_170 v533
  let v537 : BitVec 32 := Scalar.minsi c40_i32_171 v536
  let v539 : Index := Scalar.indexCast v537
  let c0_172 : Index := 0#32
  let c0_173 : Index := 0#32
  ![v538.toNat, v539.toNat, 0, 0]

def k0_chk4 (v1 : BitVec 32) (v533 : BitVec 32) : Prop :=
  (∀ a, (k0_off27 v1 v533) a + S1x10x50x512.size a ≤ S2x50x50x512.size a)
theorem k0_off27_inb : ∀ (v1 : BitVec 32) (v533 : BitVec 32) (k0_hw4 : k0_chk4 v1 v533), ∀ a, (k0_off27 v1 v533) a + S1x10x50x512.size a ≤ S2x50x50x512.size a := fun v1 v533 k0_hw4 => k0_hw4

def k0_off28 (i : grid0.Coords) : Fin 2 → Nat :=
  let arg0 : BitVec 32 := BitVec.ofNat 32 (i 0).val
  let v554 : Index := Scalar.indexCast arg0
  let c0_176 : Index := 0#32
  ![v554.toNat, 0]
def k0_off29 (i : grid0.Coords) : Fin 2 → Nat :=
  let arg0 : BitVec 32 := BitVec.ofNat 32 (i 0).val
  let v576 : Index := Scalar.indexCast arg0
  let c1_183 : Index := 1#32
  ![v576.toNat, 1]
def k0_off30 (i : grid0.Coords) : Fin 2 → Nat :=
  let arg0 : BitVec 32 := BitVec.ofNat 32 (i 0).val
  let v598 : Index := Scalar.indexCast arg0
  let c2_190 : Index := 2#32
  ![v598.toNat, 2]
def k0_off31 (i : grid0.Coords) : Fin 2 → Nat :=
  let arg0 : BitVec 32 := BitVec.ofNat 32 (i 0).val
  let v620 : Index := Scalar.indexCast arg0
  let c3_197 : Index := 3#32
  ![v620.toNat, 3]
def k0_off32 (i : grid0.Coords) : Fin 2 → Nat :=
  let arg0 : BitVec 32 := BitVec.ofNat 32 (i 0).val
  let v642 : Index := Scalar.indexCast arg0
  let c4_204 : Index := 4#32
  ![v642.toNat, 4]
def k0_off33 (i : grid0.Coords) : Fin 2 → Nat :=
  let arg0 : BitVec 32 := BitVec.ofNat 32 (i 0).val
  let v664 : Index := Scalar.indexCast arg0
  let c5_211 : Index := 5#32
  ![v664.toNat, 5]
def k0_off34 (i : grid0.Coords) : Fin 2 → Nat :=
  let arg0 : BitVec 32 := BitVec.ofNat 32 (i 0).val
  let v686 : Index := Scalar.indexCast arg0
  let c6_218 : Index := 6#32
  ![v686.toNat, 6]
def k0_off35 (v1 : BitVec 32) (v709 : BitVec 32) : Fin 4 → Nat :=
  let v714 : Index := Scalar.indexCast v1
  let c40_i32_228 : BitVec 32 := 40#32
  let c0_i32_227 : BitVec 32 := 0#32
  let v712 : BitVec 32 := Scalar.maxsi c0_i32_227 v709
  let v713 : BitVec 32 := Scalar.minsi c40_i32_228 v712
  let v715 : Index := Scalar.indexCast v713
  let c0_229 : Index := 0#32
  let c0_230 : Index := 0#32
  ![v714.toNat, v715.toNat, 0, 0]

def k0_chk5 (v1 : BitVec 32) (v709 : BitVec 32) : Prop :=
  (∀ a, (k0_off35 v1 v709) a + S1x10x50x512.size a ≤ S2x50x50x512.size a)
theorem k0_off35_inb : ∀ (v1 : BitVec 32) (v709 : BitVec 32) (k0_hw5 : k0_chk5 v1 v709), ∀ a, (k0_off35 v1 v709) a + S1x10x50x512.size a ≤ S2x50x50x512.size a := fun v1 v709 k0_hw5 => k0_hw5

def k0_off36 (i : grid0.Coords) : Fin 2 → Nat :=
  let arg0 : BitVec 32 := BitVec.ofNat 32 (i 0).val
  let v730 : Index := Scalar.indexCast arg0
  let c0_233 : Index := 0#32
  ![v730.toNat, 0]
def k0_off37 (i : grid0.Coords) : Fin 2 → Nat :=
  let arg0 : BitVec 32 := BitVec.ofNat 32 (i 0).val
  let v752 : Index := Scalar.indexCast arg0
  let c1_240 : Index := 1#32
  ![v752.toNat, 1]
def k0_off38 (i : grid0.Coords) : Fin 2 → Nat :=
  let arg0 : BitVec 32 := BitVec.ofNat 32 (i 0).val
  let v774 : Index := Scalar.indexCast arg0
  let c2_247 : Index := 2#32
  ![v774.toNat, 2]
def k0_off39 (i : grid0.Coords) : Fin 2 → Nat :=
  let arg0 : BitVec 32 := BitVec.ofNat 32 (i 0).val
  let v796 : Index := Scalar.indexCast arg0
  let c3_254 : Index := 3#32
  ![v796.toNat, 3]
def k0_off40 (i : grid0.Coords) : Fin 2 → Nat :=
  let arg0 : BitVec 32 := BitVec.ofNat 32 (i 0).val
  let v818 : Index := Scalar.indexCast arg0
  let c4_261 : Index := 4#32
  ![v818.toNat, 4]
def k0_off41 (i : grid0.Coords) : Fin 2 → Nat :=
  let arg0 : BitVec 32 := BitVec.ofNat 32 (i 0).val
  let v840 : Index := Scalar.indexCast arg0
  let c5_268 : Index := 5#32
  ![v840.toNat, 5]
def k0_off42 (i : grid0.Coords) : Fin 2 → Nat :=
  let arg0 : BitVec 32 := BitVec.ofNat 32 (i 0).val
  let v862 : Index := Scalar.indexCast arg0
  let c6_275 : Index := 6#32
  ![v862.toNat, 6]
def k0_off43 (v1 : BitVec 32) (v885 : BitVec 32) : Fin 4 → Nat :=
  let v890 : Index := Scalar.indexCast v1
  let c40_i32_285 : BitVec 32 := 40#32
  let c0_i32_284 : BitVec 32 := 0#32
  let v888 : BitVec 32 := Scalar.maxsi c0_i32_284 v885
  let v889 : BitVec 32 := Scalar.minsi c40_i32_285 v888
  let v891 : Index := Scalar.indexCast v889
  let c0_286 : Index := 0#32
  let c0_287 : Index := 0#32
  ![v890.toNat, v891.toNat, 0, 0]

def k0_chk6 (v1 : BitVec 32) (v885 : BitVec 32) : Prop :=
  (∀ a, (k0_off43 v1 v885) a + S1x10x50x512.size a ≤ S2x50x50x512.size a)
theorem k0_off43_inb : ∀ (v1 : BitVec 32) (v885 : BitVec 32) (k0_hw6 : k0_chk6 v1 v885), ∀ a, (k0_off43 v1 v885) a + S1x10x50x512.size a ≤ S2x50x50x512.size a := fun v1 v885 k0_hw6 => k0_hw6

def k0_off44 (i : grid0.Coords) : Fin 2 → Nat :=
  let arg0 : BitVec 32 := BitVec.ofNat 32 (i 0).val
  let v906 : Index := Scalar.indexCast arg0
  let c0_290 : Index := 0#32
  ![v906.toNat, 0]
def k0_off45 (i : grid0.Coords) : Fin 2 → Nat :=
  let arg0 : BitVec 32 := BitVec.ofNat 32 (i 0).val
  let v928 : Index := Scalar.indexCast arg0
  let c1_297 : Index := 1#32
  ![v928.toNat, 1]
def k0_off46 (i : grid0.Coords) : Fin 2 → Nat :=
  let arg0 : BitVec 32 := BitVec.ofNat 32 (i 0).val
  let v950 : Index := Scalar.indexCast arg0
  let c2_304 : Index := 2#32
  ![v950.toNat, 2]
def k0_off47 (i : grid0.Coords) : Fin 2 → Nat :=
  let arg0 : BitVec 32 := BitVec.ofNat 32 (i 0).val
  let v972 : Index := Scalar.indexCast arg0
  let c3_311 : Index := 3#32
  ![v972.toNat, 3]
def k0_off48 (i : grid0.Coords) : Fin 2 → Nat :=
  let arg0 : BitVec 32 := BitVec.ofNat 32 (i 0).val
  let v994 : Index := Scalar.indexCast arg0
  let c4_318 : Index := 4#32
  ![v994.toNat, 4]
def k0_off49 (i : grid0.Coords) : Fin 2 → Nat :=
  let arg0 : BitVec 32 := BitVec.ofNat 32 (i 0).val
  let v1016 : Index := Scalar.indexCast arg0
  let c5_325 : Index := 5#32
  ![v1016.toNat, 5]
def k0_off50 (i : grid0.Coords) : Fin 2 → Nat :=
  let arg0 : BitVec 32 := BitVec.ofNat 32 (i 0).val
  let v1038 : Index := Scalar.indexCast arg0
  let c6_332 : Index := 6#32
  ![v1038.toNat, 6]
def k0_off51 (v1 : BitVec 32) (v1061 : BitVec 32) : Fin 4 → Nat :=
  let v1066 : Index := Scalar.indexCast v1
  let c40_i32_342 : BitVec 32 := 40#32
  let c0_i32_341 : BitVec 32 := 0#32
  let v1064 : BitVec 32 := Scalar.maxsi c0_i32_341 v1061
  let v1065 : BitVec 32 := Scalar.minsi c40_i32_342 v1064
  let v1067 : Index := Scalar.indexCast v1065
  let c0_343 : Index := 0#32
  let c0_344 : Index := 0#32
  ![v1066.toNat, v1067.toNat, 0, 0]

def k0_chk7 (v1 : BitVec 32) (v1061 : BitVec 32) : Prop :=
  (∀ a, (k0_off51 v1 v1061) a + S1x10x50x512.size a ≤ S2x50x50x512.size a)
theorem k0_off51_inb : ∀ (v1 : BitVec 32) (v1061 : BitVec 32) (k0_hw7 : k0_chk7 v1 v1061), ∀ a, (k0_off51 v1 v1061) a + S1x10x50x512.size a ≤ S2x50x50x512.size a := fun v1 v1061 k0_hw7 => k0_hw7

def k0_off52 (i : grid0.Coords) : Fin 2 → Nat :=
  let arg0 : BitVec 32 := BitVec.ofNat 32 (i 0).val
  let v1082 : Index := Scalar.indexCast arg0
  let c0_347 : Index := 0#32
  ![v1082.toNat, 0]
def k0_off53 (i : grid0.Coords) : Fin 2 → Nat :=
  let arg0 : BitVec 32 := BitVec.ofNat 32 (i 0).val
  let v1104 : Index := Scalar.indexCast arg0
  let c1_354 : Index := 1#32
  ![v1104.toNat, 1]
def k0_off54 (i : grid0.Coords) : Fin 2 → Nat :=
  let arg0 : BitVec 32 := BitVec.ofNat 32 (i 0).val
  let v1126 : Index := Scalar.indexCast arg0
  let c2_361 : Index := 2#32
  ![v1126.toNat, 2]
def k0_off55 (i : grid0.Coords) : Fin 2 → Nat :=
  let arg0 : BitVec 32 := BitVec.ofNat 32 (i 0).val
  let v1148 : Index := Scalar.indexCast arg0
  let c3_368 : Index := 3#32
  ![v1148.toNat, 3]
def k0_off56 (i : grid0.Coords) : Fin 2 → Nat :=
  let arg0 : BitVec 32 := BitVec.ofNat 32 (i 0).val
  let v1170 : Index := Scalar.indexCast arg0
  let c4_375 : Index := 4#32
  ![v1170.toNat, 4]
def k0_off57 (i : grid0.Coords) : Fin 2 → Nat :=
  let arg0 : BitVec 32 := BitVec.ofNat 32 (i 0).val
  let v1192 : Index := Scalar.indexCast arg0
  let c5_382 : Index := 5#32
  ![v1192.toNat, 5]
def k0_off58 (i : grid0.Coords) : Fin 2 → Nat :=
  let arg0 : BitVec 32 := BitVec.ofNat 32 (i 0).val
  let v1214 : Index := Scalar.indexCast arg0
  let c6_389 : Index := 6#32
  ![v1214.toNat, 6]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S2x50x50x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x49x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== KernelIdeal.lean ====
variable {F : FTy → Type} [FloatOps F] [Named F]
def κ : String → Option EReal := fun
  | "neg" => some ⊥
  | _ => none
-- ==== ReferenceIdeal.lean ====
abbrev S2x512x50x50 : Shape := ⟨4, ![2, 512, 50, 50]⟩
abbrev S300x5 : Shape := ⟨2, ![300, 5]⟩
abbrev S300x1 : Shape := ⟨2, ![300, 1]⟩
abbrev S300 : Shape := ⟨1, ![300]⟩
abbrev S_ : Shape := ⟨0, ![]⟩
abbrev S10 : Shape := ⟨1, ![10]⟩
abbrev S7 : Shape := ⟨1, ![7]⟩
abbrev S1x7 : Shape := ⟨2, ![1, 7]⟩
abbrev S300x7 : Shape := ⟨2, ![300, 7]⟩
abbrev S300x7x1 : Shape := ⟨3, ![300, 7, 1]⟩
abbrev S7x1 : Shape := ⟨2, ![7, 1]⟩
abbrev S300x7x7x1 : Shape := ⟨4, ![300, 7, 7, 1]⟩
abbrev S7x7x1 : Shape := ⟨3, ![7, 7, 1]⟩
abbrev S300x7x7x4 : Shape := ⟨4, ![300, 7, 7, 4]⟩
abbrev S300x7x7x1x512x10x10 : Shape := ⟨7, ![300, 7, 7, 1, 512, 10, 10]⟩
abbrev S300x7x7x512x10x10 : Shape := ⟨6, ![300, 7, 7, 512, 10, 10]⟩
abbrev S1x10 : Shape := ⟨2, ![1, 10]⟩
abbrev S1x1x10 : Shape := ⟨3, ![1, 1, 10]⟩
abbrev S300x7x10 : Shape := ⟨3, ![300, 7, 10]⟩
abbrev S300x7x10x1 : Shape := ⟨4, ![300, 7, 10, 1]⟩
abbrev S300x7x1x10 : Shape := ⟨4, ![300, 7, 1, 10]⟩
abbrev S300x7x1x10x1 : Shape := ⟨5, ![300, 7, 1, 10, 1]⟩
abbrev S300x1x7x1x10 : Shape := ⟨5, ![300, 1, 7, 1, 10]⟩
abbrev S300x7x7x10x10 : Shape := ⟨5, ![300, 7, 7, 10, 10]⟩
abbrev S300x7x7x1x10x10 : Shape := ⟨6, ![300, 7, 7, 1, 10, 10]⟩
abbrev S512x10x10 : Shape := ⟨3, ![512, 10, 10]⟩
abbrev S7x512x10x10 : Shape := ⟨4, ![7, 512, 10, 10]⟩
abbrev S7x7x512x10x10 : Shape := ⟨5, ![7, 7, 512, 10, 10]⟩
abbrev S300x7x7x512 : Shape := ⟨4, ![300, 7, 7, 512]⟩
abbrev S300x7x7 : Shape := ⟨3, ![300, 7, 7]⟩
abbrev S512 : Shape := ⟨1, ![512]⟩
abbrev S7x512 : Shape := ⟨2, ![7, 512]⟩
abbrev S7x7x512 : Shape := ⟨3, ![7, 7, 512]⟩
abbrev S300x7x512x7 : Shape := ⟨4, ![300, 7, 512, 7]⟩
abbrev S300x512x7x7 : Shape := ⟨4, ![300, 512, 7, 7]⟩

abbrev nBuf : Space → Nat
  | .hbm => 244
  | .vmem => 0
  | .smem => 0
  | _ => 0

abbrev hbmTy0_0 (i : Nat) : BufTy := match i % 128 with
  | 0 => ⟨S2x512x50x50, .f32⟩
  | 1 => ⟨S300x5, .f32⟩
  | 2 => ⟨S300x1, .f32⟩
  | 3 => ⟨S300, .f32⟩
  | 4 => ⟨S300, .i32⟩
  | 5 => ⟨S300x1, .f32⟩
  | 6 => ⟨S300, .f32⟩
  | 7 => ⟨S_, .f32⟩
  | 8 => ⟨S300, .f32⟩
  | 9 => ⟨S300, .f32⟩
  | 10 => ⟨S300, .f32⟩
  | 11 => ⟨S300, .i32⟩
  | 12 => ⟨S300x1, .f32⟩
  | 13 => ⟨S300, .f32⟩
  | 14 => ⟨S_, .f32⟩
  | 15 => ⟨S300, .f32⟩
  | 16 => ⟨S300, .f32⟩
  | 17 => ⟨S300, .f32⟩
  | 18 => ⟨S300, .i32⟩
  | 19 => ⟨S300x1, .f32⟩
  | 20 => ⟨S300, .f32⟩
  | 21 => ⟨S_, .f32⟩
  | 22 => ⟨S300, .f32⟩
  | 23 => ⟨S300, .f32⟩
  | 24 => ⟨S300, .f32⟩
  | 25 => ⟨S300, .i32⟩
  | 26 => ⟨S300x1, .f32⟩
  | 27 => ⟨S300, .f32⟩
  | 28 => ⟨S_, .f32⟩
  | 29 => ⟨S300, .f32⟩
  | 30 => ⟨S300, .f32⟩
  | 31 => ⟨S300, .f32⟩
  | 32 => ⟨S300, .i32⟩
  | 33 => ⟨S300, .i32⟩
  | 34 => ⟨S_, .i32⟩
  | 35 => ⟨S300, .i32⟩
  | 36 => ⟨S300, .i32⟩
  | 37 => ⟨S_, .i32⟩
  | 38 => ⟨S300, .i32⟩
  | 39 => ⟨S300, .i32⟩
  | 40 => ⟨S300, .f32⟩
  | 41 => ⟨S300, .i32⟩
  | 42 => ⟨S_, .i32⟩
  | 43 => ⟨S300, .i32⟩
  | 44 => ⟨S300, .i32⟩
  | 45 => ⟨S_, .i32⟩
  | 46 => ⟨S300, .i32⟩
  | 47 => ⟨S300, .i32⟩
  | 48 => ⟨S300, .f32⟩
  | 49 => ⟨S_, .f32⟩
  | 50 => ⟨S300, .f32⟩
  | 51 => ⟨S300, .f32⟩
  | 52 => ⟨S_, .f32⟩
  | 53 => ⟨S300, .f32⟩
  | 54 => ⟨S300, .f32⟩
  | 55 => ⟨S10, .i32⟩
  | 56 => ⟨S10, .i32⟩
  | 57 => ⟨S7, .i32⟩
  | 58 => ⟨S300x1, .f32⟩
  | 59 => ⟨S7, .f32⟩
  | 60 => ⟨S1x7, .f32⟩
  | 61 => ⟨S300x7, .f32⟩
  | 62 => ⟨S300x7, .f32⟩
  | 63 => ⟨S300x7, .f32⟩
  | 64 => ⟨S300x7, .f32⟩
  | 65 => ⟨S300x7, .i32⟩
  | 66 => ⟨S300x1, .i32⟩
  | 67 => ⟨S300x7, .i32⟩
  | 68 => ⟨S300x7, .i32⟩
  | 69 => ⟨S_, .i32⟩
  | 70 => ⟨S_, .i32⟩
  | 71 => ⟨S_, .i32⟩
  | 72 => ⟨S300x7, .i32⟩
  | 73 => ⟨S300x7, .i32⟩
  | 74 => ⟨S_, .i32⟩
  | 75 => ⟨S300x7, .i32⟩
  | 76 => ⟨S300x7, .i32⟩
  | 77 => ⟨S_, .i32⟩
  | 78 => ⟨S7, .i32⟩
  | 79 => ⟨S7, .i32⟩
  | 80 => ⟨S300x1, .f32⟩
  | 81 => ⟨S7, .f32⟩
  | 82 => ⟨S1x7, .f32⟩
  | 83 => ⟨S300x7, .f32⟩
  | 84 => ⟨S300x7, .f32⟩
  | 85 => ⟨S300x7, .f32⟩
  | 86 => ⟨S300x7, .f32⟩
  | 87 => ⟨S300x7, .i32⟩
  | 88 => ⟨S300x1, .i32⟩
  | 89 => ⟨S300x7, .i32⟩
  | 90 => ⟨S300x7, .i32⟩
  | 91 => ⟨S_, .i32⟩
  | 92 => ⟨S_, .i32⟩
  | 93 => ⟨S_, .i32⟩
  | 94 => ⟨S300x7, .i32⟩
  | 95 => ⟨S300x7, .i32⟩
  | 96 => ⟨S_, .i32⟩
  | 97 => ⟨S300x7, .i32⟩
  | 98 => ⟨S300x7, .i32⟩
  | 99 => ⟨S300x1, .f32⟩
  | 100 => ⟨S7, .f32⟩
  | 101 => ⟨S1x7, .f32⟩
  | 102 => ⟨S300x7, .f32⟩
  | 103 => ⟨S300x7, .f32⟩
  | 104 => ⟨S300x7, .f32⟩
  | 105 => ⟨S300x7, .f32⟩
  | 106 => ⟨S300x7, .i32⟩
  | 107 => ⟨S300x1, .i32⟩
  | 108 => ⟨S300x7, .i32⟩
  | 109 => ⟨S300x7, .i32⟩
  | 110 => ⟨S_, .i32⟩
  | 111 => ⟨S_, .i32⟩
  | 112 => ⟨S_, .i32⟩
  | 113 => ⟨S300x7, .i32⟩
  | 114 => ⟨S300x7, .i32⟩
  | 115 => ⟨S_, .i32⟩
  | 116 => ⟨S300x7, .i32⟩
  | 117 => ⟨S300x7, .i32⟩
  | 118 => ⟨S_, .i32⟩
  | 119 => ⟨S7, .i32⟩
  | 120 => ⟨S7, .i32⟩
  | 121 => ⟨S300x1, .f32⟩
  | 122 => ⟨S7, .f32⟩
  | 123 => ⟨S1x7, .f32⟩
  | 124 => ⟨S300x7, .f32⟩
  | 125 => ⟨S300x7, .f32⟩
  | 126 => ⟨S300x7, .f32⟩
  | 127 => ⟨S300x7, .f32⟩
  | _ => ⟨S2x512x50x50, .f32⟩

abbrev hbmTy0_1 (i : Nat) : BufTy := match i % 128 with
  | 0 => ⟨S300x7, .i32⟩
  | 1 => ⟨S300x1, .i32⟩
  | 2 => ⟨S300x7, .i32⟩
  | 3 => ⟨S300x7, .i32⟩
  | 4 => ⟨S_, .i32⟩
  | 5 => ⟨S_, .i32⟩
  | 6 => ⟨S_, .i32⟩
  | 7 => ⟨S300x7, .i32⟩
  | 8 => ⟨S300x7, .i32⟩
  | 9 => ⟨S_, .i32⟩
  | 10 => ⟨S300x7, .i32⟩
  | 11 => ⟨S300x7, .i32⟩
  | 12 => ⟨S_, .i32⟩
  | 13 => ⟨S_, .i32⟩
  | 14 => ⟨S_, .i32⟩
  | 15 => ⟨S300x7, .i32⟩
  | 16 => ⟨S300x7, .i32⟩
  | 17 => ⟨S_, .i32⟩
  | 18 => ⟨S300x7, .i32⟩
  | 19 => ⟨S300x7, .i32⟩
  | 20 => ⟨S_, .i32⟩
  | 21 => ⟨S_, .i32⟩
  | 22 => ⟨S_, .i32⟩
  | 23 => ⟨S300x7, .i32⟩
  | 24 => ⟨S300x7, .i32⟩
  | 25 => ⟨S_, .i32⟩
  | 26 => ⟨S300x7, .i32⟩
  | 27 => ⟨S300x7, .i32⟩
  | 28 => ⟨S_, .i32⟩
  | 29 => ⟨S300, .i32⟩
  | 30 => ⟨S300, .i1⟩
  | 31 => ⟨S_, .i32⟩
  | 32 => ⟨S300, .i32⟩
  | 33 => ⟨S300, .i32⟩
  | 34 => ⟨S300, .i32⟩
  | 35 => ⟨S_, .i32⟩
  | 36 => ⟨S300x7, .i32⟩
  | 37 => ⟨S300x7, .i1⟩
  | 38 => ⟨S_, .i32⟩
  | 39 => ⟨S300x7, .i32⟩
  | 40 => ⟨S300x7, .i32⟩
  | 41 => ⟨S300x7, .i32⟩
  | 42 => ⟨S_, .i32⟩
  | 43 => ⟨S300x7, .i32⟩
  | 44 => ⟨S300x7, .i1⟩
  | 45 => ⟨S_, .i32⟩
  | 46 => ⟨S300x7, .i32⟩
  | 47 => ⟨S300x7, .i32⟩
  | 48 => ⟨S300x7, .i32⟩
  | 49 => ⟨S300x7x1, .i32⟩
  | 50 => ⟨S_, .i32⟩
  | 51 => ⟨S7x1, .i32⟩
  | 52 => ⟨S300x7x7x1, .i32⟩
  | 53 => ⟨S300x7x1, .i32⟩
  | 54 => ⟨S300x7x7x1, .i32⟩
  | 55 => ⟨S7x7x1, .i32⟩
  | 56 => ⟨S300x7x7x1, .i32⟩
  | 57 => ⟨S300x7x7x1, .i32⟩
  | 58 => ⟨S300x7x7x4, .i32⟩
  | 59 => ⟨S300x7x7x1x512x10x10, .f32⟩
  | 60 => ⟨S300x7x7x512x10x10, .f32⟩
  | 61 => ⟨S1x10, .i32⟩
  | 62 => ⟨S300x7x1, .i32⟩
  | 63 => ⟨S1x1x10, .i32⟩
  | 64 => ⟨S300x7x10, .i32⟩
  | 65 => ⟨S300x7x10, .i32⟩
  | 66 => ⟨S300x7x10, .i32⟩
  | 67 => ⟨S1x10, .i32⟩
  | 68 => ⟨S300x7x1, .i32⟩
  | 69 => ⟨S1x1x10, .i32⟩
  | 70 => ⟨S300x7x10, .i32⟩
  | 71 => ⟨S300x7x10, .i32⟩
  | 72 => ⟨S300x7x10, .i32⟩
  | 73 => ⟨S300x7x1, .i32⟩
  | 74 => ⟨S300x7x10, .i32⟩
  | 75 => ⟨S300x7x10, .i1⟩
  | 76 => ⟨S300x7x1, .i32⟩
  | 77 => ⟨S300x7x10, .i32⟩
  | 78 => ⟨S300x7x10, .i1⟩
  | 79 => ⟨S300x7x10, .i1⟩
  | 80 => ⟨S300x7x10x1, .i1⟩
  | 81 => ⟨S300x7x1, .i32⟩
  | 82 => ⟨S300x7x10, .i32⟩
  | 83 => ⟨S300x7x10, .i1⟩
  | 84 => ⟨S300x7x1, .i32⟩
  | 85 => ⟨S300x7x10, .i32⟩
  | 86 => ⟨S300x7x10, .i1⟩
  | 87 => ⟨S300x7x10, .i1⟩
  | 88 => ⟨S300x7x1x10, .i1⟩
  | 89 => ⟨S300x7x1x10x1, .i1⟩
  | 90 => ⟨S300x1x7x1x10, .i1⟩
  | 91 => ⟨S300x7x7x10x10, .i1⟩
  | 92 => ⟨S300x7x7x10x10, .i1⟩
  | 93 => ⟨S300x7x7x10x10, .i1⟩
  | 94 => ⟨S300x7x7x1x10x10, .i1⟩
  | 95 => ⟨S_, .f32⟩
  | 96 => ⟨S_, .f32⟩
  | 97 => ⟨S300x7x7x512x10x10, .i1⟩
  | 98 => ⟨S512x10x10, .f32⟩
  | 99 => ⟨S7x512x10x10, .f32⟩
  | 100 => ⟨S7x7x512x10x10, .f32⟩
  | 101 => ⟨S300x7x7x512x10x10, .f32⟩
  | 102 => ⟨S300x7x7x512x10x10, .f32⟩
  | 103 => ⟨S_, .f32⟩
  | 104 => ⟨S300x7x7x512, .f32⟩
  | 105 => ⟨S_, .i1⟩
  | 106 => ⟨S300x7x7, .i1⟩
  | 107 => ⟨S_, .f32⟩
  | 108 => ⟨S512, .f32⟩
  | 109 => ⟨S7x512, .f32⟩
  | 110 => ⟨S300x7x7x512, .i1⟩
  | 111 => ⟨S7x7x512, .f32⟩
  | 112 => ⟨S300x7x7x512, .f32⟩
  | 113 => ⟨S300x7x7x512, .f32⟩
  | 114 => ⟨S300x7x512x7, .f32⟩
  | 115 => ⟨S300x512x7x7, .f32⟩
  | _ => ⟨S2x512x50x50, .f32⟩

abbrev hbmTy (i : Nat) : BufTy := match i / 128 with
  | 0 => hbmTy0_0 i
  | 1 => hbmTy0_1 i
  | _ => ⟨S2x512x50x50, .f32⟩

abbrev bufTy : (tb : Table) → Fin (tcTables nBuf tb) → BufTy
  | .hbm, ⟨i, _⟩ => hbmTy i
  | _, _ => ⟨S2x512x50x50, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst_1 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst_2 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_c : Ref sig .tc := ⟨.hbm, 34, rfl⟩
abbrev main_v28 : Ref sig .tc := ⟨.hbm, 35, rfl⟩
abbrev main_v29 : Ref sig .tc := ⟨.hbm, 36, rfl⟩
abbrev main_c_3 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_c_4 : Ref sig .tc := ⟨.hbm, 42, rfl⟩
abbrev main_v34 : Ref sig .tc := ⟨.hbm, 43, rfl⟩
abbrev main_v35 : Ref sig .tc := ⟨.hbm, 44, rfl⟩
abbrev main_c_5 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_cst_6 : Ref sig .tc := ⟨.hbm, 49, rfl⟩
abbrev main_v39 : Ref sig .tc := ⟨.hbm, 50, rfl⟩
abbrev main_v40 : Ref sig .tc := ⟨.hbm, 51, rfl⟩
abbrev main_cst_7 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_c_8 : Ref sig .tc := ⟨.hbm, 69, rfl⟩
abbrev main_c_9 : Ref sig .tc := ⟨.hbm, 70, rfl⟩
abbrev main_call4_v0 : Ref sig .tc := ⟨.hbm, 71, rfl⟩
abbrev main_call4_v1 : Ref sig .tc := ⟨.hbm, 72, rfl⟩
abbrev main_call4_v2 : Ref sig .tc := ⟨.hbm, 73, rfl⟩
abbrev main_call4_v3 : Ref sig .tc := ⟨.hbm, 74, rfl⟩
abbrev main_call4_v4 : Ref sig .tc := ⟨.hbm, 75, rfl⟩
abbrev main_v57 : Ref sig .tc := ⟨.hbm, 76, rfl⟩
abbrev main_c_10 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_c_11 : Ref sig .tc := ⟨.hbm, 91, rfl⟩
abbrev main_c_12 : Ref sig .tc := ⟨.hbm, 92, rfl⟩
abbrev main_call5_v0 : Ref sig .tc := ⟨.hbm, 93, rfl⟩
abbrev main_call5_v1 : Ref sig .tc := ⟨.hbm, 94, rfl⟩
abbrev main_call5_v2 : Ref sig .tc := ⟨.hbm, 95, rfl⟩
abbrev main_call5_v3 : Ref sig .tc := ⟨.hbm, 96, rfl⟩
abbrev main_call5_v4 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_c_13 : Ref sig .tc := ⟨.hbm, 110, rfl⟩
abbrev main_c_14 : Ref sig .tc := ⟨.hbm, 111, rfl⟩
abbrev main_call6_v0 : Ref sig .tc := ⟨.hbm, 112, rfl⟩
abbrev main_call6_v1 : Ref sig .tc := ⟨.hbm, 113, rfl⟩
abbrev main_call6_v2 : Ref sig .tc := ⟨.hbm, 114, rfl⟩
abbrev main_call6_v3 : Ref sig .tc := ⟨.hbm, 115, rfl⟩
abbrev main_call6_v4 : Ref sig .tc := ⟨.hbm, 116, rfl⟩
abbrev main_v83 : Ref sig .tc := ⟨.hbm, 117, rfl⟩
abbrev main_c_15 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_c_16 : Ref sig .tc := ⟨.hbm, 132, rfl⟩
abbrev main_c_17 : Ref sig .tc := ⟨.hbm, 133, rfl⟩
abbrev main_call7_v0 : Ref sig .tc := ⟨.hbm, 134, rfl⟩
abbrev main_call7_v1 : Ref sig .tc := ⟨.hbm, 135, rfl⟩
abbrev main_call7_v2 : Ref sig .tc := ⟨.hbm, 136, rfl⟩
abbrev main_call7_v3 : Ref sig .tc := ⟨.hbm, 137, rfl⟩
abbrev main_call7_v4 : Ref sig .tc := ⟨.hbm, 138, rfl⟩
abbrev main_v97 : Ref sig .tc := ⟨.hbm, 139, rfl⟩
abbrev main_c_18 : Ref sig .tc := ⟨.hbm, 140, rfl⟩
abbrev main_c_19 : Ref sig .tc := ⟨.hbm, 141, rfl⟩
abbrev main_call8_v0 : Ref sig .tc := ⟨.hbm, 142, rfl⟩
abbrev main_call8_v1 : Ref sig .tc := ⟨.hbm, 143, rfl⟩
abbrev main_call8_v2 : Ref sig .tc := ⟨.hbm, 144, rfl⟩
abbrev main_call8_v3 : Ref sig .tc := ⟨.hbm, 145, rfl⟩
abbrev main_call8_v4 : Ref sig .tc := ⟨.hbm, 146, rfl⟩
abbrev main_v98 : Ref sig .tc := ⟨.hbm, 147, rfl⟩
abbrev main_c_20 : Ref sig .tc := ⟨.hbm, 148, rfl⟩
abbrev main_c_21 : Ref sig .tc := ⟨.hbm, 149, rfl⟩
abbrev main_call9_v0 : Ref sig .tc := ⟨.hbm, 150, rfl⟩
abbrev main_call9_v1 : Ref sig .tc := ⟨.hbm, 151, rfl⟩
abbrev main_call9_v2 : Ref sig .tc := ⟨.hbm, 152, rfl⟩
abbrev main_call9_v3 : Ref sig .tc := ⟨.hbm, 153, rfl⟩
abbrev main_call9_v4 : Ref sig .tc := ⟨.hbm, 154, rfl⟩
abbrev main_v99 : Ref sig .tc := ⟨.hbm, 155, rfl⟩
abbrev main_c_22 : Ref sig .tc := ⟨.hbm, 156, rfl⟩
abbrev main_v100 : Ref sig .tc := ⟨.hbm, 157, rfl⟩
abbrev main_v101 : Ref sig .tc := ⟨.hbm, 158, rfl⟩
abbrev main_c_23 : Ref sig .tc := ⟨.hbm, 159, rfl⟩
abbrev main_v102 : Ref sig .tc := ⟨.hbm, 160, rfl⟩
abbrev main_v103 : Ref sig .tc := ⟨.hbm, 161, rfl⟩
abbrev main_v104 : Ref sig .tc := ⟨.hbm, 162, rfl⟩
abbrev main_c_24 : Ref sig .tc := ⟨.hbm, 163, rfl⟩
abbrev main_v105 : Ref sig .tc := ⟨.hbm, 164, rfl⟩
abbrev main_v106 : Ref sig .tc := ⟨.hbm, 165, rfl⟩
abbrev main_c_25 : Ref sig .tc := ⟨.hbm, 166, rfl⟩
abbrev main_v107 : Ref sig .tc := ⟨.hbm, 167, rfl⟩
abbrev main_v108 : Ref sig .tc := ⟨.hbm, 168, rfl⟩
abbrev main_v109 : Ref sig .tc := ⟨.hbm, 169, rfl⟩
abbrev main_c_26 : Ref sig .tc := ⟨.hbm, 170, rfl⟩
abbrev main_v110 : Ref sig .tc := ⟨.hbm, 171, rfl⟩
abbrev main_v111 : Ref sig .tc := ⟨.hbm, 172, rfl⟩
abbrev main_c_27 : Ref sig .tc := ⟨.hbm, 173, rfl⟩
abbrev main_v112 : Ref sig .tc := ⟨.hbm, 174, rfl⟩
abbrev main_v113 : Ref sig .tc := ⟨.hbm, 175, rfl⟩
abbrev main_v114 : Ref sig .tc := ⟨.hbm, 176, rfl⟩
abbrev main_v115 : Ref sig .tc := ⟨.hbm, 177, rfl⟩
abbrev main_c_28 : Ref sig .tc := ⟨.hbm, 178, rfl⟩
abbrev main_v116 : Ref sig .tc := ⟨.hbm, 179, rfl⟩
abbrev main_v117 : Ref sig .tc := ⟨.hbm, 180, rfl⟩
abbrev main_v118 : Ref sig .tc := ⟨.hbm, 181, rfl⟩
abbrev main_v119 : Ref sig .tc := ⟨.hbm, 182, rfl⟩
abbrev main_v120 : Ref sig .tc := ⟨.hbm, 183, rfl⟩
abbrev main_v121 : Ref sig .tc := ⟨.hbm, 184, rfl⟩
abbrev main_v122 : Ref sig .tc := ⟨.hbm, 185, rfl⟩
abbrev main_v123 : Ref sig .tc := ⟨.hbm, 186, rfl⟩
abbrev main_v124 : Ref sig .tc := ⟨.hbm, 187, rfl⟩
abbrev main_v125 : Ref sig .tc := ⟨.hbm, 188, rfl⟩
abbrev main_v126 : Ref sig .tc := ⟨.hbm, 189, rfl⟩
abbrev main_v127 : Ref sig .tc := ⟨.hbm, 190, rfl⟩
abbrev main_v128 : Ref sig .tc := ⟨.hbm, 191, rfl⟩
abbrev main_v129 : Ref sig .tc := ⟨.hbm, 192, rfl⟩
abbrev main_v130 : Ref sig .tc := ⟨.hbm, 193, rfl⟩
abbrev main_v131 : Ref sig .tc := ⟨.hbm, 194, rfl⟩
abbrev main_v132 : Ref sig .tc := ⟨.hbm, 195, rfl⟩
abbrev main_v133 : Ref sig .tc := ⟨.hbm, 196, rfl⟩
abbrev main_v134 : Ref sig .tc := ⟨.hbm, 197, rfl⟩
abbrev main_v135 : Ref sig .tc := ⟨.hbm, 198, rfl⟩
abbrev main_v136 : Ref sig .tc := ⟨.hbm, 199, rfl⟩
abbrev main_v137 : Ref sig .tc := ⟨.hbm, 200, rfl⟩
abbrev main_v138 : Ref sig .tc := ⟨.hbm, 201, rfl⟩
abbrev main_v139 : Ref sig .tc := ⟨.hbm, 202, rfl⟩
abbrev main_v140 : Ref sig .tc := ⟨.hbm, 203, rfl⟩
abbrev main_v141 : Ref sig .tc := ⟨.hbm, 204, rfl⟩
abbrev main_v142 : Ref sig .tc := ⟨.hbm, 205, rfl⟩
abbrev main_v143 : Ref sig .tc := ⟨.hbm, 206, rfl⟩
abbrev main_v144 : Ref sig .tc := ⟨.hbm, 207, rfl⟩
abbrev main_v145 : Ref sig .tc := ⟨.hbm, 208, rfl⟩
abbrev main_v146 : Ref sig .tc := ⟨.hbm, 209, rfl⟩
abbrev main_v147 : Ref sig .tc := ⟨.hbm, 210, rfl⟩
abbrev main_v148 : Ref sig .tc := ⟨.hbm, 211, rfl⟩
abbrev main_v149 : Ref sig .tc := ⟨.hbm, 212, rfl⟩
abbrev main_v150 : Ref sig .tc := ⟨.hbm, 213, rfl⟩
abbrev main_v151 : Ref sig .tc := ⟨.hbm, 214, rfl⟩
abbrev main_v152 : Ref sig .tc := ⟨.hbm, 215, rfl⟩
abbrev main_v153 : Ref sig .tc := ⟨.hbm, 216, rfl⟩
abbrev main_v154 : Ref sig .tc := ⟨.hbm, 217, rfl⟩
abbrev main_v155 : Ref sig .tc := ⟨.hbm, 218, rfl⟩
abbrev main_v156 : Ref sig .tc := ⟨.hbm, 219, rfl⟩
abbrev main_v157 : Ref sig .tc := ⟨.hbm, 220, rfl⟩
abbrev main_v158 : Ref sig .tc := ⟨.hbm, 221, rfl⟩
abbrev main_v159 : Ref sig .tc := ⟨.hbm, 222, rfl⟩
abbrev main_cst_29 : Ref sig .tc := ⟨.hbm, 223, rfl⟩
abbrev main_call10_v0 : Ref sig .tc := ⟨.hbm, 224, rfl⟩
abbrev main_call10_v1 : Ref sig .tc := ⟨.hbm, 225, rfl⟩
abbrev main_call10_v2 : Ref sig .tc := ⟨.hbm, 226, rfl⟩
abbrev main_call10_v3 : Ref sig .tc := ⟨.hbm, 227, rfl⟩
abbrev main_call10_v4 : Ref sig .tc := ⟨.hbm, 228, rfl⟩
abbrev main_call10_v5 : Ref sig .tc := ⟨.hbm, 229, rfl⟩
abbrev main_v160 : Ref sig .tc := ⟨.hbm, 230, rfl⟩
abbrev main_cst_30 : Ref sig .tc := ⟨.hbm, 231, rfl⟩
abbrev main_v161 : Ref sig .tc := ⟨.hbm, 232, rfl⟩
abbrev main_c_31 : Ref sig .tc := ⟨.hbm, 233, rfl⟩
abbrev main_v162 : Ref sig .tc := ⟨.hbm, 234, rfl⟩
abbrev main_cst_32 : Ref sig .tc := ⟨.hbm, 235, rfl⟩
abbrev main_v163 : Ref sig .tc := ⟨.hbm, 236, rfl⟩
abbrev main_call11_v0 : Ref sig .tc := ⟨.hbm, 237, rfl⟩
abbrev main_call11_v1 : Ref sig .tc := ⟨.hbm, 238, rfl⟩
abbrev main_call11_v2 : Ref sig .tc := ⟨.hbm, 239, rfl⟩
abbrev main_call11_v3 : Ref sig .tc := ⟨.hbm, 240, rfl⟩
abbrev main_v164 : Ref sig .tc := ⟨.hbm, 241, rfl⟩
abbrev main_v165 : Ref sig .tc := ⟨.hbm, 242, rfl⟩
abbrev main_v166 : Ref sig .tc := ⟨.hbm, 243, rfl⟩

abbrev nD : Nat := 1
abbrev τ : Topo := Topo.v7x

variable {F : FTy → Type} [FloatOps F]
-- ==== Proof.Roi.WordBody.lean ====
/- One run of the body of the kernel: from whole staging buffers and the five tables, under the seven side
   conditions, the body runs to its end; the pieces that its 49 stores leave in the output block are
   found by the run. -/
module

public import proofs.«01_k».proof.Proof.Roi.WordRuns

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2136000 in
/-- One run of the body: on whole staging memrefs, the input at its contents and the output at anything, the body runs to
    its end with the input and the tables as they were and the output at some contents that nothing names. -/
theorem kernelRun0_A (c : Dev nD) (i : grid0.Coords) (arg6 : Memref sig .tc .vmem S2x50x50x512 .f32) (harg6 : arg6.IsWhole) (arg7 : Memref sig .tc .vmem S1x49x512 .f32) (harg7 : arg7.IsWhole)
    (x0 : Vec F S2x50x50x512 .f32) (xt0 : TbBuf0 (F := F) c tbM0_0) (xt1 : TbBuf0 (F := F) c tbM0_1) (xt2 : TbBuf0 (F := F) c tbM0_2) (xt3 : TbBuf0 (F := F) c tbM0_3) (xt4 : TbBuf0 (F := F) c tbM0_4) (k0_hw1 : k0_chk1 (tbM0_0.view.readAt (Elt F) (Rect.unit (s := S300) (k0_off1 i) S1.size (k0_off1_inb i)).toLoadRect xt0 (Shape.Idx.first (numel1_S1.symm ▸ Nat.one_pos))) (tbM0_1.view.readAt (Elt F) (Rect.unit (s := S300x7) (k0_off2 i) S1x1.size (k0_off2_inb i)).toLoadRect xt1 (Shape.Idx.first (numel1_S1x1.symm ▸ Nat.one_pos)))) (k0_hw2 : k0_chk2 (tbM0_0.view.readAt (Elt F) (Rect.unit (s := S300) (k0_off1 i) S1.size (k0_off1_inb i)).toLoadRect xt0 (Shape.Idx.first (numel1_S1.symm ▸ Nat.one_pos))) (tbM0_1.view.readAt (Elt F) (Rect.unit (s := S300x7) (k0_off5 i) S1x1.size (k0_off5_inb i)).toLoadRect xt1 (Shape.Idx.first (numel1_S1x1.symm ▸ Nat.one_pos)))) (k0_hw3 : k0_chk3 (tbM0_0.view.readAt (Elt F) (Rect.unit (s := S300) (k0_off1 i) S1.size (k0_off1_inb i)).toLoadRect xt0 (Shape.Idx.first (numel1_S1.symm ▸ Nat.one_pos))) (tbM0_1.view.readAt (Elt F) (Rect.unit (s := S300x7) (k0_off14 i) S1x1.size (k0_off14_inb i)).toLoadRect xt1 (Shape.Idx.first (numel1_S1x1.symm ▸ Nat.one_pos)))) (k0_hw4 : k0_chk4 (tbM0_0.view.readAt (Elt F) (Rect.unit (s := S300) (k0_off1 i) S1.size (k0_off1_inb i)).toLoadRect xt0 (Shape.Idx.first (numel1_S1.symm ▸ Nat.one_pos))) (tbM0_1.view.readAt (Elt F) (Rect.unit (s := S300x7) (k0_off23 i) S1x1.size (k0_off23_inb i)).toLoadRect xt1 (Shape.Idx.first (numel1_S1x1.symm ▸ Nat.one_pos)))) (k0_hw5 : k0_chk5 (tbM0_0.view.readAt (Elt F) (Rect.unit (s := S300) (k0_off1 i) S1.size (k0_off1_inb i)).toLoadRect xt0 (Shape.Idx.first (numel1_S1.symm ▸ Nat.one_pos))) (tbM0_1.view.readAt (Elt F) (Rect.unit (s := S300x7) (k0_off32 i) S1x1.size (k0_off32_inb i)).toLoadRect xt1 (Shape.Idx.first (numel1_S1x1.symm ▸ Nat.one_pos)))) (k0_hw6 : k0_chk6 (tbM0_0.view.readAt (Elt F) (Rect.unit (s := S300) (k0_off1 i) S1.size (k0_off1_inb i)).toLoadRect xt0 (Shape.Idx.first (numel1_S1.symm ▸ Nat.one_pos))) (tbM0_1.view.readAt (Elt F) (Rect.unit (s := S300x7) (k0_off41 i) S1x1.size (k0_off41_inb i)).toLoadRect xt1 (Shape.Idx.first (numel1_S1x1.symm ▸ Nat.one_pos)))) (k0_hw7 : k0_chk7 (tbM0_0.view.readAt (Elt F) (Rect.unit (s := S300) (k0_off1 i) S1.size (k0_off1_inb i)).toLoadRect xt0 (Shape.Idx.first (numel1_S1.symm ▸ Nat.one_pos))) (tbM0_1.view.readAt (Elt F) (Rect.unit (s := S300x7) (k0_off50 i) S1x1.size (k0_off50_inb i)).toLoadRect xt1 (Shape.Idx.first (numel1_S1x1.symm ▸ Nat.one_pos)))) :
      ∀ (E : Set ℕ) (K : PUnit → sProp 𝕄),
        iprop(owns (c : Thread nD τ) arg6 fullShare x0 ∗ (∃ d, owns (c : Thread nD τ) arg7 fullShare d) ∗ tbPt0 c tbM0_0 xt0 ∗ tbPt0 c tbM0_1 xt1 ∗ tbPt0 c tbM0_2 xt2 ∗ tbPt0 c tbM0_3 xt3 ∗ tbPt0 c tbM0_4 xt4
            ∗ (iprop(owns (c : Thread nD τ) arg6 fullShare x0 ∗ (∃ d, owns (c : Thread nD τ) arg7 fullShare d) ∗ tbPt0 c tbM0_0 xt0 ∗ tbPt0 c tbM0_1 xt1 ∗ tbPt0 c tbM0_2 xt2 ∗ tbPt0 c tbM0_3 xt3 ∗ tbPt0 c tbM0_4 xt4) -∗ K ⟨⟩))
          ⊢ wp frame (wpE (defs₀ (F := F)) Variants.none c none) E (cc0__body i tbM0_0 htbM0_0 tbM0_1 htbM0_1 tbM0_2 htbM0_2 tbM0_3 htbM0_3 tbM0_4 htbM0_4 arg6 harg6 arg7 harg7) K := by
    intro E K
    simp only [cc0__body_eq_skeleton]; unfold cc0__body_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton]
    unfold owns
    iintro ⟨⟨%f0, %hf0, H0⟩, ⟨%d1, %f1, -, H1⟩, HT0, HT1, HT2, HT3, HT4, Hk⟩
    obtain rfl := harg6.eq_unread hf0
    sl_exec (disch := first | sl_exact k0_hw1 | sl_exact k0_hw2 | sl_exact k0_hw3 | sl_exact k0_hw4 | sl_exact k0_hw5 | sl_exact k0_hw6 | sl_exact k0_hw7)
    sl_step
    iapply Hk
    isplitl [H0]
    · iexists _; isplitr; · ipureintro; exact harg6.read_unread _
      iexact H0
    isplitl [H1]
    · iexists _, _; isplitr; swap; · iexact H1
      ipureintro; rfl
    isplitl [HT0]; · iexact HT0
    isplitl [HT1]; · iexact HT1
    isplitl [HT2]; · iexact HT2
    isplitl [HT3]; · iexact HT3
    iexact HT4

end Cert.Kernel.Gen

end
-- ==== Proof.Roi.WordFrame.lean ====
/- The run of the whole program around the body of the kernel: the proof data of the pipeline, which leave the output's
   contents open, the obligation of the body, and the run of @main. -/
module

public import proofs.«01_k».proof.Proof.Roi.WordBody
public import Idealize.ShloMosaic.Lib.Claim

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output's contents are not named here: at machine words only the frame is claimed. -/
def forgets0 : Fin 2 → Bool := fun w => w.val == 1

/-- The proof data of the pipeline on core `c`: the arrays as the call finds them; after the body at point `t` the input's
    buffer at its block and the output's at anything; as invariant the scoped rest and the halves of the tables. -/
def dats (hO : Ok m) (hH : Hyps m hO) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, h⟩ => Pipeline.Dat.unnamed (cfg := (cfgM m hO)) ⟨1, h⟩ t
  Φ _ := iprop(Pipeline.ΦA spec0 c ∗ Pipeline.ΦT pre0 (tbl m) c)
  q _ := fullShare
  owed _ := 0

/-- The proof data's arrays are what the call finds at entry. -/
theorem A_eq (hO : Ok m) (hH : Hyps m hO) (c : Dev nD) (w : Fin (cfgM m hO).W) : (dats m hO hH 0 c).A w = V m c (Pipeline.arrRef spec0 w) := by
  dsimp only [dats]

/-- What the body leaves, window by window. -/
theorem after0_0 (hO : Ok m) (hH : Hyps m hO) (c : Dev nD) (t : Fin (cfgM m hO).N) : (dats m hO hH 0 c).after 0 t = iblk m hO c 0 t := by dsimp only [dats]; try rfl

/-- The input's staging buffer holds its block at every point, fetched there or not. -/
theorem before0_0 (hO : Ok m) (hH : Hyps m hO) (c : Dev nD) (t : Fin (cfgM m hO).N) (d) : (dats m hO hH 0 c).before 0 t d = iblk m hO c 0 t :=
  before0_0_of m hO (dats m hO hH 0 c) (A_eq m hO hH c 0) (after0_0 m hO hH c) t d

/-! ## The body obligation, at a generic point -/

/-- What the body is called with at point `t`, window by window, -/
def bodyPre (hO : Ok m) (hH : Hyps m hO) (c : Dev nD) (t : Fin (cfgM m hO).N) : sProp 𝕄 :=
  iprop((dats m hO hH 0 c).Φ t.castSucc ∗ (dats m hO hH 0 c).owesAt () t.castSucc
    ∗ (∃ d, owns (c : Thread nD τ) (ms0_0 m hO t) fullShare ((dats m hO hH 0 c).before 0 t d))
    ∗ (∃ d, owns (c : Thread nD τ) (ms0_1 m hO t) fullShare d))

/-- and what it returns. -/
def bodyPost (hO : Ok m) (hH : Hyps m hO) (c : Dev nD) (t : Fin (cfgM m hO).N) : sProp 𝕄 :=
  iprop((dats m hO hH 0 c).Φ t.succ ∗ (dats m hO hH 0 c).owesAt () t.succ
    ∗ owns (c : Thread nD τ) (ms0_0 m hO t) fullShare ((dats m hO hH 0 c).after 0 t)
    ∗ (∃ d, owns (c : Thread nD τ) (ms0_1 m hO t) fullShare d))

/-- The body meets its obligation at any point: the input holds its block, so the run applies, and nothing is owed. -/
theorem sound_body (hO : Ok m) (hH : Hyps m hO) (c : Dev nD) (t : Fin (cfgM m hO).N) :
    bodyPre m hO hH c t ⊢ wp frame (wpE (defs₀ (F := F)) Variants.none c none) Set.univ (bodyAt0 (adm m hO) t) (fun _ => bodyPost m hO hH c t) := by
  unfold bodyPre bodyPost bodyAt0
  simp only [before0_0]
  rw [show (dats m hO hH 0 c).Φ t.succ = (dats m hO hH 0 c).Φ t.castSucc from rfl,
    show (dats m hO hH 0 c).owesAt () t.succ = (dats m hO hH 0 c).owesAt () t.castSucc from rfl,
    after0_0]
  rw [show (dats m hO hH 0 c).Φ t.castSucc = iprop(Pipeline.ΦA spec0 c ∗ Pipeline.ΦT pre0 (tbl m) c) from rfl, PhiT0_eq]
  iintro ⟨⟨HΦ, ⟨HT0, HT1, HT2, HT3, HT4⟩⟩, Ho, ⟨%d0, H0⟩, ⟨%d1, H1⟩⟩
  iapply ((kernelRun0_A c (grid0.coords t) _ _ _ _ (iblk m hO c 0 t) (tbl m 0) (tbl m 1) (tbl m 2) (tbl m 3) (tbl m 4) (Hyps.c0 hH c t) (Hyps.c1 hH c t) (Hyps.c2 hH c t) (Hyps.c3 hH c t) (Hyps.c4 hH c t) (Hyps.c5 hH c t) (Hyps.c6 hH c t)) Set.univ _)
  isplitl [H0]; · iexact H0
  isplitl [H1]; · iexists _; iexact H1
  isplitl [HT0]; · iexact HT0
  isplitl [HT1]; · iexact HT1
  isplitl [HT2]; · iexact HT2
  isplitl [HT3]; · iexact HT3
  isplitl [HT4]; · iexact HT4
  iintro ⟨H0, H1, HT0, HT1, HT2, HT3, HT4⟩
  isplitl [HΦ HT0 HT1 HT2 HT3 HT4]
  · isplitl [HΦ]
    · iexact HΦ
    isplitl [HT0]; · iexact HT0
    isplitl [HT1]; · iexact HT1
    isplitl [HT2]; · iexact HT2
    isplitl [HT3]; · iexact HT3
    iexact HT4
  isplitl [Ho]; · iexact Ho
  isplitl [H0]; · iexact H0
  iexact H1

/-- The body called at point `t` is the kernel body at the staging memrefs of that point. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The obligation of the body at every point, as the pipeline's launch asks for it. -/
theorem body_obligation (hO : Ok m) (hH : Hyps m hO) (c : Dev nD) : BodyObligation (dats (F := F) m hO hH 0 c) (defs₀ (F := F)) Variants.none () Set.univ forgets0 := fun t => by
  rw [bigSep_W0, bigSep_W0, defs₀_row m hO]
  exact triple_restated (sound_body m hO hH c t) rfl .rfl fun _ => .rfl

/-! ## The run and the frame -/

set_option backward.isDefEq.respectTransparency.types false in
set_option maxHeartbeats 800000 in
/-- The run of @main, and every semaphore counter of the machine at zero at its end. -/
theorem run_main_quiescent (hO : Ok m) (hH : Hyps m hO) : θ_run defs (onTc (τ := τ) (main (F := F))) (s₀ m ρ) (fun r => (Pipeline.RDat.FramePostR ((Pipeline.pin pcfgs fun _ => adm m hO) 0) (fun c => (dats m hO hH 0 c).toRForget forgets0) T0 (V m)) r ∧ r.2.sem = fun _ => 0) :=
  Pipeline.θ_run_frameP_around_T_forget (Q' := _) pcfgs (fun _ => adm m hO) (dats m hO hH) (0 : Fin 1) launch0 defs₀ Variants.none forgets0 T0 m ρ main
    (hbody := fun c => (body_obligation m hO hH c).loose) (hshare := fun c => (dats m hO hH 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m hO hH) (hpf := V_pre m) (hΦ := fun _ _ => rfl)

/-- For any values, from any memory with zero counters: every weakly fair execution of @main terminates, and every final
    state has every array of the pipeline at what the proof data give and every other buffer as the host operations after
    the call leave it. -/
theorem run_main (hO : Ok m) (hH : Hyps m hO) : θ_run defs (onTc (τ := τ) (main (F := F))) (s₀ m ρ) (Pipeline.RDat.FramePostR ((Pipeline.pin pcfgs fun _ => adm m hO) 0) (fun c => (dats m hO hH 0 c).toRForget forgets0) T0 (V m)) :=
  (θ_run defs _ _).mono (fun _ h => h.1) (run_main_quiescent m ρ hO hH)

/-- The argument arrays end unchanged. -/
theorem unchanged (hO : Ok m) (hH : Hyps m hO) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ hO (fun c => (dats m hO hH 0 c).toRForget forgets0) (A_eq m hO hH) (run_main m ρ hO hH)

/-- The program runs, its argument arrays end unchanged, and every counter ends at zero, for tables that meet the seven
    conditions. -/
theorem frame (hO : Ok m) (hH : Hyps m hO) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ hO hH) ((θ_run defs _ _).mono (fun _ h => h.2) (run_main_quiescent m ρ hO hH))

end Cert.Kernel.Gen

end
-- ==== Proof.Roi.Pre.lean ====
/- The precondition, read at one region. `rois_in_range` is a conjunction of three `all`s over the 300 regions: region
   `n`'s image number is 0 or 1, and its two x coordinates lie between 0 and 799. -/
module

public import proofs.«01_k».proof.Proof.Gen.Pre_rois_in_range
public import Idealize.ShloMosaic.Lib.ReduceAll
public import Idealize.ShloMosaic.Lib.Pointwise
public import Idealize.ShloMosaic.Lib.SortNet.Extract

@[expose] public section

set_option maxRecDepth 16384

namespace Cert.Roi

open Idealize.ShloMosaic Cert.Pre_rois_in_range

/-- A conjunction of two truth words that is true has both parts true. -/
theorem andi_one {a b : BitVec 1} (h : IntOp.andi a b = 1#1) : a = 1#1 ∧ b = 1#1 := IntOp.andi_eq_one.1 h

/-- What the precondition says of region `n`, as the truth of the six comparisons it is written with. -/
theorem pre_at {F : FTy → Type} [FloatOps F] (x : FVec F S2x512x50x50 .f32) (r : FVec F S300x5 .f32)
    (h : fn (F := F) x r = fun _ => 1#1) (n : Fin 300) :
    (IntOp.cmpi .sge (FloatOps.fptosi 32 (r (ix2 n 0))) 0#32 = 1#1 ∧ IntOp.cmpi .slt (FloatOps.fptosi 32 (r (ix2 n 0))) 2#32 = 1#1)
    ∧ (FloatOps.cmpf .oge (r (ix2 n 1)) (FloatOps.ofBits .f32 0x00000000#32) = 1#1
        ∧ FloatOps.cmpf .ole (r (ix2 n 1)) (FloatOps.ofBits .f32 0x4447C000#32) = 1#1)
    ∧ FloatOps.cmpf .oge (r (ix2 n 3)) (FloatOps.ofBits .f32 0x00000000#32) = 1#1
        ∧ FloatOps.cmpf .ole (r (ix2 n 3)) (FloatOps.ofBits .f32 0x4447C000#32) = 1#1 := by
  have : Subsingleton S_.Idx := ⟨fun a b => funext fun k => k.elim0⟩
  have e := congrFun h (Shape.Idx.first Facts.h_S_)
  unfold fn fn_part1 at e
  obtain ⟨e1, e3⟩ := andi_one e
  obtain ⟨e1, e2⟩ := andi_one e1
  have a1 := Host.reduce_andi_all _ _ _ _ _ e1 (ix1 n)
  have a2 := Host.reduce_andi_all _ _ _ _ _ e2 (ix1 n)
  have a3 := Host.reduce_andi_all _ _ _ _ _ e3 (ix1 n)
  pointwise at a1 a2 a3
  exact ⟨andi_one a1, andi_one a2, andi_one a3⟩

/-- A word that is at least 0 and below 2 is 0 or 1. -/
theorem word_lt_two {w : BitVec 32} (h : IntOp.cmpi .sge w 0#32 = 1#1 ∧ IntOp.cmpi .slt w 2#32 = 1#1) : w.toNat ≤ 1 := by
  obtain ⟨h0, h1⟩ := h
  have o (p : Bool) : (BitVec.ofBool p = 1#1) ↔ p = true := by cases p <;> decide
  simp only [IntOp.cmpi, o] at h0 h1
  have h1' : w.slt 2#32 = true := h1
  have h0' : (0#32).sle w = true := h0
  simp only [BitVec.sle, BitVec.slt, decide_eq_true_eq, BitVec.toInt, BitVec.toNat_ofNat] at h0' h1'
  omega

/-- A row clipped to [0, 40] is at most 40. -/
theorem clip_row_le (v : BitVec 32) : (IntOp.minsi 40#32 (IntOp.maxsi 0#32 v)).toNat ≤ 40 := by
  have h : (IntOp.minsi 40#32 (IntOp.maxsi 0#32 v)).toInt = min 40 (max 0 v.toInt) := by
    rw [SortNet.toInt_minsi, SortNet.toInt_maxsi]; rfl
  rw [BitVec.toInt] at h
  have := (IntOp.minsi 40#32 (IntOp.maxsi 0#32 v)).isLt
  split at h <;> omega

end Cert.Roi
-- ==== Proof.Roi.IdealRuns.lean ====
/- The launch of the ideal kernel and what one run of its body is stated over: the operations before and after
   the pallas_call, the contents of the prefetched tables, the blocks of the windows, and the side
   conditions that the body asks of the words it reads (`Hyps`). -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## @main around the region -/

/-- What the TensorCore buffers of core `c` hold when the pallas_call is entered: the launch contents after the host
    operations before it. -/
abbrev V0 (c : Dev nD) : Valuation τ sig (Elt F) := StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, hostOps0_61, hostOps0_62, hostOps0_63, hostOps0_64]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor
theorem hostOps0_15_fresh : (hostOps0_15 : List (HloOp τ sig (Elt F))).Forall fun op => op.fresh = ∅ := by
  simp only [List.Forall]; repeat' constructor
theorem hostOps0_16_fresh : (hostOps0_16 : List (HloOp τ sig (Elt F))).Forall fun op => op.fresh = ∅ := by
  simp only [List.Forall]; repeat' constructor
theorem hostOps0_17_fresh : (hostOps0_17 : List (HloOp τ sig (Elt F))).Forall fun op => op.fresh = ∅ := by
  simp only [List.Forall]; repeat' constructor
theorem hostOps0_18_fresh : (hostOps0_18 : List (HloOp τ sig (Elt F))).Forall fun op => op.fresh = ∅ := by
  simp only [List.Forall]; repeat' constructor
theorem hostOps0_19_fresh : (hostOps0_19 : List (HloOp τ sig (Elt F))).Forall fun op => op.fresh = ∅ := by
  simp only [List.Forall]; repeat' constructor
theorem hostOps0_20_fresh : (hostOps0_20 : List (HloOp τ sig (Elt F))).Forall fun op => op.fresh = ∅ := by
  simp only [List.Forall]; repeat' constructor
theorem hostOps0_21_fresh : (hostOps0_21 : List (HloOp τ sig (Elt F))).Forall fun op => op.fresh = ∅ := by
  simp only [List.Forall]; repeat' constructor
theorem hostOps0_22_fresh : (hostOps0_22 : List (HloOp τ sig (Elt F))).Forall fun op => op.fresh = ∅ := by
  simp only [List.Forall]; repeat' constructor
theorem hostOps0_23_fresh : (hostOps0_23 : List (HloOp τ sig (Elt F))).Forall fun op => op.fresh = ∅ := by
  simp only [List.Forall]; repeat' constructor
theorem hostOps0_24_fresh : (hostOps0_24 : List (HloOp τ sig (Elt F))).Forall fun op => op.fresh = ∅ := by
  simp only [List.Forall]; repeat' constructor
theorem hostOps0_25_fresh : (hostOps0_25 : List (HloOp τ sig (Elt F))).Forall fun op => op.fresh = ∅ := by
  simp only [List.Forall]; repeat' constructor
theorem hostOps0_26_fresh : (hostOps0_26 : List (HloOp τ sig (Elt F))).Forall fun op => op.fresh = ∅ := by
  simp only [List.Forall]; repeat' constructor
theorem hostOps0_27_fresh : (hostOps0_27 : List (HloOp τ sig (Elt F))).Forall fun op => op.fresh = ∅ := by
  simp only [List.Forall]; repeat' constructor
theorem hostOps0_28_fresh : (hostOps0_28 : List (HloOp τ sig (Elt F))).Forall fun op => op.fresh = ∅ := by
  simp only [List.Forall]; repeat' constructor
theorem hostOps0_29_fresh : (hostOps0_29 : List (HloOp τ sig (Elt F))).Forall fun op => op.fresh = ∅ := by
  simp only [List.Forall]; repeat' constructor
theorem hostOps0_30_fresh : (hostOps0_30 : List (HloOp τ sig (Elt F))).Forall fun op => op.fresh = ∅ := by
  simp only [List.Forall]; repeat' constructor
theorem hostOps0_31_fresh : (hostOps0_31 : List (HloOp τ sig (Elt F))).Forall fun op => op.fresh = ∅ := by
  simp only [List.Forall]; repeat' constructor
theorem hostOps0_32_fresh : (hostOps0_32 : List (HloOp τ sig (Elt F))).Forall fun op => op.fresh = ∅ := by
  simp only [List.Forall]; repeat' constructor
theorem hostOps0_33_fresh : (hostOps0_33 : List (HloOp τ sig (Elt F))).Forall fun op => op.fresh = ∅ := by
  simp only [List.Forall]; repeat' constructor
theorem hostOps0_34_fresh : (hostOps0_34 : List (HloOp τ sig (Elt F))).Forall fun op => op.fresh = ∅ := by
  simp only [List.Forall]; repeat' constructor
theorem hostOps0_35_fresh : (hostOps0_35 : List (HloOp τ sig (Elt F))).Forall fun op => op.fresh = ∅ := by
  simp only [List.Forall]; repeat' constructor
theorem hostOps0_36_fresh : (hostOps0_36 : List (HloOp τ sig (Elt F))).Forall fun op => op.fresh = ∅ := by
  simp only [List.Forall]; repeat' constructor
theorem hostOps0_37_fresh : (hostOps0_37 : List (HloOp τ sig (Elt F))).Forall fun op => op.fresh = ∅ := by
  simp only [List.Forall]; repeat' constructor
theorem hostOps0_38_fresh : (hostOps0_38 : List (HloOp τ sig (Elt F))).Forall fun op => op.fresh = ∅ := by
  simp only [List.Forall]; repeat' constructor
theorem hostOps0_39_fresh : (hostOps0_39 : List (HloOp τ sig (Elt F))).Forall fun op => op.fresh = ∅ := by
  simp only [List.Forall]; repeat' constructor
theorem hostOps0_40_fresh : (hostOps0_40 : List (HloOp τ sig (Elt F))).Forall fun op => op.fresh = ∅ := by
  simp only [List.Forall]; repeat' constructor
theorem hostOps0_41_fresh : (hostOps0_41 : List (HloOp τ sig (Elt F))).Forall fun op => op.fresh = ∅ := by
  simp only [List.Forall]; repeat' constructor
theorem hostOps0_42_fresh : (hostOps0_42 : List (HloOp τ sig (Elt F))).Forall fun op => op.fresh = ∅ := by
  simp only [List.Forall]; repeat' constructor
theorem hostOps0_43_fresh : (hostOps0_43 : List (HloOp τ sig (Elt F))).Forall fun op => op.fresh = ∅ := by
  simp only [List.Forall]; repeat' constructor
theorem hostOps0_44_fresh : (hostOps0_44 : List (HloOp τ sig (Elt F))).Forall fun op => op.fresh = ∅ := by
  simp only [List.Forall]; repeat' constructor
theorem hostOps0_45_fresh : (hostOps0_45 : List (HloOp τ sig (Elt F))).Forall fun op => op.fresh = ∅ := by
  simp only [List.Forall]; repeat' constructor
theorem hostOps0_46_fresh : (hostOps0_46 : List (HloOp τ sig (Elt F))).Forall fun op => op.fresh = ∅ := by
  simp only [List.Forall]; repeat' constructor
theorem hostOps0_47_fresh : (hostOps0_47 : List (HloOp τ sig (Elt F))).Forall fun op => op.fresh = ∅ := by
  simp only [List.Forall]; repeat' constructor
theorem hostOps0_48_fresh : (hostOps0_48 : List (HloOp τ sig (Elt F))).Forall fun op => op.fresh = ∅ := by
  simp only [List.Forall]; repeat' constructor
theorem hostOps0_49_fresh : (hostOps0_49 : List (HloOp τ sig (Elt F))).Forall fun op => op.fresh = ∅ := by
  simp only [List.Forall]; repeat' constructor
theorem hostOps0_50_fresh : (hostOps0_50 : List (HloOp τ sig (Elt F))).Forall fun op => op.fresh = ∅ := by
  simp only [List.Forall]; repeat' constructor
theorem hostOps0_51_fresh : (hostOps0_51 : List (HloOp τ sig (Elt F))).Forall fun op => op.fresh = ∅ := by
  simp only [List.Forall]; repeat' constructor
theorem hostOps0_52_fresh : (hostOps0_52 : List (HloOp τ sig (Elt F))).Forall fun op => op.fresh = ∅ := by
  simp only [List.Forall]; repeat' constructor
theorem hostOps0_53_fresh : (hostOps0_53 : List (HloOp τ sig (Elt F))).Forall fun op => op.fresh = ∅ := by
  simp only [List.Forall]; repeat' constructor
theorem hostOps0_54_fresh : (hostOps0_54 : List (HloOp τ sig (Elt F))).Forall fun op => op.fresh = ∅ := by
  simp only [List.Forall]; repeat' constructor
theorem hostOps0_55_fresh : (hostOps0_55 : List (HloOp τ sig (Elt F))).Forall fun op => op.fresh = ∅ := by
  simp only [List.Forall]; repeat' constructor
theorem hostOps0_56_fresh : (hostOps0_56 : List (HloOp τ sig (Elt F))).Forall fun op => op.fresh = ∅ := by
  simp only [List.Forall]; repeat' constructor
theorem hostOps0_57_fresh : (hostOps0_57 : List (HloOp τ sig (Elt F))).Forall fun op => op.fresh = ∅ := by
  simp only [List.Forall]; repeat' constructor
theorem hostOps0_58_fresh : (hostOps0_58 : List (HloOp τ sig (Elt F))).Forall fun op => op.fresh = ∅ := by
  simp only [List.Forall]; repeat' constructor
theorem hostOps0_59_fresh : (hostOps0_59 : List (HloOp τ sig (Elt F))).Forall fun op => op.fresh = ∅ := by
  simp only [List.Forall]; repeat' constructor
theorem hostOps0_60_fresh : (hostOps0_60 : List (HloOp τ sig (Elt F))).Forall fun op => op.fresh = ∅ := by
  simp only [List.Forall]; repeat' constructor
theorem hostOps0_61_fresh : (hostOps0_61 : List (HloOp τ sig (Elt F))).Forall fun op => op.fresh = ∅ := by
  simp only [List.Forall]; repeat' constructor
theorem hostOps0_62_fresh : (hostOps0_62 : List (HloOp τ sig (Elt F))).Forall fun op => op.fresh = ∅ := by
  simp only [List.Forall]; repeat' constructor
theorem hostOps0_63_fresh : (hostOps0_63 : List (HloOp τ sig (Elt F))).Forall fun op => op.fresh = ∅ := by
  simp only [List.Forall]; repeat' constructor
theorem hostOps0_64_fresh : (hostOps0_64 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
/-- @main is the host operations before the pallas_call, the call, and the host operations after it. -/
theorem hmain (𝒱₀ : Variants) : Pipeline.HMainPK (Ix := Unit) (Name := ℕ) (U := UR sig nD τ) (Lvl := ℕ) pcfgs 0 defs₀ 𝒱₀ m (main (F := F)) (V m)
      (fun _ => Pipeline.chain ([hostOps1].map StableHlo.seq)) :=
  Pipeline.hmainP_around pcfgs 0 defs₀ 𝒱₀ m main [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, hostOps0_61, hostOps0_62, hostOps0_63, hostOps0_64] [hostOps1] (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub, hostOps0_21_sub, hostOps0_22_sub, hostOps0_23_sub, hostOps0_24_sub, hostOps0_25_sub, hostOps0_26_sub, hostOps0_27_sub, hostOps0_28_sub, hostOps0_29_sub, hostOps0_30_sub, hostOps0_31_sub, hostOps0_32_sub, hostOps0_33_sub, hostOps0_34_sub, hostOps0_35_sub, hostOps0_36_sub, hostOps0_37_sub, hostOps0_38_sub, hostOps0_39_sub, hostOps0_40_sub, hostOps0_41_sub, hostOps0_42_sub, hostOps0_43_sub, hostOps0_44_sub, hostOps0_45_sub, hostOps0_46_sub, hostOps0_47_sub, hostOps0_48_sub, hostOps0_49_sub, hostOps0_50_sub, hostOps0_51_sub, hostOps0_52_sub, hostOps0_53_sub, hostOps0_54_sub, hostOps0_55_sub, hostOps0_56_sub, hostOps0_57_sub, hostOps0_58_sub, hostOps0_59_sub, hostOps0_60_sub, hostOps0_61_sub, hostOps0_62_sub, hostOps0_63_sub, hostOps0_64_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh, hostOps0_17_fresh, hostOps0_18_fresh, hostOps0_19_fresh, hostOps0_20_fresh, hostOps0_21_fresh, hostOps0_22_fresh, hostOps0_23_fresh, hostOps0_24_fresh, hostOps0_25_fresh, hostOps0_26_fresh, hostOps0_27_fresh, hostOps0_28_fresh, hostOps0_29_fresh, hostOps0_30_fresh, hostOps0_31_fresh, hostOps0_32_fresh, hostOps0_33_fresh, hostOps0_34_fresh, hostOps0_35_fresh, hostOps0_36_fresh, hostOps0_37_fresh, hostOps0_38_fresh, hostOps0_39_fresh, hostOps0_40_fresh, hostOps0_41_fresh, hostOps0_42_fresh, hostOps0_43_fresh, hostOps0_44_fresh, hostOps0_45_fresh, hostOps0_46_fresh, hostOps0_47_fresh, hostOps0_48_fresh, hostOps0_49_fresh, hostOps0_50_fresh, hostOps0_51_fresh, hostOps0_52_fresh, hostOps0_53_fresh, hostOps0_54_fresh, hostOps0_55_fresh, hostOps0_56_fresh, hostOps0_57_fresh, hostOps0_58_fresh, hostOps0_59_fresh, hostOps0_60_fresh, hostOps0_61_fresh, hostOps0_62_fresh, hostOps0_63_fresh, hostOps0_64_fresh⟩) main_chain

/-- The host operations after the call touch its arrays and the buffers it does not use, and no prefetched table. -/
theorem sfx_sub : ∀ ops ∈ ([hostOps1] : List (List (HloOp τ sig (Elt F)))), ∀ op ∈ ops,
    op.bufs ⊆ Pipeline.tailRefs sig pre0 spec0 := by
  intro ops hops op hop
  simp only [List.mem_cons, List.mem_nil_iff, or_false] at hops
  rcases hops with rfl
  · refine Pipeline.sub_tailRefs pre0 spec0 op ((List.forall_iff_forall_mem.mp hostOps1_sub) op hop) ?_
    simp only [hostOps1, List.mem_cons, List.mem_nil_iff, or_false] at hop
    rcases hop with rfl | rfl
    all_goals intro j; fin_cases j <;> simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton] <;> exact StableHlo.devRef_ne_of_ne (by decide)

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, hostOps0_61, hostOps0_62, hostOps0_63, hostOps0_64, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, hostOps0_61, hostOps0_62, hostOps0_63, hostOps0_64, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 5) : V m c (pre0.ref j) = tbl m j := by
  obtain rfl : c = 0 := Subsingleton.elim _ _; rfl
/-- What the pipeline asks of the tables' contents: every window whose index map reads a table has its block inside the
    array at every point. No index map of this kernel reads a table. -/
abbrev Ok : Prop := ok0 (F := F) (tbl m)
/-- The tables' contents as admissible ones, and the pipeline at them. -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S300 .i32 := Memref.whole main_v3
abbrev htbM0_0 : tbM0_0.IsWhole := Memref.isWhole_whole _
abbrev tbM0_1 : Memref sig .tc .smem S300x7 .i32 := Memref.whole main_v93
abbrev htbM0_1 : tbM0_1.IsWhole := Memref.isWhole_whole _
abbrev tbM0_2 : Memref sig .tc .smem S300x7 .i32 := Memref.whole main_v143
abbrev htbM0_2 : tbM0_2.IsWhole := Memref.isWhole_whole _
abbrev tbM0_3 : Memref sig .tc .smem S300x7 .i32 := Memref.whole main_v193
abbrev htbM0_3 : tbM0_3.IsWhole := Memref.isWhole_whole _
abbrev tbM0_4 : Memref sig .tc .smem S300x7 .i32 := Memref.whole main_v243
abbrev htbM0_4 : tbM0_4.IsWhole := Memref.isWhole_whole _

/-- The contents of a table's buffer on core `c`, and the buffer held at half of the full share at contents `f`: the body
    only reads it, and the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The halves of the tables that the body is handed and gives back, table by table. -/
theorem PhiT0_eq (c : Dev nD) : (Pipeline.ΦT pre0 (tbl m) c : sProp 𝕄) = iprop(tbPt0 c tbM0_0 (tbl m 0) ∗ tbPt0 c tbM0_1 (tbl m 1) ∗ tbPt0 c tbM0_2 (tbl m 2) ∗ tbPt0 c tbM0_3 (tbl m 3) ∗ tbPt0 c tbM0_4 (tbl m 4)) := by
  unfold Pipeline.ΦT Pipeline.prefHeld
  rw [show (Finset.univ : Finset (Fin 5)) = insert (0 : Fin 5) (insert (1 : Fin 5) (insert (2 : Fin 5) (insert (3 : Fin 5) {(4 : Fin 5)}))) from by decide,
    bigSep_insert (by decide), bigSep_insert (by decide), bigSep_insert (by decide), bigSep_insert (by decide), bigSep_singleton]
  rfl

/-- No host operation after the region writes `main_arg0`: it ends as launched. -/
theorem W_main_arg0 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg0 = m ((c : Thread nD τ).loc main_arg0) := by
  unfold Pipeline.afterTail
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host operation after the region writes `main_arg1`: it ends as launched. -/
theorem W_main_arg1 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg1 = m ((c : Thread nD τ).loc main_arg1) := by
  unfold Pipeline.afterTail
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- The staging buffer of the image operand holds its block at every point, fetched there or not, for any proof data whose
    array is the one found at entry and whose body leaves the block in place. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- From a run that ends with the pipeline's arrays at the proof data's contents and the other buffers as the last host
    operations leave them, the argument arrays end unchanged. -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (Pipeline.afterTail pcfgs (fun _ => adm m hO) dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(((h c).2 main_arg0 (by decide : main_arg0 ∈ Pipeline.restRefs sig spec0)).trans (W_main_arg0 m hO dats c)),
      (((h c).2 main_arg1 (by decide : main_arg1 ∈ Pipeline.restRefs sig spec0)).trans (W_main_arg1 m hO dats c))⟩) h

/-! ## The kernel body on any staging memrefs -/

/-- One staging buffer of the output, through which its contents are stated; which one does not matter. -/
abbrev VO0_1 : View sig .tc .vmem S1x49x512 .f32 := (Memref.whole cc0_stg1_0 : Memref sig .tc .vmem S1x49x512 .f32).view
/-- Each window's staging memref at point `t`, and that it is a whole buffer. -/
abbrev ms0_0 (hO : Ok m) (t : Fin (cfgM m hO).N) : Memref sig .tc .vmem S2x50x50x512 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x49x512 .f32 := spec0_1.stage ((cfgM m hO).slots t 1)
abbrev hs0_1 (hO : Ok m) (t : Fin (cfgM m hO).N) : (ms0_1 m hO t).IsWhole := hstage0_1 (((cfgM m hO).slots t 1).cast nbuf0_1)

/-! ## The side conditions the body assumes, as the frame's hypothesis -/

/-- What the body assumes of the words it loads from the tables, at every point: for each of the seven rows of bins, that
    the band of ten rows it loads lies inside the image operand. -/
def Hyps (m : (ℓ : Loc nD τ sig) → Buf (Elt F) ℓ) (hO : Ok m) : Prop :=
  ∀ (c : Dev nD) (t : Fin (cfgM m hO).N),
    k0_chk1 (tbM0_0.view.readAt (Elt F) (Rect.unit (s := S300) (k0_off1 (grid0.coords t)) S1.size (k0_off1_inb (grid0.coords t))).toLoadRect (tbl m 0) (Shape.Idx.first (numel1_S1.symm ▸ Nat.one_pos))) (tbM0_1.view.readAt (Elt F) (Rect.unit (s := S300x7) (k0_off2 (grid0.coords t)) S1x1.size (k0_off2_inb (grid0.coords t))).toLoadRect (tbl m 1) (Shape.Idx.first (numel1_S1x1.symm ▸ Nat.one_pos)))
    ∧ k0_chk2 (tbM0_0.view.readAt (Elt F) (Rect.unit (s := S300) (k0_off1 (grid0.coords t)) S1.size (k0_off1_inb (grid0.coords t))).toLoadRect (tbl m 0) (Shape.Idx.first (numel1_S1.symm ▸ Nat.one_pos))) (tbM0_1.view.readAt (Elt F) (Rect.unit (s := S300x7) (k0_off5 (grid0.coords t)) S1x1.size (k0_off5_inb (grid0.coords t))).toLoadRect (tbl m 1) (Shape.Idx.first (numel1_S1x1.symm ▸ Nat.one_pos)))
    ∧ k0_chk3 (tbM0_0.view.readAt (Elt F) (Rect.unit (s := S300) (k0_off1 (grid0.coords t)) S1.size (k0_off1_inb (grid0.coords t))).toLoadRect (tbl m 0) (Shape.Idx.first (numel1_S1.symm ▸ Nat.one_pos))) (tbM0_1.view.readAt (Elt F) (Rect.unit (s := S300x7) (k0_off14 (grid0.coords t)) S1x1.size (k0_off14_inb (grid0.coords t))).toLoadRect (tbl m 1) (Shape.Idx.first (numel1_S1x1.symm ▸ Nat.one_pos)))
    ∧ k0_chk4 (tbM0_0.view.readAt (Elt F) (Rect.unit (s := S300) (k0_off1 (grid0.coords t)) S1.size (k0_off1_inb (grid0.coords t))).toLoadRect (tbl m 0) (Shape.Idx.first (numel1_S1.symm ▸ Nat.one_pos))) (tbM0_1.view.readAt (Elt F) (Rect.unit (s := S300x7) (k0_off23 (grid0.coords t)) S1x1.size (k0_off23_inb (grid0.coords t))).toLoadRect (tbl m 1) (Shape.Idx.first (numel1_S1x1.symm ▸ Nat.one_pos)))
    ∧ k0_chk5 (tbM0_0.view.readAt (Elt F) (Rect.unit (s := S300) (k0_off1 (grid0.coords t)) S1.size (k0_off1_inb (grid0.coords t))).toLoadRect (tbl m 0) (Shape.Idx.first (numel1_S1.symm ▸ Nat.one_pos))) (tbM0_1.view.readAt (Elt F) (Rect.unit (s := S300x7) (k0_off32 (grid0.coords t)) S1x1.size (k0_off32_inb (grid0.coords t))).toLoadRect (tbl m 1) (Shape.Idx.first (numel1_S1x1.symm ▸ Nat.one_pos)))
    ∧ k0_chk6 (tbM0_0.view.readAt (Elt F) (Rect.unit (s := S300) (k0_off1 (grid0.coords t)) S1.size (k0_off1_inb (grid0.coords t))).toLoadRect (tbl m 0) (Shape.Idx.first (numel1_S1.symm ▸ Nat.one_pos))) (tbM0_1.view.readAt (Elt F) (Rect.unit (s := S300x7) (k0_off41 (grid0.coords t)) S1x1.size (k0_off41_inb (grid0.coords t))).toLoadRect (tbl m 1) (Shape.Idx.first (numel1_S1x1.symm ▸ Nat.one_pos)))
    ∧ k0_chk7 (tbM0_0.view.readAt (Elt F) (Rect.unit (s := S300) (k0_off1 (grid0.coords t)) S1.size (k0_off1_inb (grid0.coords t))).toLoadRect (tbl m 0) (Shape.Idx.first (numel1_S1.symm ▸ Nat.one_pos))) (tbM0_1.view.readAt (Elt F) (Rect.unit (s := S300x7) (k0_off50 (grid0.coords t)) S1x1.size (k0_off50_inb (grid0.coords t))).toLoadRect (tbl m 1) (Shape.Idx.first (numel1_S1x1.symm ▸ Nat.one_pos)))

/-! Each of the seven conditions by name: its statement, the condition taken out of `Hyps`, and `Hyps` from the seven. -/

/-- Condition 0 at point `t`: the band `k0_chk1` lies inside the operand. -/
abbrev Hyps.p0 (m : (ℓ : Loc nD τ sig) → Buf (Elt F) ℓ) (hO : Ok m) (c : Dev nD) (t : Fin (cfgM m hO).N) : Prop :=
  k0_chk1 (tbM0_0.view.readAt (Elt F) (Rect.unit (s := S300) (k0_off1 (grid0.coords t)) S1.size (k0_off1_inb (grid0.coords t))).toLoadRect (tbl m 0) (Shape.Idx.first (numel1_S1.symm ▸ Nat.one_pos))) (tbM0_1.view.readAt (Elt F) (Rect.unit (s := S300x7) (k0_off2 (grid0.coords t)) S1x1.size (k0_off2_inb (grid0.coords t))).toLoadRect (tbl m 1) (Shape.Idx.first (numel1_S1x1.symm ▸ Nat.one_pos)))
variable {m} in
theorem Hyps.c0 {hO : Ok m} (hH : Hyps m hO) (c : Dev nD) (t : Fin (cfgM m hO).N) :
    k0_chk1 (tbM0_0.view.readAt (Elt F) (Rect.unit (s := S300) (k0_off1 (grid0.coords t)) S1.size (k0_off1_inb (grid0.coords t))).toLoadRect (tbl m 0) (Shape.Idx.first (numel1_S1.symm ▸ Nat.one_pos))) (tbM0_1.view.readAt (Elt F) (Rect.unit (s := S300x7) (k0_off2 (grid0.coords t)) S1x1.size (k0_off2_inb (grid0.coords t))).toLoadRect (tbl m 1) (Shape.Idx.first (numel1_S1x1.symm ▸ Nat.one_pos))) := (hH c t).1
/-- Condition 1 at point `t`: the band `k0_chk2` lies inside the operand. -/
abbrev Hyps.p1 (m : (ℓ : Loc nD τ sig) → Buf (Elt F) ℓ) (hO : Ok m) (c : Dev nD) (t : Fin (cfgM m hO).N) : Prop :=
  k0_chk2 (tbM0_0.view.readAt (Elt F) (Rect.unit (s := S300) (k0_off1 (grid0.coords t)) S1.size (k0_off1_inb (grid0.coords t))).toLoadRect (tbl m 0) (Shape.Idx.first (numel1_S1.symm ▸ Nat.one_pos))) (tbM0_1.view.readAt (Elt F) (Rect.unit (s := S300x7) (k0_off5 (grid0.coords t)) S1x1.size (k0_off5_inb (grid0.coords t))).toLoadRect (tbl m 1) (Shape.Idx.first (numel1_S1x1.symm ▸ Nat.one_pos)))
variable {m} in
theorem Hyps.c1 {hO : Ok m} (hH : Hyps m hO) (c : Dev nD) (t : Fin (cfgM m hO).N) :
    k0_chk2 (tbM0_0.view.readAt (Elt F) (Rect.unit (s := S300) (k0_off1 (grid0.coords t)) S1.size (k0_off1_inb (grid0.coords t))).toLoadRect (tbl m 0) (Shape.Idx.first (numel1_S1.symm ▸ Nat.one_pos))) (tbM0_1.view.readAt (Elt F) (Rect.unit (s := S300x7) (k0_off5 (grid0.coords t)) S1x1.size (k0_off5_inb (grid0.coords t))).toLoadRect (tbl m 1) (Shape.Idx.first (numel1_S1x1.symm ▸ Nat.one_pos))) := (hH c t).2.1
/-- Condition 2 at point `t`: the band `k0_chk3` lies inside the operand. -/
abbrev Hyps.p2 (m : (ℓ : Loc nD τ sig) → Buf (Elt F) ℓ) (hO : Ok m) (c : Dev nD) (t : Fin (cfgM m hO).N) : Prop :=
  k0_chk3 (tbM0_0.view.readAt (Elt F) (Rect.unit (s := S300) (k0_off1 (grid0.coords t)) S1.size (k0_off1_inb (grid0.coords t))).toLoadRect (tbl m 0) (Shape.Idx.first (numel1_S1.symm ▸ Nat.one_pos))) (tbM0_1.view.readAt (Elt F) (Rect.unit (s := S300x7) (k0_off14 (grid0.coords t)) S1x1.size (k0_off14_inb (grid0.coords t))).toLoadRect (tbl m 1) (Shape.Idx.first (numel1_S1x1.symm ▸ Nat.one_pos)))
variable {m} in
theorem Hyps.c2 {hO : Ok m} (hH : Hyps m hO) (c : Dev nD) (t : Fin (cfgM m hO).N) :
    k0_chk3 (tbM0_0.view.readAt (Elt F) (Rect.unit (s := S300) (k0_off1 (grid0.coords t)) S1.size (k0_off1_inb (grid0.coords t))).toLoadRect (tbl m 0) (Shape.Idx.first (numel1_S1.symm ▸ Nat.one_pos))) (tbM0_1.view.readAt (Elt F) (Rect.unit (s := S300x7) (k0_off14 (grid0.coords t)) S1x1.size (k0_off14_inb (grid0.coords t))).toLoadRect (tbl m 1) (Shape.Idx.first (numel1_S1x1.symm ▸ Nat.one_pos))) := (hH c t).2.2.1
/-- Condition 3 at point `t`: the band `k0_chk4` lies inside the operand. -/
abbrev Hyps.p3 (m : (ℓ : Loc nD τ sig) → Buf (Elt F) ℓ) (hO : Ok m) (c : Dev nD) (t : Fin (cfgM m hO).N) : Prop :=
  k0_chk4 (tbM0_0.view.readAt (Elt F) (Rect.unit (s := S300) (k0_off1 (grid0.coords t)) S1.size (k0_off1_inb (grid0.coords t))).toLoadRect (tbl m 0) (Shape.Idx.first (numel1_S1.symm ▸ Nat.one_pos))) (tbM0_1.view.readAt (Elt F) (Rect.unit (s := S300x7) (k0_off23 (grid0.coords t)) S1x1.size (k0_off23_inb (grid0.coords t))).toLoadRect (tbl m 1) (Shape.Idx.first (numel1_S1x1.symm ▸ Nat.one_pos)))
variable {m} in
theorem Hyps.c3 {hO : Ok m} (hH : Hyps m hO) (c : Dev nD) (t : Fin (cfgM m hO).N) :
    k0_chk4 (tbM0_0.view.readAt (Elt F) (Rect.unit (s := S300) (k0_off1 (grid0.coords t)) S1.size (k0_off1_inb (grid0.coords t))).toLoadRect (tbl m 0) (Shape.Idx.first (numel1_S1.symm ▸ Nat.one_pos))) (tbM0_1.view.readAt (Elt F) (Rect.unit (s := S300x7) (k0_off23 (grid0.coords t)) S1x1.size (k0_off23_inb (grid0.coords t))).toLoadRect (tbl m 1) (Shape.Idx.first (numel1_S1x1.symm ▸ Nat.one_pos))) := (hH c t).2.2.2.1
/-- Condition 4 at point `t`: the band `k0_chk5` lies inside the operand. -/
abbrev Hyps.p4 (m : (ℓ : Loc nD τ sig) → Buf (Elt F) ℓ) (hO : Ok m) (c : Dev nD) (t : Fin (cfgM m hO).N) : Prop :=
  k0_chk5 (tbM0_0.view.readAt (Elt F) (Rect.unit (s := S300) (k0_off1 (grid0.coords t)) S1.size (k0_off1_inb (grid0.coords t))).toLoadRect (tbl m 0) (Shape.Idx.first (numel1_S1.symm ▸ Nat.one_pos))) (tbM0_1.view.readAt (Elt F) (Rect.unit (s := S300x7) (k0_off32 (grid0.coords t)) S1x1.size (k0_off32_inb (grid0.coords t))).toLoadRect (tbl m 1) (Shape.Idx.first (numel1_S1x1.symm ▸ Nat.one_pos)))
variable {m} in
theorem Hyps.c4 {hO : Ok m} (hH : Hyps m hO) (c : Dev nD) (t : Fin (cfgM m hO).N) :
    k0_chk5 (tbM0_0.view.readAt (Elt F) (Rect.unit (s := S300) (k0_off1 (grid0.coords t)) S1.size (k0_off1_inb (grid0.coords t))).toLoadRect (tbl m 0) (Shape.Idx.first (numel1_S1.symm ▸ Nat.one_pos))) (tbM0_1.view.readAt (Elt F) (Rect.unit (s := S300x7) (k0_off32 (grid0.coords t)) S1x1.size (k0_off32_inb (grid0.coords t))).toLoadRect (tbl m 1) (Shape.Idx.first (numel1_S1x1.symm ▸ Nat.one_pos))) := (hH c t).2.2.2.2.1
/-- Condition 5 at point `t`: the band `k0_chk6` lies inside the operand. -/
abbrev Hyps.p5 (m : (ℓ : Loc nD τ sig) → Buf (Elt F) ℓ) (hO : Ok m) (c : Dev nD) (t : Fin (cfgM m hO).N) : Prop :=
  k0_chk6 (tbM0_0.view.readAt (Elt F) (Rect.unit (s := S300) (k0_off1 (grid0.coords t)) S1.size (k0_off1_inb (grid0.coords t))).toLoadRect (tbl m 0) (Shape.Idx.first (numel1_S1.symm ▸ Nat.one_pos))) (tbM0_1.view.readAt (Elt F) (Rect.unit (s := S300x7) (k0_off41 (grid0.coords t)) S1x1.size (k0_off41_inb (grid0.coords t))).toLoadRect (tbl m 1) (Shape.Idx.first (numel1_S1x1.symm ▸ Nat.one_pos)))
variable {m} in
theorem Hyps.c5 {hO : Ok m} (hH : Hyps m hO) (c : Dev nD) (t : Fin (cfgM m hO).N) :
    k0_chk6 (tbM0_0.view.readAt (Elt F) (Rect.unit (s := S300) (k0_off1 (grid0.coords t)) S1.size (k0_off1_inb (grid0.coords t))).toLoadRect (tbl m 0) (Shape.Idx.first (numel1_S1.symm ▸ Nat.one_pos))) (tbM0_1.view.readAt (Elt F) (Rect.unit (s := S300x7) (k0_off41 (grid0.coords t)) S1x1.size (k0_off41_inb (grid0.coords t))).toLoadRect (tbl m 1) (Shape.Idx.first (numel1_S1x1.symm ▸ Nat.one_pos))) := (hH c t).2.2.2.2.2.1
/-- Condition 6 at point `t`: the band `k0_chk7` lies inside the operand. -/
abbrev Hyps.p6 (m : (ℓ : Loc nD τ sig) → Buf (Elt F) ℓ) (hO : Ok m) (c : Dev nD) (t : Fin (cfgM m hO).N) : Prop :=
  k0_chk7 (tbM0_0.view.readAt (Elt F) (Rect.unit (s := S300) (k0_off1 (grid0.coords t)) S1.size (k0_off1_inb (grid0.coords t))).toLoadRect (tbl m 0) (Shape.Idx.first (numel1_S1.symm ▸ Nat.one_pos))) (tbM0_1.view.readAt (Elt F) (Rect.unit (s := S300x7) (k0_off50 (grid0.coords t)) S1x1.size (k0_off50_inb (grid0.coords t))).toLoadRect (tbl m 1) (Shape.Idx.first (numel1_S1x1.symm ▸ Nat.one_pos)))
variable {m} in
theorem Hyps.c6 {hO : Ok m} (hH : Hyps m hO) (c : Dev nD) (t : Fin (cfgM m hO).N) :
    k0_chk7 (tbM0_0.view.readAt (Elt F) (Rect.unit (s := S300) (k0_off1 (grid0.coords t)) S1.size (k0_off1_inb (grid0.coords t))).toLoadRect (tbl m 0) (Shape.Idx.first (numel1_S1.symm ▸ Nat.one_pos))) (tbM0_1.view.readAt (Elt F) (Rect.unit (s := S300x7) (k0_off50 (grid0.coords t)) S1x1.size (k0_off50_inb (grid0.coords t))).toLoadRect (tbl m 1) (Shape.Idx.first (numel1_S1x1.symm ▸ Nat.one_pos))) := (hH c t).2.2.2.2.2.2
variable {m} in
theorem Hyps.of {hO : Ok m}
    (p0 : ∀ (c : Dev nD) (t : Fin (cfgM m hO).N), Hyps.p0 m hO c t)
    (p1 : ∀ (c : Dev nD) (t : Fin (cfgM m hO).N), Hyps.p1 m hO c t)
    (p2 : ∀ (c : Dev nD) (t : Fin (cfgM m hO).N), Hyps.p2 m hO c t)
    (p3 : ∀ (c : Dev nD) (t : Fin (cfgM m hO).N), Hyps.p3 m hO c t)
    (p4 : ∀ (c : Dev nD) (t : Fin (cfgM m hO).N), Hyps.p4 m hO c t)
    (p5 : ∀ (c : Dev nD) (t : Fin (cfgM m hO).N), Hyps.p5 m hO c t)
    (p6 : ∀ (c : Dev nD) (t : Fin (cfgM m hO).N), Hyps.p6 m hO c t) :
    Hyps m hO := fun c t =>
  And.intro (p0 c t) (And.intro (p1 c t) (And.intro (p2 c t) (And.intro (p3 c t) (And.intro (p4 c t) (And.intro (p5 c t) (p6 c t))))))

end Cert.KernelIdeal.Gen

end
-- ==== Proof.Roi.IdealBody.lean ====
/- One run of the body of the ideal kernel: from whole staging buffers and the five tables, under the seven side
   conditions, the body runs to its end; the pieces that its 49 stores leave in the output block are
   found by the run. -/
module

public import proofs.«01_k».proof.Proof.Roi.IdealRuns

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 2136000 in
/-- What the body's stores leave in the output block, as pieces, last first, with the proof that on whole staging memrefs,
    the input at its contents and the output at anything, the body runs to its end with the input and the tables as they
    were and the pieces written. -/
noncomputable def kernelRun0_A (c : Dev nD) (i : grid0.Coords) (arg6 : Memref sig .tc .vmem S2x50x50x512 .f32) (harg6 : arg6.IsWhole) (arg7 : Memref sig .tc .vmem S1x49x512 .f32) (harg7 : arg7.IsWhole)
    (x0 : Vec F S2x50x50x512 .f32) (xt0 : TbBuf0 (F := F) c tbM0_0) (xt1 : TbBuf0 (F := F) c tbM0_1) (xt2 : TbBuf0 (F := F) c tbM0_2) (xt3 : TbBuf0 (F := F) c tbM0_3) (xt4 : TbBuf0 (F := F) c tbM0_4) (k0_hw1 : k0_chk1 (tbM0_0.view.readAt (Elt F) (Rect.unit (s := S300) (k0_off1 i) S1.size (k0_off1_inb i)).toLoadRect xt0 (Shape.Idx.first (numel1_S1.symm ▸ Nat.one_pos))) (tbM0_1.view.readAt (Elt F) (Rect.unit (s := S300x7) (k0_off2 i) S1x1.size (k0_off2_inb i)).toLoadRect xt1 (Shape.Idx.first (numel1_S1x1.symm ▸ Nat.one_pos)))) (k0_hw2 : k0_chk2 (tbM0_0.view.readAt (Elt F) (Rect.unit (s := S300) (k0_off1 i) S1.size (k0_off1_inb i)).toLoadRect xt0 (Shape.Idx.first (numel1_S1.symm ▸ Nat.one_pos))) (tbM0_1.view.readAt (Elt F) (Rect.unit (s := S300x7) (k0_off5 i) S1x1.size (k0_off5_inb i)).toLoadRect xt1 (Shape.Idx.first (numel1_S1x1.symm ▸ Nat.one_pos)))) (k0_hw3 : k0_chk3 (tbM0_0.view.readAt (Elt F) (Rect.unit (s := S300) (k0_off1 i) S1.size (k0_off1_inb i)).toLoadRect xt0 (Shape.Idx.first (numel1_S1.symm ▸ Nat.one_pos))) (tbM0_1.view.readAt (Elt F) (Rect.unit (s := S300x7) (k0_off14 i) S1x1.size (k0_off14_inb i)).toLoadRect xt1 (Shape.Idx.first (numel1_S1x1.symm ▸ Nat.one_pos)))) (k0_hw4 : k0_chk4 (tbM0_0.view.readAt (Elt F) (Rect.unit (s := S300) (k0_off1 i) S1.size (k0_off1_inb i)).toLoadRect xt0 (Shape.Idx.first (numel1_S1.symm ▸ Nat.one_pos))) (tbM0_1.view.readAt (Elt F) (Rect.unit (s := S300x7) (k0_off23 i) S1x1.size (k0_off23_inb i)).toLoadRect xt1 (Shape.Idx.first (numel1_S1x1.symm ▸ Nat.one_pos)))) (k0_hw5 : k0_chk5 (tbM0_0.view.readAt (Elt F) (Rect.unit (s := S300) (k0_off1 i) S1.size (k0_off1_inb i)).toLoadRect xt0 (Shape.Idx.first (numel1_S1.symm ▸ Nat.one_pos))) (tbM0_1.view.readAt (Elt F) (Rect.unit (s := S300x7) (k0_off32 i) S1x1.size (k0_off32_inb i)).toLoadRect xt1 (Shape.Idx.first (numel1_S1x1.symm ▸ Nat.one_pos)))) (k0_hw6 : k0_chk6 (tbM0_0.view.readAt (Elt F) (Rect.unit (s := S300) (k0_off1 i) S1.size (k0_off1_inb i)).toLoadRect xt0 (Shape.Idx.first (numel1_S1.symm ▸ Nat.one_pos))) (tbM0_1.view.readAt (Elt F) (Rect.unit (s := S300x7) (k0_off41 i) S1x1.size (k0_off41_inb i)).toLoadRect xt1 (Shape.Idx.first (numel1_S1x1.symm ▸ Nat.one_pos)))) (k0_hw7 : k0_chk7 (tbM0_0.view.readAt (Elt F) (Rect.unit (s := S300) (k0_off1 i) S1.size (k0_off1_inb i)).toLoadRect xt0 (Shape.Idx.first (numel1_S1.symm ▸ Nat.one_pos))) (tbM0_1.view.readAt (Elt F) (Rect.unit (s := S300x7) (k0_off50 i) S1x1.size (k0_off50_inb i)).toLoadRect xt1 (Shape.Idx.first (numel1_S1x1.symm ▸ Nat.one_pos)))) :
    { L1 : List (View.Piece (Elt F) S1x49x512 .f32) //
      ∀ (E : Set ℕ) (K : PUnit → sProp 𝕄),
        iprop(owns (c : Thread nD τ) arg6 fullShare x0 ∗ (∃ d, owns (c : Thread nD τ) arg7 fullShare d) ∗ tbPt0 c tbM0_0 xt0 ∗ tbPt0 c tbM0_1 xt1 ∗ tbPt0 c tbM0_2 xt2 ∗ tbPt0 c tbM0_3 xt3 ∗ tbPt0 c tbM0_4 xt4
            ∗ (iprop(owns (c : Thread nD τ) arg6 fullShare x0 ∗ (∃ f, arg7.view.loc (c : Thread nD τ) ↦[arg7.view.set]{fullShare} arg7.view.writes (Elt F) f L1) ∗ tbPt0 c tbM0_0 xt0 ∗ tbPt0 c tbM0_1 xt1 ∗ tbPt0 c tbM0_2 xt2 ∗ tbPt0 c tbM0_3 xt3 ∗ tbPt0 c tbM0_4 xt4) -∗ K ⟨⟩))
          ⊢ wp frame (wpE (defs₀ (F := F)) Variants.none c none) E (cc0__body i tbM0_0 htbM0_0 tbM0_1 htbM0_1 tbM0_2 htbM0_2 tbM0_3 htbM0_3 tbM0_4 htbM0_4 arg6 harg6 arg7 harg7) K } := by
  refine ⟨?_, fun E K => ?run⟩
  case run =>
    simp only [cc0__body_eq_skeleton]; unfold cc0__body_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton]
    unfold owns
    iintro ⟨⟨%f0, %hf0, H0⟩, ⟨%d1, %f1, -, H1⟩, HT0, HT1, HT2, HT3, HT4, Hk⟩
    obtain rfl := harg6.eq_unread hf0
    sl_exec (disch := first | sl_exact k0_hw1 | sl_exact k0_hw2 | sl_exact k0_hw3 | sl_exact k0_hw4 | sl_exact k0_hw5 | sl_exact k0_hw6 | sl_exact k0_hw7)
    sl_step
    iapply Hk
    isplitl [H0]
    · iexists _; isplitr; · ipureintro; exact harg6.read_unread _
      iexact H0
    isplitl [H1]; · iexists _; iexact H1
    isplitl [HT0]; · iexact HT0
    isplitl [HT1]; · iexact HT1
    isplitl [HT2]; · iexact HT2
    isplitl [HT3]; · iexact HT3
    iexact HT4

end Cert.KernelIdeal.Gen

end
-- ==== Proof.Roi.IdealFrame.lean ====
/- The run of the whole program around the body of the ideal kernel: what the output block holds after every
   grid point, the proof data of the pipeline, the obligation of the body, and the run of @main. -/
module

public import proofs.«01_k».proof.Proof.Roi.IdealBody
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- The 49 pieces, one bin's channels each, tile the output block, so they cover it. -/
theorem cover0_A_1 (c : Dev nD) (i : grid0.Coords) (arg6 : Memref sig .tc .vmem S2x50x50x512 .f32) (harg6 : arg6.IsWhole) (arg7 : Memref sig .tc .vmem S1x49x512 .f32) (harg7 : arg7.IsWhole)
    (x0 : Vec F S2x50x50x512 .f32) (xt0 : TbBuf0 (F := F) c tbM0_0) (xt1 : TbBuf0 (F := F) c tbM0_1) (xt2 : TbBuf0 (F := F) c tbM0_2) (xt3 : TbBuf0 (F := F) c tbM0_3) (xt4 : TbBuf0 (F := F) c tbM0_4) (k0_hw1 : k0_chk1 (tbM0_0.view.readAt (Elt F) (Rect.unit (s := S300) (k0_off1 i) S1.size (k0_off1_inb i)).toLoadRect xt0 (Shape.Idx.first (numel1_S1.symm ▸ Nat.one_pos))) (tbM0_1.view.readAt (Elt F) (Rect.unit (s := S300x7) (k0_off2 i) S1x1.size (k0_off2_inb i)).toLoadRect xt1 (Shape.Idx.first (numel1_S1x1.symm ▸ Nat.one_pos)))) (k0_hw2 : k0_chk2 (tbM0_0.view.readAt (Elt F) (Rect.unit (s := S300) (k0_off1 i) S1.size (k0_off1_inb i)).toLoadRect xt0 (Shape.Idx.first (numel1_S1.symm ▸ Nat.one_pos))) (tbM0_1.view.readAt (Elt F) (Rect.unit (s := S300x7) (k0_off5 i) S1x1.size (k0_off5_inb i)).toLoadRect xt1 (Shape.Idx.first (numel1_S1x1.symm ▸ Nat.one_pos)))) (k0_hw3 : k0_chk3 (tbM0_0.view.readAt (Elt F) (Rect.unit (s := S300) (k0_off1 i) S1.size (k0_off1_inb i)).toLoadRect xt0 (Shape.Idx.first (numel1_S1.symm ▸ Nat.one_pos))) (tbM0_1.view.readAt (Elt F) (Rect.unit (s := S300x7) (k0_off14 i) S1x1.size (k0_off14_inb i)).toLoadRect xt1 (Shape.Idx.first (numel1_S1x1.symm ▸ Nat.one_pos)))) (k0_hw4 : k0_chk4 (tbM0_0.view.readAt (Elt F) (Rect.unit (s := S300) (k0_off1 i) S1.size (k0_off1_inb i)).toLoadRect xt0 (Shape.Idx.first (numel1_S1.symm ▸ Nat.one_pos))) (tbM0_1.view.readAt (Elt F) (Rect.unit (s := S300x7) (k0_off23 i) S1x1.size (k0_off23_inb i)).toLoadRect xt1 (Shape.Idx.first (numel1_S1x1.symm ▸ Nat.one_pos)))) (k0_hw5 : k0_chk5 (tbM0_0.view.readAt (Elt F) (Rect.unit (s := S300) (k0_off1 i) S1.size (k0_off1_inb i)).toLoadRect xt0 (Shape.Idx.first (numel1_S1.symm ▸ Nat.one_pos))) (tbM0_1.view.readAt (Elt F) (Rect.unit (s := S300x7) (k0_off32 i) S1x1.size (k0_off32_inb i)).toLoadRect xt1 (Shape.Idx.first (numel1_S1x1.symm ▸ Nat.one_pos)))) (k0_hw6 : k0_chk6 (tbM0_0.view.readAt (Elt F) (Rect.unit (s := S300) (k0_off1 i) S1.size (k0_off1_inb i)).toLoadRect xt0 (Shape.Idx.first (numel1_S1.symm ▸ Nat.one_pos))) (tbM0_1.view.readAt (Elt F) (Rect.unit (s := S300x7) (k0_off41 i) S1x1.size (k0_off41_inb i)).toLoadRect xt1 (Shape.Idx.first (numel1_S1x1.symm ▸ Nat.one_pos)))) (k0_hw7 : k0_chk7 (tbM0_0.view.readAt (Elt F) (Rect.unit (s := S300) (k0_off1 i) S1.size (k0_off1_inb i)).toLoadRect xt0 (Shape.Idx.first (numel1_S1.symm ▸ Nat.one_pos))) (tbM0_1.view.readAt (Elt F) (Rect.unit (s := S300x7) (k0_off50 i) S1x1.size (k0_off50_inb i)).toLoadRect xt1 (Shape.Idx.first (numel1_S1x1.symm ▸ Nat.one_pos)))) (y : S1x49x512.Idx) :
    ∃ pc ∈ (kernelRun0_A c i arg6 harg6 arg7 harg7 x0 xt0 xt1 xt2 xt3 xt4 k0_hw1 k0_hw2 k0_hw3 k0_hw4 k0_hw5 k0_hw6 k0_hw7).1, y ∈ pc.1.set :=
  View.cover_of_tiledL (kernelRun0_A c i arg6 harg6 arg7 harg7 x0 xt0 xt1 xt2 xt3 xt4 k0_hw1 k0_hw2 k0_hw3 k0_hw4 k0_hw5 k0_hw6 k0_hw7).1 S1x1x512.size (by sl_kernel_rfl) y

/-- What the run leaves in the output's staging buffer: its pieces, read back. -/
def out0_A_1 (c : Dev nD) (i : grid0.Coords) (arg6 : Memref sig .tc .vmem S2x50x50x512 .f32) (harg6 : arg6.IsWhole) (arg7 : Memref sig .tc .vmem S1x49x512 .f32) (harg7 : arg7.IsWhole)
    (x0 : Vec F S2x50x50x512 .f32) (xt0 : TbBuf0 (F := F) c tbM0_0) (xt1 : TbBuf0 (F := F) c tbM0_1) (xt2 : TbBuf0 (F := F) c tbM0_2) (xt3 : TbBuf0 (F := F) c tbM0_3) (xt4 : TbBuf0 (F := F) c tbM0_4) (k0_hw1 : k0_chk1 (tbM0_0.view.readAt (Elt F) (Rect.unit (s := S300) (k0_off1 i) S1.size (k0_off1_inb i)).toLoadRect xt0 (Shape.Idx.first (numel1_S1.symm ▸ Nat.one_pos))) (tbM0_1.view.readAt (Elt F) (Rect.unit (s := S300x7) (k0_off2 i) S1x1.size (k0_off2_inb i)).toLoadRect xt1 (Shape.Idx.first (numel1_S1x1.symm ▸ Nat.one_pos)))) (k0_hw2 : k0_chk2 (tbM0_0.view.readAt (Elt F) (Rect.unit (s := S300) (k0_off1 i) S1.size (k0_off1_inb i)).toLoadRect xt0 (Shape.Idx.first (numel1_S1.symm ▸ Nat.one_pos))) (tbM0_1.view.readAt (Elt F) (Rect.unit (s := S300x7) (k0_off5 i) S1x1.size (k0_off5_inb i)).toLoadRect xt1 (Shape.Idx.first (numel1_S1x1.symm ▸ Nat.one_pos)))) (k0_hw3 : k0_chk3 (tbM0_0.view.readAt (Elt F) (Rect.unit (s := S300) (k0_off1 i) S1.size (k0_off1_inb i)).toLoadRect xt0 (Shape.Idx.first (numel1_S1.symm ▸ Nat.one_pos))) (tbM0_1.view.readAt (Elt F) (Rect.unit (s := S300x7) (k0_off14 i) S1x1.size (k0_off14_inb i)).toLoadRect xt1 (Shape.Idx.first (numel1_S1x1.symm ▸ Nat.one_pos)))) (k0_hw4 : k0_chk4 (tbM0_0.view.readAt (Elt F) (Rect.unit (s := S300) (k0_off1 i) S1.size (k0_off1_inb i)).toLoadRect xt0 (Shape.Idx.first (numel1_S1.symm ▸ Nat.one_pos))) (tbM0_1.view.readAt (Elt F) (Rect.unit (s := S300x7) (k0_off23 i) S1x1.size (k0_off23_inb i)).toLoadRect xt1 (Shape.Idx.first (numel1_S1x1.symm ▸ Nat.one_pos)))) (k0_hw5 : k0_chk5 (tbM0_0.view.readAt (Elt F) (Rect.unit (s := S300) (k0_off1 i) S1.size (k0_off1_inb i)).toLoadRect xt0 (Shape.Idx.first (numel1_S1.symm ▸ Nat.one_pos))) (tbM0_1.view.readAt (Elt F) (Rect.unit (s := S300x7) (k0_off32 i) S1x1.size (k0_off32_inb i)).toLoadRect xt1 (Shape.Idx.first (numel1_S1x1.symm ▸ Nat.one_pos)))) (k0_hw6 : k0_chk6 (tbM0_0.view.readAt (Elt F) (Rect.unit (s := S300) (k0_off1 i) S1.size (k0_off1_inb i)).toLoadRect xt0 (Shape.Idx.first (numel1_S1.symm ▸ Nat.one_pos))) (tbM0_1.view.readAt (Elt F) (Rect.unit (s := S300x7) (k0_off41 i) S1x1.size (k0_off41_inb i)).toLoadRect xt1 (Shape.Idx.first (numel1_S1x1.symm ▸ Nat.one_pos)))) (k0_hw7 : k0_chk7 (tbM0_0.view.readAt (Elt F) (Rect.unit (s := S300) (k0_off1 i) S1.size (k0_off1_inb i)).toLoadRect xt0 (Shape.Idx.first (numel1_S1.symm ▸ Nat.one_pos))) (tbM0_1.view.readAt (Elt F) (Rect.unit (s := S300x7) (k0_off50 i) S1x1.size (k0_off50_inb i)).toLoadRect xt1 (Shape.Idx.first (numel1_S1x1.symm ▸ Nat.one_pos)))) : Vec F S1x49x512 .f32 :=
  VO0_1.read (Elt F) (VO0_1.writes (Elt F) VO0_1.junk (kernelRun0_A c i arg6 harg6 arg7 harg7 x0 xt0 xt1 xt2 xt3 xt4 k0_hw1 k0_hw2 k0_hw3 k0_hw4 k0_hw5 k0_hw6 k0_hw7).1)

/-! ## What the outputs hold after each point -/

/-- What the outputs' staging buffers hold after the body at point `t`: the run's contents at
    the point's memrefs and input blocks. -/
def outsAt0 (hO : Ok m) (hH : Hyps m hO) (c : Dev nD) (t : Fin (cfgM m hO).N) : Vec F S1x49x512 .f32 :=
  out0_A_1 c (grid0.coords t) (ms0_0 m hO t) (hs0_0 m hO t) (ms0_1 m hO t) (hs0_1 m hO t) (iblk m hO c 0 t) (tbl m 0) (tbl m 1) (tbl m 2) (tbl m 3) (tbl m 4) (Hyps.c0 hH c t) (Hyps.c1 hH c t) (Hyps.c2 hH c t) (Hyps.c3 hH c t) (Hyps.c4 hH c t) (Hyps.c5 hH c t) (Hyps.c6 hH c t)

/-! ## The pipeline's proof data -/

/-- The proof data of the pipeline on core `c`: the arrays as the call finds them; after the body at point `t` the input's
    buffer at its block and the output's at `outsAt0`; as invariant the scoped rest and the halves of the tables. -/
def dats (hO : Ok m) (hH : Hyps m hO) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => (outsAt0 m hO hH c t)
  Φ _ := iprop(Pipeline.ΦA spec0 c ∗ Pipeline.ΦT pre0 (tbl m) c)
  q _ := fullShare
  owed _ := 0

/-- The proof data's arrays are what the call finds at entry. -/
theorem A_eq (hO : Ok m) (hH : Hyps m hO) (c : Dev nD) (w : Fin (cfgM m hO).W) : (dats m hO hH 0 c).A w = V m c (Pipeline.arrRef spec0 w) := by
  dsimp only [dats]

/-- What the body leaves, window by window. -/
theorem after0_0 (hO : Ok m) (hH : Hyps m hO) (c : Dev nD) (t : Fin (cfgM m hO).N) : (dats m hO hH 0 c).after 0 t = iblk m hO c 0 t := by dsimp only [dats]; try rfl
theorem after0_1 (hO : Ok m) (hH : Hyps m hO) (c : Dev nD) (t : Fin (cfgM m hO).N) : (dats m hO hH 0 c).after 1 t = (outsAt0 m hO hH c t) := by dsimp only [dats]; try rfl

/-- The input's staging buffer holds its block at every point, fetched there or not. -/
theorem before0_0 (hO : Ok m) (hH : Hyps m hO) (c : Dev nD) (t : Fin (cfgM m hO).N) (d) : (dats m hO hH 0 c).before 0 t d = iblk m hO c 0 t :=
  before0_0_of m hO (dats m hO hH 0 c) (A_eq m hO hH c 0) (after0_0 m hO hH c) t d

/-! ## The body obligation, at a generic point -/

/-- What the body is called with at point `t`, window by window, -/
def bodyPre (hO : Ok m) (hH : Hyps m hO) (c : Dev nD) (t : Fin (cfgM m hO).N) : sProp 𝕄 :=
  iprop((dats m hO hH 0 c).Φ t.castSucc ∗ (dats m hO hH 0 c).owesAt () t.castSucc
    ∗ (∃ d, owns (c : Thread nD τ) (ms0_0 m hO t) fullShare ((dats m hO hH 0 c).before 0 t d))
    ∗ (∃ d, owns (c : Thread nD τ) (ms0_1 m hO t) fullShare ((dats m hO hH 0 c).before 1 t d)))

/-- and what it returns. -/
def bodyPost (hO : Ok m) (hH : Hyps m hO) (c : Dev nD) (t : Fin (cfgM m hO).N) : sProp 𝕄 :=
  iprop((dats m hO hH 0 c).Φ t.succ ∗ (dats m hO hH 0 c).owesAt () t.succ
    ∗ owns (c : Thread nD τ) (ms0_0 m hO t) fullShare ((dats m hO hH 0 c).after 0 t)
    ∗ owns (c : Thread nD τ) (ms0_1 m hO t) fullShare ((dats m hO hH 0 c).after 1 t))

/-- The body meets its obligation at any point: the input holds its block, so the run applies, and nothing is owed. -/
theorem sound_body (hO : Ok m) (hH : Hyps m hO) (c : Dev nD) (t : Fin (cfgM m hO).N) :
    bodyPre m hO hH c t ⊢ wp frame (wpE (defs₀ (F := F)) Variants.none c none) Set.univ (bodyAt0 (adm m hO) t) (fun _ => bodyPost m hO hH c t) := by
  unfold bodyPre bodyPost bodyAt0
  simp only [before0_0]
  rw [show (dats m hO hH 0 c).Φ t.succ = (dats m hO hH 0 c).Φ t.castSucc from rfl,
    show (dats m hO hH 0 c).owesAt () t.succ = (dats m hO hH 0 c).owesAt () t.castSucc from rfl,
    after0_0, after0_1]
  rw [show (dats m hO hH 0 c).Φ t.castSucc = iprop(Pipeline.ΦA spec0 c ∗ Pipeline.ΦT pre0 (tbl m) c) from rfl, PhiT0_eq]
  unfold outsAt0
  unfold out0_A_1
  iintro ⟨⟨HΦ, ⟨HT0, HT1, HT2, HT3, HT4⟩⟩, Ho, ⟨%d0, H0⟩, ⟨%d1, H1⟩⟩
  iapply ((kernelRun0_A c (grid0.coords t) _ _ _ _ (iblk m hO c 0 t) (tbl m 0) (tbl m 1) (tbl m 2) (tbl m 3) (tbl m 4) (Hyps.c0 hH c t) (Hyps.c1 hH c t) (Hyps.c2 hH c t) (Hyps.c3 hH c t) (Hyps.c4 hH c t) (Hyps.c5 hH c t) (Hyps.c6 hH c t)).2 Set.univ _)
  isplitl [H0]; · iexact H0
  isplitl [H1]; · iexists _; iexact H1
  isplitl [HT0]; · iexact HT0
  isplitl [HT1]; · iexact HT1
  isplitl [HT2]; · iexact HT2
  isplitl [HT3]; · iexact HT3
  isplitl [HT4]; · iexact HT4
  iintro ⟨H0, ⟨%e1, H1⟩, HT0, HT1, HT2, HT3, HT4⟩
  isplitl [HΦ HT0 HT1 HT2 HT3 HT4]
  · isplitl [HΦ]
    · iexact HΦ
    isplitl [HT0]; · iexact HT0
    isplitl [HT1]; · iexact HT1
    isplitl [HT2]; · iexact HT2
    isplitl [HT3]; · iexact HT3
    iexact HT4
  isplitl [Ho]; · iexact Ho
  isplitl [H0]; · iexact H0
  unfold owns; iexists _; isplitr
  swap; · iexact H1
  ipureintro; exact View.read_writes_of_cover _ _ _ _ _ (cover0_A_1 c _ _ _ _ _ _ _ _ _ _ _ _ _ _ _ _ _ _)

/-- The body called at point `t` is the kernel body at the staging memrefs of that point. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The obligation of the body at every point, as the pipeline's launch asks for it. -/
theorem body_obligation (hO : Ok m) (hH : Hyps m hO) (c : Dev nD) : BodyObligation (dats (F := F) m hO hH 0 c) (defs₀ (F := F)) Variants.none () Set.univ := fun t => by
  rw [bigSep_W0, bigSep_W0, defs₀_row m hO]
  exact triple_restated (sound_body m hO hH c t) rfl .rfl fun _ => .rfl

/-! ## The run and the frame -/

set_option backward.isDefEq.respectTransparency.types false in
set_option maxHeartbeats 800000 in
/-- The run of @main, and every semaphore counter of the machine at zero at its end. -/
theorem run_main_quiescent (hO : Ok m) (hH : Hyps m hO) : θ_run defs (onTc (τ := τ) (main (F := F))) (s₀ m ρ) (fun r => (Pipeline.FramePost (Pipeline.pin pcfgs fun _ => adm m hO) (dats m hO hH) 0 (Pipeline.afterTail pcfgs (fun _ => adm m hO) (dats m hO hH) 0 (V0 m) [hostOps1])) r ∧ r.2.sem = fun _ => 0) :=
  Pipeline.θ_run_frameP_around (Q' := _) pcfgs (fun _ => adm m hO) (dats m hO hH) (0 : Fin 1) launch0 defs₀ Variants.none m ρ main
    (hbody := fun c => (body_obligation m hO hH c).loose) (hshare := fun c => (dats m hO hH 0 c).share_full fun _ => rfl)
    (howed := fun _ _ => rfl) (V₀ := V0 m) (opss := [hostOps1]) (hsub := sfx_sub) (hfresh := sfx_fresh) (hkeep := sfx_keeps)
    (hmain := hmain m Variants.none) (hA := A_eq m hO hH) (hpf := V_pre m) (hΦ := fun _ _ => rfl)

/-- For any values, from any memory with zero counters: every weakly fair execution of @main terminates, and every final
    state has every array of the pipeline at what the proof data give and every other buffer as the host operations after
    the call leave it. -/
theorem run_main (hO : Ok m) (hH : Hyps m hO) : θ_run defs (onTc (τ := τ) (main (F := F))) (s₀ m ρ) (Pipeline.FramePost (Pipeline.pin pcfgs fun _ => adm m hO) (dats m hO hH) 0 (Pipeline.afterTail pcfgs (fun _ => adm m hO) (dats m hO hH) 0 (V0 m) [hostOps1])) :=
  (θ_run defs _ _).mono (fun _ h => h.1) (run_main_quiescent m ρ hO hH)

/-- The argument arrays end unchanged. -/
theorem unchanged (hO : Ok m) (hH : Hyps m hO) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ hO (dats m hO hH) (A_eq m hO hH) (run_main m ρ hO hH)

/-- The program runs, its argument arrays end unchanged, and every counter ends at zero, for tables that meet the seven
    conditions. -/
theorem frame (hO : Ok m) (hH : Hyps m hO) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ hO hH) ((θ_run defs _ _).mono (fun _ h => h.2) (run_main_quiescent m ρ hO hH))

end Cert.KernelIdeal.Gen

end
-- ==== Proof.Roi.IdealHyps.lean ====
/- The side conditions of the kernel over extended reals, from the precondition: each of the seven says that the band of
   ten rows, of the region's image, that starts at the clipped first row of a bin lies inside the image array. -/
module

public import proofs.«01_k».proof.Defs
public import proofs.«01_k».proof.Proof.Roi.IdealFrame
public import proofs.«01_k».proof.Proof.Roi.Pre
public import Idealize.ShloMosaic.Lib.StableHlo.ReadAt

@[expose] public section

set_option maxRecDepth 16384

namespace Cert.KernelIdeal.Gen

open Idealize.ShloMosaic Idealize.ShloMosaic.TcCoe

variable {F : FTy → Type} [FloatOps F] [Named F]

/-- The first table holds the regions' image numbers, the first column of the rois rounded to integers. -/
theorem tbl0_at (m : (ℓ : Loc nD τ sig) → Buf (Elt F) ℓ) (n : Fin 300) :
    tbl m 0 (ix1 n : S300.Idx) = FloatOps.fptosi (F := F) (φ := .f32) 32 (m (((0 : Dev nD).tc : Thread nD τ).loc main_arg1) (ix2 n 0)) := by
  show V m 0 main_v3 (ix1 n) = _
  simp only [V, V0, List.flatten_cons, List.flatten_nil, List.append_nil]
  after_reads_at

/-- Under the precondition every word of the first table is 0 or 1. -/
theorem tbl0_le (m : (ℓ : Loc nD τ sig) → Buf (Elt F) ℓ)
    (h : Cert.Pre_rois_in_range.fn (F := F) (m (((0 : Dev nD).tc : Thread nD τ).loc main_arg0)) (m (((0 : Dev nD).tc : Thread nD τ).loc main_arg1)) = fun _ => 1#1) (i : S300.Idx) :
    BitVec.toNat (w := 32) (tbl m 0 i) ≤ 1 := by
  have e : i = ix1 (i 0) := by funext a; fin_cases a; rfl
  have q := (congrArg (tbl m 0 : S300.Idx → BitVec 32) e).trans (tbl0_at m (i 0))
  exact (congrArg (BitVec.toNat (w := 32)) q).trans_le (Cert.Roi.word_lt_two (Cert.Roi.pre_at _ _ h (i 0)).1)

/-- A band of ten rows of image 0 or 1, starting at a row clipped to [0, 40], lies inside the array of two images of
    fifty rows. -/
theorem band_inb (v1 v5 : BitVec 32) (h : v1.toNat ≤ 1) : k0_chk1 v1 v5 := by
  have h2 : (IntOp.minsi 40#32 (IntOp.maxsi 0#32 v5)).toNat ≤ 40 := Cert.Roi.clip_row_le v5
  unfold k0_chk1 k0_off3
  intro a
  fin_cases a
  · show (Scalar.indexCast v1).toNat + 1 ≤ 2
    have : (Scalar.indexCast v1).toNat = v1.toNat := rfl
    omega
  · show (IntOp.minsi 40#32 (IntOp.maxsi 0#32 v5)).toNat + 10 ≤ 50
    omega
  · show 0 + 50 ≤ 50; omega
  · show 0 + 512 ≤ 512; omega

/-- No index map reads a table, so nothing is asked of the tables' words there. -/
theorem ok_all (m : (ℓ : Loc nD τ sig) → Buf (Elt F) ℓ) : Ok m := trivial

/-- The seven side conditions hold under the precondition. -/
theorem hyps_of_pre (m : (ℓ : Loc nD τ sig) → Buf (Elt F) ℓ)
    (h : Cert.Pre_rois_in_range.fn (F := F) (m (((0 : Dev nD).tc : Thread nD τ).loc main_arg0)) (m (((0 : Dev nD).tc : Thread nD τ).loc main_arg1)) = fun _ => 1#1) (hO : Ok m) :
    Hyps m hO := by
  have w : ∀ t : Fin (cfgM m hO).N, BitVec.toNat (w := 32) (tbM0_0.view.readAt (Elt F) (Rect.unit (s := S300) (k0_off1 (grid0.coords t)) S1.size (k0_off1_inb (grid0.coords t))).toLoadRect (tbl m 0) (Shape.Idx.first (numel1_S1.symm ▸ Nat.one_pos))) ≤ 1 :=
    fun t => tbl0_le m h _
  exact Hyps.of (fun _ t => band_inb _ _ (w t)) (fun _ t => band_inb _ _ (w t)) (fun _ t => band_inb _ _ (w t)) (fun _ t => band_inb _ _ (w t))
    (fun _ t => band_inb _ _ (w t)) (fun _ t => band_inb _ _ (w t)) (fun _ t => band_inb _ _ (w t))

end Cert.KernelIdeal.Gen
-- ==== Proof.Roi.RefOps.lean ====
/- The reference's host operations as lists, in the order of the program: its @main runs them one after the
   other, each touches buffers of the one core only and none waits. -/
module

public import proofs.«01_k».proof.Proof.Gen.ReferenceIdeal
public import Idealize.ShloMosaic.Lib.StableHlo.Run
public import Idealize.ShloMosaic.Lib.Pipeline.Frame
public import Idealize.ShloMosaic.Lib.StableHlo.RunHlo

@[expose] public section

set_option Elab.async false

noncomputable section

namespace Cert.ReferenceIdeal.Roi

open Cert.ReferenceIdeal Cert.ReferenceIdeal.Gen Idealize.ShloMosaic Idealize.ShloMosaic.TcCoe Idealize.SL.Sem Idealize.ShloMosaic.StableHlo

variable {F : FTy → Type} [FloatOps F]

/-- The function of the operation that writes `main_v123`, the windows' start indices, with its operands as plain
    arguments. -/
def fn_main_v123 : (main_v119 : Ref sig .tc).ty.Contents (Elt F) → (main_v122 : Ref sig .tc).ty.Contents (Elt F) → (main_v117 : Ref sig .tc).ty.Contents (Elt F) → (main_v121 : Ref sig .tc).ty.Contents (Elt F) → (main_v123 : Ref sig .tc).ty.Contents (Elt F) :=
  (fun u0 u1 u2 u3 => (concatenate S300x7x7x4 3 [⟨S300x7x7x1, (u0 : (⟨S300x7x7x1, .i32⟩ : BufTy).Contents (Elt F))⟩, ⟨S300x7x7x1, (u1 : (⟨S300x7x7x1, .i32⟩ : BufTy).Contents (Elt F))⟩, ⟨S300x7x7x1, (u2 : (⟨S300x7x7x1, .i32⟩ : BufTy).Contents (Elt F))⟩, ⟨S300x7x7x1, (u3 : (⟨S300x7x7x1, .i32⟩ : BufTy).Contents (Elt F))⟩] concatenates_S300x7x7x1_S300x7x7x1_S300x7x7x1_S300x7x7x1_S300x7x7x4_d3 : (⟨S300x7x7x4, .i32⟩ : BufTy).Contents (Elt F)))

/-- @main's operations 1 … 60 of 242 (window `main_part0`). -/
abbrev ops_part0 : List (HloOp τ sig (Elt F)) :=
  [ unary main_arg1 main_v0 ((extractStridedSlice S300x1 ![0, 0] · slices_S300x5_S300x1_0_0) : (⟨S300x5, .f32⟩ : BufTy).Contents (Elt F) → (⟨S300x1, .f32⟩ : BufTy).Contents (Elt F)),
    reshape main_v0 main_v1 (rfl : (.f32 : EltTy) = .f32) shapeCasts_S300x1_S300,
    unary main_v1 main_v2 (fptosi 32 : (⟨S300, .f32⟩ : BufTy).Contents (Elt F) → (⟨S300, .i32⟩ : BufTy).Contents (Elt F)),
    unary main_arg1 main_v3 ((extractStridedSlice S300x1 ![0, 1] · slices_S300x5_S300x1_0_1) : (⟨S300x5, .f32⟩ : BufTy).Contents (Elt F) → (⟨S300x1, .f32⟩ : BufTy).Contents (Elt F)),
    reshape main_v3 main_v4 (rfl : (.f32 : EltTy) = .f32) shapeCasts_S300x1_S300,
    nullary main_cst (constant S_ .f32 0x3D800000#32),
    unary main_cst main_v5 (broadcastInDim S300 ![] bcast_S_S300 : (⟨S_, .f32⟩ : BufTy).Contents (Elt F) → (⟨S300, .f32⟩ : BufTy).Contents (Elt F)),
    binary main_v4 main_v5 main_v6 (mulf : (⟨S300, .f32⟩ : BufTy).Contents (Elt F) → (⟨S300, .f32⟩ : BufTy).Contents (Elt F) → (⟨S300, .f32⟩ : BufTy).Contents (Elt F)),
    TRef.unary (TRef.of (T := ⟨S300, .f32⟩) main_v6) (TRef.of (T := ⟨S300, .f32⟩) main_v7) Host.roundeven,
    unary main_v7 main_v8 (fptosi 32 : (⟨S300, .f32⟩ : BufTy).Contents (Elt F) → (⟨S300, .i32⟩ : BufTy).Contents (Elt F)),
    unary main_arg1 main_v9 ((extractStridedSlice S300x1 ![0, 2] · slices_S300x5_S300x1_0_2) : (⟨S300x5, .f32⟩ : BufTy).Contents (Elt F) → (⟨S300x1, .f32⟩ : BufTy).Contents (Elt F)),
    reshape main_v9 main_v10 (rfl : (.f32 : EltTy) = .f32) shapeCasts_S300x1_S300,
    nullary main_cst_0 (constant S_ .f32 0x3D800000#32),
    unary main_cst_0 main_v11 (broadcastInDim S300 ![] bcast_S_S300 : (⟨S_, .f32⟩ : BufTy).Contents (Elt F) → (⟨S300, .f32⟩ : BufTy).Contents (Elt F)),
    binary main_v10 main_v11 main_v12 (mulf : (⟨S300, .f32⟩ : BufTy).Contents (Elt F) → (⟨S300, .f32⟩ : BufTy).Contents (Elt F) → (⟨S300, .f32⟩ : BufTy).Contents (Elt F)),
    TRef.unary (TRef.of (T := ⟨S300, .f32⟩) main_v12) (TRef.of (T := ⟨S300, .f32⟩) main_v13) Host.roundeven,
    unary main_v13 main_v14 (fptosi 32 : (⟨S300, .f32⟩ : BufTy).Contents (Elt F) → (⟨S300, .i32⟩ : BufTy).Contents (Elt F)),
    unary main_arg1 main_v15 ((extractStridedSlice S300x1 ![0, 3] · slices_S300x5_S300x1_0_3) : (⟨S300x5, .f32⟩ : BufTy).Contents (Elt F) → (⟨S300x1, .f32⟩ : BufTy).Contents (Elt F)),
    reshape main_v15 main_v16 (rfl : (.f32 : EltTy) = .f32) shapeCasts_S300x1_S300,
    nullary main_cst_1 (constant S_ .f32 0x3D800000#32),
    unary main_cst_1 main_v17 (broadcastInDim S300 ![] bcast_S_S300 : (⟨S_, .f32⟩ : BufTy).Contents (Elt F) → (⟨S300, .f32⟩ : BufTy).Contents (Elt F)),
    binary main_v16 main_v17 main_v18 (mulf : (⟨S300, .f32⟩ : BufTy).Contents (Elt F) → (⟨S300, .f32⟩ : BufTy).Contents (Elt F) → (⟨S300, .f32⟩ : BufTy).Contents (Elt F)),
    TRef.unary (TRef.of (T := ⟨S300, .f32⟩) main_v18) (TRef.of (T := ⟨S300, .f32⟩) main_v19) Host.roundeven,
    unary main_v19 main_v20 (fptosi 32 : (⟨S300, .f32⟩ : BufTy).Contents (Elt F) → (⟨S300, .i32⟩ : BufTy).Contents (Elt F)),
    unary main_arg1 main_v21 ((extractStridedSlice S300x1 ![0, 4] · slices_S300x5_S300x1_0_4) : (⟨S300x5, .f32⟩ : BufTy).Contents (Elt F) → (⟨S300x1, .f32⟩ : BufTy).Contents (Elt F)),
    reshape main_v21 main_v22 (rfl : (.f32 : EltTy) = .f32) shapeCasts_S300x1_S300,
    nullary main_cst_2 (constant S_ .f32 0x3D800000#32),
    unary main_cst_2 main_v23 (broadcastInDim S300 ![] bcast_S_S300 : (⟨S_, .f32⟩ : BufTy).Contents (Elt F) → (⟨S300, .f32⟩ : BufTy).Contents (Elt F)),
    binary main_v22 main_v23 main_v24 (mulf : (⟨S300, .f32⟩ : BufTy).Contents (Elt F) → (⟨S300, .f32⟩ : BufTy).Contents (Elt F) → (⟨S300, .f32⟩ : BufTy).Contents (Elt F)),
    TRef.unary (TRef.of (T := ⟨S300, .f32⟩) main_v24) (TRef.of (T := ⟨S300, .f32⟩) main_v25) Host.roundeven,
    unary main_v25 main_v26 (fptosi 32 : (⟨S300, .f32⟩ : BufTy).Contents (Elt F) → (⟨S300, .i32⟩ : BufTy).Contents (Elt F)),
    binary main_v20 main_v8 main_v27 (subi : (⟨S300, .i32⟩ : BufTy).Contents (Elt F) → (⟨S300, .i32⟩ : BufTy).Contents (Elt F) → (⟨S300, .i32⟩ : BufTy).Contents (Elt F)),
    nullary main_c (constantI S_ 32 1#32),
    unary main_c main_v28 (broadcastInDim S300 ![] bcast_S_S300 : (⟨S_, .i32⟩ : BufTy).Contents (Elt F) → (⟨S300, .i32⟩ : BufTy).Contents (Elt F)),
    binary main_v27 main_v28 main_v29 (addi : (⟨S300, .i32⟩ : BufTy).Contents (Elt F) → (⟨S300, .i32⟩ : BufTy).Contents (Elt F) → (⟨S300, .i32⟩ : BufTy).Contents (Elt F)),
    nullary main_c_3 (constantI S_ 32 1#32),
    unary main_c_3 main_v30 (broadcastInDim S300 ![] bcast_S_S300 : (⟨S_, .i32⟩ : BufTy).Contents (Elt F) → (⟨S300, .i32⟩ : BufTy).Contents (Elt F)),
    binary main_v29 main_v30 main_v31 (maxsi : (⟨S300, .i32⟩ : BufTy).Contents (Elt F) → (⟨S300, .i32⟩ : BufTy).Contents (Elt F) → (⟨S300, .i32⟩ : BufTy).Contents (Elt F)),
    unary main_v31 main_v32 (sitofp .f32 : (⟨S300, .i32⟩ : BufTy).Contents (Elt F) → (⟨S300, .f32⟩ : BufTy).Contents (Elt F)),
    binary main_v26 main_v14 main_v33 (subi : (⟨S300, .i32⟩ : BufTy).Contents (Elt F) → (⟨S300, .i32⟩ : BufTy).Contents (Elt F) → (⟨S300, .i32⟩ : BufTy).Contents (Elt F)),
    nullary main_c_4 (constantI S_ 32 1#32),
    unary main_c_4 main_v34 (broadcastInDim S300 ![] bcast_S_S300 : (⟨S_, .i32⟩ : BufTy).Contents (Elt F) → (⟨S300, .i32⟩ : BufTy).Contents (Elt F)),
    binary main_v33 main_v34 main_v35 (addi : (⟨S300, .i32⟩ : BufTy).Contents (Elt F) → (⟨S300, .i32⟩ : BufTy).Contents (Elt F) → (⟨S300, .i32⟩ : BufTy).Contents (Elt F)),
    nullary main_c_5 (constantI S_ 32 1#32),
    unary main_c_5 main_v36 (broadcastInDim S300 ![] bcast_S_S300 : (⟨S_, .i32⟩ : BufTy).Contents (Elt F) → (⟨S300, .i32⟩ : BufTy).Contents (Elt F)),
    binary main_v35 main_v36 main_v37 (maxsi : (⟨S300, .i32⟩ : BufTy).Contents (Elt F) → (⟨S300, .i32⟩ : BufTy).Contents (Elt F) → (⟨S300, .i32⟩ : BufTy).Contents (Elt F)),
    unary main_v37 main_v38 (sitofp .f32 : (⟨S300, .i32⟩ : BufTy).Contents (Elt F) → (⟨S300, .f32⟩ : BufTy).Contents (Elt F)),
    nullary main_cst_6 (constant S_ .f32 0x40E00000#32),
    unary main_cst_6 main_v39 (broadcastInDim S300 ![] bcast_S_S300 : (⟨S_, .f32⟩ : BufTy).Contents (Elt F) → (⟨S300, .f32⟩ : BufTy).Contents (Elt F)),
    binary main_v38 main_v39 main_v40 (Host.divf : (⟨S300, .f32⟩ : BufTy).Contents (Elt F) → (⟨S300, .f32⟩ : BufTy).Contents (Elt F) → (⟨S300, .f32⟩ : BufTy).Contents (Elt F)),
    nullary main_cst_7 (constant S_ .f32 0x40E00000#32),
    unary main_cst_7 main_v41 (broadcastInDim S300 ![] bcast_S_S300 : (⟨S_, .f32⟩ : BufTy).Contents (Elt F) → (⟨S300, .f32⟩ : BufTy).Contents (Elt F)),
    binary main_v32 main_v41 main_v42 (Host.divf : (⟨S300, .f32⟩ : BufTy).Contents (Elt F) → (⟨S300, .f32⟩ : BufTy).Contents (Elt F) → (⟨S300, .f32⟩ : BufTy).Contents (Elt F)),
    nullary main_v43 (iotaInDim S10 32 0),
    nullary main_v44 (iotaInDim S10 32 0),
    nullary main_v45 (iotaInDim S7 32 0),
    unary main_v40 main_v46 (broadcastInDim S300x1 ![0] bcast_S300_S300x1_0 : (⟨S300, .f32⟩ : BufTy).Contents (Elt F) → (⟨S300x1, .f32⟩ : BufTy).Contents (Elt F)),
    unary main_v45 main_v47 (sitofp .f32 : (⟨S7, .i32⟩ : BufTy).Contents (Elt F) → (⟨S7, .f32⟩ : BufTy).Contents (Elt F)),
    unary main_v47 main_v48 (broadcastInDim S1x7 ![1] bcast_S7_S1x7_1 : (⟨S7, .f32⟩ : BufTy).Contents (Elt F) → (⟨S1x7, .f32⟩ : BufTy).Contents (Elt F)),
    unary main_v48 main_v49 (broadcastInDim S300x7 ![0, 1] bcast_S1x7_S300x7_0_1 : (⟨S1x7, .f32⟩ : BufTy).Contents (Elt F) → (⟨S300x7, .f32⟩ : BufTy).Contents (Elt F)) ]

/-- @main's operations 61 … 90 of 242 (window `main_part1`). -/
abbrev ops_part1_0 : List (HloOp τ sig (Elt F)) :=
  [ unary main_v46 main_v50 (broadcastInDim S300x7 ![0, 1] bcast_S300x1_S300x7_0_1 : (⟨S300x1, .f32⟩ : BufTy).Contents (Elt F) → (⟨S300x7, .f32⟩ : BufTy).Contents (Elt F)),
    binary main_v49 main_v50 main_v51 (mulf : (⟨S300x7, .f32⟩ : BufTy).Contents (Elt F) → (⟨S300x7, .f32⟩ : BufTy).Contents (Elt F) → (⟨S300x7, .f32⟩ : BufTy).Contents (Elt F)),
    unary main_v51 main_v52 (Host.floor : (⟨S300x7, .f32⟩ : BufTy).Contents (Elt F) → (⟨S300x7, .f32⟩ : BufTy).Contents (Elt F)),
    unary main_v52 main_v53 (fptosi 32 : (⟨S300x7, .f32⟩ : BufTy).Contents (Elt F) → (⟨S300x7, .i32⟩ : BufTy).Contents (Elt F)),
    unary main_v14 main_v54 (broadcastInDim S300x1 ![0] bcast_S300_S300x1_0 : (⟨S300, .i32⟩ : BufTy).Contents (Elt F) → (⟨S300x1, .i32⟩ : BufTy).Contents (Elt F)),
    unary main_v54 main_v55 (broadcastInDim S300x7 ![0, 1] bcast_S300x1_S300x7_0_1 : (⟨S300x1, .i32⟩ : BufTy).Contents (Elt F) → (⟨S300x7, .i32⟩ : BufTy).Contents (Elt F)),
    binary main_v53 main_v55 main_v56 (addi : (⟨S300x7, .i32⟩ : BufTy).Contents (Elt F) → (⟨S300x7, .i32⟩ : BufTy).Contents (Elt F) → (⟨S300x7, .i32⟩ : BufTy).Contents (Elt F)),
    nullary main_c_8 (constantI S_ 32 0#32),
    nullary main_c_9 (constantI S_ 32 50#32),
    TRef.unary (TRef.of (T := ⟨S_, .i32⟩) main_c_8) (TRef.of (T := ⟨S_, .i32⟩) main_call4_v0) id,
    TRef.unary (TRef.of (T := ⟨S_, .i32⟩) main_call4_v0) (TRef.of (T := ⟨S300x7, .i32⟩) main_call4_v1) (broadcastInDim S300x7 ![] bcast_S_S300x7),
    TRef.binary (TRef.of (T := ⟨S300x7, .i32⟩) main_call4_v1) (TRef.of (T := ⟨S300x7, .i32⟩) main_v56) (TRef.of (T := ⟨S300x7, .i32⟩) main_call4_v2) maxsi,
    TRef.unary (TRef.of (T := ⟨S_, .i32⟩) main_c_9) (TRef.of (T := ⟨S_, .i32⟩) main_call4_v3) id,
    TRef.unary (TRef.of (T := ⟨S_, .i32⟩) main_call4_v3) (TRef.of (T := ⟨S300x7, .i32⟩) main_call4_v4) (broadcastInDim S300x7 ![] bcast_S_S300x7),
    TRef.binary (TRef.of (T := ⟨S300x7, .i32⟩) main_call4_v4) (TRef.of (T := ⟨S300x7, .i32⟩) main_call4_v2) (TRef.of (T := ⟨S300x7, .i32⟩) main_v57) minsi,
    nullary main_c_10 (constantI S_ 32 1#32),
    unary main_c_10 main_v58 (broadcastInDim S7 ![] bcast_S_S7 : (⟨S_, .i32⟩ : BufTy).Contents (Elt F) → (⟨S7, .i32⟩ : BufTy).Contents (Elt F)),
    binary main_v45 main_v58 main_v59 (addi : (⟨S7, .i32⟩ : BufTy).Contents (Elt F) → (⟨S7, .i32⟩ : BufTy).Contents (Elt F) → (⟨S7, .i32⟩ : BufTy).Contents (Elt F)),
    unary main_v40 main_v60 (broadcastInDim S300x1 ![0] bcast_S300_S300x1_0 : (⟨S300, .f32⟩ : BufTy).Contents (Elt F) → (⟨S300x1, .f32⟩ : BufTy).Contents (Elt F)),
    unary main_v59 main_v61 (sitofp .f32 : (⟨S7, .i32⟩ : BufTy).Contents (Elt F) → (⟨S7, .f32⟩ : BufTy).Contents (Elt F)),
    unary main_v61 main_v62 (broadcastInDim S1x7 ![1] bcast_S7_S1x7_1 : (⟨S7, .f32⟩ : BufTy).Contents (Elt F) → (⟨S1x7, .f32⟩ : BufTy).Contents (Elt F)),
    unary main_v62 main_v63 (broadcastInDim S300x7 ![0, 1] bcast_S1x7_S300x7_0_1 : (⟨S1x7, .f32⟩ : BufTy).Contents (Elt F) → (⟨S300x7, .f32⟩ : BufTy).Contents (Elt F)),
    unary main_v60 main_v64 (broadcastInDim S300x7 ![0, 1] bcast_S300x1_S300x7_0_1 : (⟨S300x1, .f32⟩ : BufTy).Contents (Elt F) → (⟨S300x7, .f32⟩ : BufTy).Contents (Elt F)),
    binary main_v63 main_v64 main_v65 (mulf : (⟨S300x7, .f32⟩ : BufTy).Contents (Elt F) → (⟨S300x7, .f32⟩ : BufTy).Contents (Elt F) → (⟨S300x7, .f32⟩ : BufTy).Contents (Elt F)),
    unary main_v65 main_v66 (Host.ceil : (⟨S300x7, .f32⟩ : BufTy).Contents (Elt F) → (⟨S300x7, .f32⟩ : BufTy).Contents (Elt F)),
    unary main_v66 main_v67 (fptosi 32 : (⟨S300x7, .f32⟩ : BufTy).Contents (Elt F) → (⟨S300x7, .i32⟩ : BufTy).Contents (Elt F)),
    unary main_v14 main_v68 (broadcastInDim S300x1 ![0] bcast_S300_S300x1_0 : (⟨S300, .i32⟩ : BufTy).Contents (Elt F) → (⟨S300x1, .i32⟩ : BufTy).Contents (Elt F)),
    unary main_v68 main_v69 (broadcastInDim S300x7 ![0, 1] bcast_S300x1_S300x7_0_1 : (⟨S300x1, .i32⟩ : BufTy).Contents (Elt F) → (⟨S300x7, .i32⟩ : BufTy).Contents (Elt F)),
    binary main_v67 main_v69 main_v70 (addi : (⟨S300x7, .i32⟩ : BufTy).Contents (Elt F) → (⟨S300x7, .i32⟩ : BufTy).Contents (Elt F) → (⟨S300x7, .i32⟩ : BufTy).Contents (Elt F)),
    nullary main_c_11 (constantI S_ 32 0#32) ]

/-- @main's operations 91 … 120 of 242 (window `main_part1`). -/
abbrev ops_part1_1 : List (HloOp τ sig (Elt F)) :=
  [ nullary main_c_12 (constantI S_ 32 50#32),
    TRef.unary (TRef.of (T := ⟨S_, .i32⟩) main_c_11) (TRef.of (T := ⟨S_, .i32⟩) main_call5_v0) id,
    TRef.unary (TRef.of (T := ⟨S_, .i32⟩) main_call5_v0) (TRef.of (T := ⟨S300x7, .i32⟩) main_call5_v1) (broadcastInDim S300x7 ![] bcast_S_S300x7),
    TRef.binary (TRef.of (T := ⟨S300x7, .i32⟩) main_call5_v1) (TRef.of (T := ⟨S300x7, .i32⟩) main_v70) (TRef.of (T := ⟨S300x7, .i32⟩) main_call5_v2) maxsi,
    TRef.unary (TRef.of (T := ⟨S_, .i32⟩) main_c_12) (TRef.of (T := ⟨S_, .i32⟩) main_call5_v3) id,
    TRef.unary (TRef.of (T := ⟨S_, .i32⟩) main_call5_v3) (TRef.of (T := ⟨S300x7, .i32⟩) main_call5_v4) (broadcastInDim S300x7 ![] bcast_S_S300x7),
    TRef.binary (TRef.of (T := ⟨S300x7, .i32⟩) main_call5_v4) (TRef.of (T := ⟨S300x7, .i32⟩) main_call5_v2) (TRef.of (T := ⟨S300x7, .i32⟩) main_v71) minsi,
    unary main_v42 main_v72 (broadcastInDim S300x1 ![0] bcast_S300_S300x1_0 : (⟨S300, .f32⟩ : BufTy).Contents (Elt F) → (⟨S300x1, .f32⟩ : BufTy).Contents (Elt F)),
    unary main_v45 main_v73 (sitofp .f32 : (⟨S7, .i32⟩ : BufTy).Contents (Elt F) → (⟨S7, .f32⟩ : BufTy).Contents (Elt F)),
    unary main_v73 main_v74 (broadcastInDim S1x7 ![1] bcast_S7_S1x7_1 : (⟨S7, .f32⟩ : BufTy).Contents (Elt F) → (⟨S1x7, .f32⟩ : BufTy).Contents (Elt F)),
    unary main_v74 main_v75 (broadcastInDim S300x7 ![0, 1] bcast_S1x7_S300x7_0_1 : (⟨S1x7, .f32⟩ : BufTy).Contents (Elt F) → (⟨S300x7, .f32⟩ : BufTy).Contents (Elt F)),
    unary main_v72 main_v76 (broadcastInDim S300x7 ![0, 1] bcast_S300x1_S300x7_0_1 : (⟨S300x1, .f32⟩ : BufTy).Contents (Elt F) → (⟨S300x7, .f32⟩ : BufTy).Contents (Elt F)),
    binary main_v75 main_v76 main_v77 (mulf : (⟨S300x7, .f32⟩ : BufTy).Contents (Elt F) → (⟨S300x7, .f32⟩ : BufTy).Contents (Elt F) → (⟨S300x7, .f32⟩ : BufTy).Contents (Elt F)),
    unary main_v77 main_v78 (Host.floor : (⟨S300x7, .f32⟩ : BufTy).Contents (Elt F) → (⟨S300x7, .f32⟩ : BufTy).Contents (Elt F)),
    unary main_v78 main_v79 (fptosi 32 : (⟨S300x7, .f32⟩ : BufTy).Contents (Elt F) → (⟨S300x7, .i32⟩ : BufTy).Contents (Elt F)),
    unary main_v8 main_v80 (broadcastInDim S300x1 ![0] bcast_S300_S300x1_0 : (⟨S300, .i32⟩ : BufTy).Contents (Elt F) → (⟨S300x1, .i32⟩ : BufTy).Contents (Elt F)),
    unary main_v80 main_v81 (broadcastInDim S300x7 ![0, 1] bcast_S300x1_S300x7_0_1 : (⟨S300x1, .i32⟩ : BufTy).Contents (Elt F) → (⟨S300x7, .i32⟩ : BufTy).Contents (Elt F)),
    binary main_v79 main_v81 main_v82 (addi : (⟨S300x7, .i32⟩ : BufTy).Contents (Elt F) → (⟨S300x7, .i32⟩ : BufTy).Contents (Elt F) → (⟨S300x7, .i32⟩ : BufTy).Contents (Elt F)),
    nullary main_c_13 (constantI S_ 32 0#32),
    nullary main_c_14 (constantI S_ 32 50#32),
    TRef.unary (TRef.of (T := ⟨S_, .i32⟩) main_c_13) (TRef.of (T := ⟨S_, .i32⟩) main_call6_v0) id,
    TRef.unary (TRef.of (T := ⟨S_, .i32⟩) main_call6_v0) (TRef.of (T := ⟨S300x7, .i32⟩) main_call6_v1) (broadcastInDim S300x7 ![] bcast_S_S300x7),
    TRef.binary (TRef.of (T := ⟨S300x7, .i32⟩) main_call6_v1) (TRef.of (T := ⟨S300x7, .i32⟩) main_v82) (TRef.of (T := ⟨S300x7, .i32⟩) main_call6_v2) maxsi,
    TRef.unary (TRef.of (T := ⟨S_, .i32⟩) main_c_14) (TRef.of (T := ⟨S_, .i32⟩) main_call6_v3) id,
    TRef.unary (TRef.of (T := ⟨S_, .i32⟩) main_call6_v3) (TRef.of (T := ⟨S300x7, .i32⟩) main_call6_v4) (broadcastInDim S300x7 ![] bcast_S_S300x7),
    TRef.binary (TRef.of (T := ⟨S300x7, .i32⟩) main_call6_v4) (TRef.of (T := ⟨S300x7, .i32⟩) main_call6_v2) (TRef.of (T := ⟨S300x7, .i32⟩) main_v83) minsi,
    nullary main_c_15 (constantI S_ 32 1#32),
    unary main_c_15 main_v84 (broadcastInDim S7 ![] bcast_S_S7 : (⟨S_, .i32⟩ : BufTy).Contents (Elt F) → (⟨S7, .i32⟩ : BufTy).Contents (Elt F)),
    binary main_v45 main_v84 main_v85 (addi : (⟨S7, .i32⟩ : BufTy).Contents (Elt F) → (⟨S7, .i32⟩ : BufTy).Contents (Elt F) → (⟨S7, .i32⟩ : BufTy).Contents (Elt F)),
    unary main_v42 main_v86 (broadcastInDim S300x1 ![0] bcast_S300_S300x1_0 : (⟨S300, .f32⟩ : BufTy).Contents (Elt F) → (⟨S300x1, .f32⟩ : BufTy).Contents (Elt F)) ]

/-- @main's operations 121 … 140 of 242 (window `main_part1`). -/
abbrev ops_part1_2 : List (HloOp τ sig (Elt F)) :=
  [ unary main_v85 main_v87 (sitofp .f32 : (⟨S7, .i32⟩ : BufTy).Contents (Elt F) → (⟨S7, .f32⟩ : BufTy).Contents (Elt F)),
    unary main_v87 main_v88 (broadcastInDim S1x7 ![1] bcast_S7_S1x7_1 : (⟨S7, .f32⟩ : BufTy).Contents (Elt F) → (⟨S1x7, .f32⟩ : BufTy).Contents (Elt F)),
    unary main_v88 main_v89 (broadcastInDim S300x7 ![0, 1] bcast_S1x7_S300x7_0_1 : (⟨S1x7, .f32⟩ : BufTy).Contents (Elt F) → (⟨S300x7, .f32⟩ : BufTy).Contents (Elt F)),
    unary main_v86 main_v90 (broadcastInDim S300x7 ![0, 1] bcast_S300x1_S300x7_0_1 : (⟨S300x1, .f32⟩ : BufTy).Contents (Elt F) → (⟨S300x7, .f32⟩ : BufTy).Contents (Elt F)),
    binary main_v89 main_v90 main_v91 (mulf : (⟨S300x7, .f32⟩ : BufTy).Contents (Elt F) → (⟨S300x7, .f32⟩ : BufTy).Contents (Elt F) → (⟨S300x7, .f32⟩ : BufTy).Contents (Elt F)),
    unary main_v91 main_v92 (Host.ceil : (⟨S300x7, .f32⟩ : BufTy).Contents (Elt F) → (⟨S300x7, .f32⟩ : BufTy).Contents (Elt F)),
    unary main_v92 main_v93 (fptosi 32 : (⟨S300x7, .f32⟩ : BufTy).Contents (Elt F) → (⟨S300x7, .i32⟩ : BufTy).Contents (Elt F)),
    unary main_v8 main_v94 (broadcastInDim S300x1 ![0] bcast_S300_S300x1_0 : (⟨S300, .i32⟩ : BufTy).Contents (Elt F) → (⟨S300x1, .i32⟩ : BufTy).Contents (Elt F)),
    unary main_v94 main_v95 (broadcastInDim S300x7 ![0, 1] bcast_S300x1_S300x7_0_1 : (⟨S300x1, .i32⟩ : BufTy).Contents (Elt F) → (⟨S300x7, .i32⟩ : BufTy).Contents (Elt F)),
    binary main_v93 main_v95 main_v96 (addi : (⟨S300x7, .i32⟩ : BufTy).Contents (Elt F) → (⟨S300x7, .i32⟩ : BufTy).Contents (Elt F) → (⟨S300x7, .i32⟩ : BufTy).Contents (Elt F)),
    nullary main_c_16 (constantI S_ 32 0#32),
    nullary main_c_17 (constantI S_ 32 50#32),
    TRef.unary (TRef.of (T := ⟨S_, .i32⟩) main_c_16) (TRef.of (T := ⟨S_, .i32⟩) main_call7_v0) id,
    TRef.unary (TRef.of (T := ⟨S_, .i32⟩) main_call7_v0) (TRef.of (T := ⟨S300x7, .i32⟩) main_call7_v1) (broadcastInDim S300x7 ![] bcast_S_S300x7),
    TRef.binary (TRef.of (T := ⟨S300x7, .i32⟩) main_call7_v1) (TRef.of (T := ⟨S300x7, .i32⟩) main_v96) (TRef.of (T := ⟨S300x7, .i32⟩) main_call7_v2) maxsi,
    TRef.unary (TRef.of (T := ⟨S_, .i32⟩) main_c_17) (TRef.of (T := ⟨S_, .i32⟩) main_call7_v3) id,
    TRef.unary (TRef.of (T := ⟨S_, .i32⟩) main_call7_v3) (TRef.of (T := ⟨S300x7, .i32⟩) main_call7_v4) (broadcastInDim S300x7 ![] bcast_S_S300x7),
    TRef.binary (TRef.of (T := ⟨S300x7, .i32⟩) main_call7_v4) (TRef.of (T := ⟨S300x7, .i32⟩) main_call7_v2) (TRef.of (T := ⟨S300x7, .i32⟩) main_v97) minsi,
    nullary main_c_18 (constantI S_ 32 0#32),
    nullary main_c_19 (constantI S_ 32 40#32) ]

/-- The operations of the stretch `main_part1` of @main. -/
def ops_part1 : List (HloOp τ sig (Elt F)) :=
  ops_part1_0 ++ (ops_part1_1 ++ (ops_part1_2))

/-- @main's operations 141 … 170 of 242 (window `main_part2`). -/
abbrev ops_part2_0 : List (HloOp τ sig (Elt F)) :=
  [ TRef.unary (TRef.of (T := ⟨S_, .i32⟩) main_c_18) (TRef.of (T := ⟨S_, .i32⟩) main_call8_v0) id,
    TRef.unary (TRef.of (T := ⟨S_, .i32⟩) main_call8_v0) (TRef.of (T := ⟨S300x7, .i32⟩) main_call8_v1) (broadcastInDim S300x7 ![] bcast_S_S300x7),
    TRef.binary (TRef.of (T := ⟨S300x7, .i32⟩) main_call8_v1) (TRef.of (T := ⟨S300x7, .i32⟩) main_v57) (TRef.of (T := ⟨S300x7, .i32⟩) main_call8_v2) maxsi,
    TRef.unary (TRef.of (T := ⟨S_, .i32⟩) main_c_19) (TRef.of (T := ⟨S_, .i32⟩) main_call8_v3) id,
    TRef.unary (TRef.of (T := ⟨S_, .i32⟩) main_call8_v3) (TRef.of (T := ⟨S300x7, .i32⟩) main_call8_v4) (broadcastInDim S300x7 ![] bcast_S_S300x7),
    TRef.binary (TRef.of (T := ⟨S300x7, .i32⟩) main_call8_v4) (TRef.of (T := ⟨S300x7, .i32⟩) main_call8_v2) (TRef.of (T := ⟨S300x7, .i32⟩) main_v98) minsi,
    nullary main_c_20 (constantI S_ 32 0#32),
    nullary main_c_21 (constantI S_ 32 40#32),
    TRef.unary (TRef.of (T := ⟨S_, .i32⟩) main_c_20) (TRef.of (T := ⟨S_, .i32⟩) main_call9_v0) id,
    TRef.unary (TRef.of (T := ⟨S_, .i32⟩) main_call9_v0) (TRef.of (T := ⟨S300x7, .i32⟩) main_call9_v1) (broadcastInDim S300x7 ![] bcast_S_S300x7),
    TRef.binary (TRef.of (T := ⟨S300x7, .i32⟩) main_call9_v1) (TRef.of (T := ⟨S300x7, .i32⟩) main_v83) (TRef.of (T := ⟨S300x7, .i32⟩) main_call9_v2) maxsi,
    TRef.unary (TRef.of (T := ⟨S_, .i32⟩) main_c_21) (TRef.of (T := ⟨S_, .i32⟩) main_call9_v3) id,
    TRef.unary (TRef.of (T := ⟨S_, .i32⟩) main_call9_v3) (TRef.of (T := ⟨S300x7, .i32⟩) main_call9_v4) (broadcastInDim S300x7 ![] bcast_S_S300x7),
    TRef.binary (TRef.of (T := ⟨S300x7, .i32⟩) main_call9_v4) (TRef.of (T := ⟨S300x7, .i32⟩) main_call9_v2) (TRef.of (T := ⟨S300x7, .i32⟩) main_v99) minsi,
    nullary main_c_22 (constantI S_ 32 0#32),
    unary main_c_22 main_v100 (broadcastInDim S300 ![] bcast_S_S300 : (⟨S_, .i32⟩ : BufTy).Contents (Elt F) → (⟨S300, .i32⟩ : BufTy).Contents (Elt F)),
    binary main_v2 main_v100 main_v101 (cmpi .slt : (⟨S300, .i32⟩ : BufTy).Contents (Elt F) → (⟨S300, .i32⟩ : BufTy).Contents (Elt F) → (⟨S300, .i1⟩ : BufTy).Contents (Elt F)),
    nullary main_c_23 (constantI S_ 32 2#32),
    unary main_c_23 main_v102 (broadcastInDim S300 ![] bcast_S_S300 : (⟨S_, .i32⟩ : BufTy).Contents (Elt F) → (⟨S300, .i32⟩ : BufTy).Contents (Elt F)),
    binary main_v2 main_v102 main_v103 (addi : (⟨S300, .i32⟩ : BufTy).Contents (Elt F) → (⟨S300, .i32⟩ : BufTy).Contents (Elt F) → (⟨S300, .i32⟩ : BufTy).Contents (Elt F)),
    ternary main_v101 main_v103 main_v2 main_v104 (select : (⟨S300, .i1⟩ : BufTy).Contents (Elt F) → (⟨S300, .i32⟩ : BufTy).Contents (Elt F) → (⟨S300, .i32⟩ : BufTy).Contents (Elt F) → (⟨S300, .i32⟩ : BufTy).Contents (Elt F)),
    nullary main_c_24 (constantI S_ 32 0#32),
    unary main_c_24 main_v105 (broadcastInDim S300x7 ![] bcast_S_S300x7 : (⟨S_, .i32⟩ : BufTy).Contents (Elt F) → (⟨S300x7, .i32⟩ : BufTy).Contents (Elt F)),
    binary main_v98 main_v105 main_v106 (cmpi .slt : (⟨S300x7, .i32⟩ : BufTy).Contents (Elt F) → (⟨S300x7, .i32⟩ : BufTy).Contents (Elt F) → (⟨S300x7, .i1⟩ : BufTy).Contents (Elt F)),
    nullary main_c_25 (constantI S_ 32 50#32),
    unary main_c_25 main_v107 (broadcastInDim S300x7 ![] bcast_S_S300x7 : (⟨S_, .i32⟩ : BufTy).Contents (Elt F) → (⟨S300x7, .i32⟩ : BufTy).Contents (Elt F)),
    binary main_v98 main_v107 main_v108 (addi : (⟨S300x7, .i32⟩ : BufTy).Contents (Elt F) → (⟨S300x7, .i32⟩ : BufTy).Contents (Elt F) → (⟨S300x7, .i32⟩ : BufTy).Contents (Elt F)),
    ternary main_v106 main_v108 main_v98 main_v109 (select : (⟨S300x7, .i1⟩ : BufTy).Contents (Elt F) → (⟨S300x7, .i32⟩ : BufTy).Contents (Elt F) → (⟨S300x7, .i32⟩ : BufTy).Contents (Elt F) → (⟨S300x7, .i32⟩ : BufTy).Contents (Elt F)),
    nullary main_c_26 (constantI S_ 32 0#32),
    unary main_c_26 main_v110 (broadcastInDim S300x7 ![] bcast_S_S300x7 : (⟨S_, .i32⟩ : BufTy).Contents (Elt F) → (⟨S300x7, .i32⟩ : BufTy).Contents (Elt F)) ]

/-- @main's operations 171 … 200 of 242 (window `main_part2`). -/
abbrev ops_part2_1 : List (HloOp τ sig (Elt F)) :=
  [ binary main_v99 main_v110 main_v111 (cmpi .slt : (⟨S300x7, .i32⟩ : BufTy).Contents (Elt F) → (⟨S300x7, .i32⟩ : BufTy).Contents (Elt F) → (⟨S300x7, .i1⟩ : BufTy).Contents (Elt F)),
    nullary main_c_27 (constantI S_ 32 50#32),
    unary main_c_27 main_v112 (broadcastInDim S300x7 ![] bcast_S_S300x7 : (⟨S_, .i32⟩ : BufTy).Contents (Elt F) → (⟨S300x7, .i32⟩ : BufTy).Contents (Elt F)),
    binary main_v99 main_v112 main_v113 (addi : (⟨S300x7, .i32⟩ : BufTy).Contents (Elt F) → (⟨S300x7, .i32⟩ : BufTy).Contents (Elt F) → (⟨S300x7, .i32⟩ : BufTy).Contents (Elt F)),
    ternary main_v111 main_v113 main_v99 main_v114 (select : (⟨S300x7, .i1⟩ : BufTy).Contents (Elt F) → (⟨S300x7, .i32⟩ : BufTy).Contents (Elt F) → (⟨S300x7, .i32⟩ : BufTy).Contents (Elt F) → (⟨S300x7, .i32⟩ : BufTy).Contents (Elt F)),
    unary main_v104 main_v115 (broadcastInDim S300x7x1 ![0] bcast_S300_S300x7x1_0 : (⟨S300, .i32⟩ : BufTy).Contents (Elt F) → (⟨S300x7x1, .i32⟩ : BufTy).Contents (Elt F)),
    nullary main_c_28 (constantI S_ 32 0#32),
    unary main_c_28 main_v116 (broadcastInDim S7x1 ![] bcast_S_S7x1 : (⟨S_, .i32⟩ : BufTy).Contents (Elt F) → (⟨S7x1, .i32⟩ : BufTy).Contents (Elt F)),
    unary main_v109 main_v117 (broadcastInDim S300x7x7x1 ![0, 1] bcast_S300x7_S300x7x7x1_0_1 : (⟨S300x7, .i32⟩ : BufTy).Contents (Elt F) → (⟨S300x7x7x1, .i32⟩ : BufTy).Contents (Elt F)),
    unary main_v114 main_v118 (broadcastInDim S300x7x1 ![0, 1] bcast_S300x7_S300x7x1_0_1 : (⟨S300x7, .i32⟩ : BufTy).Contents (Elt F) → (⟨S300x7x1, .i32⟩ : BufTy).Contents (Elt F)),
    unary main_v115 main_v119 (broadcastInDim S300x7x7x1 ![0, 2, 3] bcast_S300x7x1_S300x7x7x1_0_2_3 : (⟨S300x7x1, .i32⟩ : BufTy).Contents (Elt F) → (⟨S300x7x7x1, .i32⟩ : BufTy).Contents (Elt F)),
    unary main_v116 main_v120 (broadcastInDim S7x7x1 ![1, 2] bcast_S7x1_S7x7x1_1_2 : (⟨S7x1, .i32⟩ : BufTy).Contents (Elt F) → (⟨S7x7x1, .i32⟩ : BufTy).Contents (Elt F)),
    unary main_v118 main_v121 (broadcastInDim S300x7x7x1 ![0, 2, 3] bcast_S300x7x1_S300x7x7x1_0_2_3 : (⟨S300x7x1, .i32⟩ : BufTy).Contents (Elt F) → (⟨S300x7x7x1, .i32⟩ : BufTy).Contents (Elt F)),
    unary main_v120 main_v122 (broadcastInDim S300x7x7x1 ![1, 2, 3] bcast_S7x7x1_S300x7x7x1_1_2_3 : (⟨S7x7x1, .i32⟩ : BufTy).Contents (Elt F) → (⟨S300x7x7x1, .i32⟩ : BufTy).Contents (Elt F)),
    nary ![main_v119, main_v122, main_v117, main_v121] main_v123 (fun u => fn_main_v123 (F := F) (u 0) (u 1) (u 2) (u 3)),
    binary main_arg0 main_v123 main_v124 ((fun x i => Host.gather gather_S2x512x50x50_S300x7x7x4_S300x7x7x1x512x10x10_3456_n_n_n_0123_3_15121010 x i) : (⟨S2x512x50x50, .f32⟩ : BufTy).Contents (Elt F) → (⟨S300x7x7x4, .i32⟩ : BufTy).Contents (Elt F) → (⟨S300x7x7x1x512x10x10, .f32⟩ : BufTy).Contents (Elt F)),
    reshape main_v124 main_v125 (rfl : (.f32 : EltTy) = .f32) shapeCasts_S300x7x7x1x512x10x10_S300x7x7x512x10x10,
    unary main_v43 main_v126 (broadcastInDim S1x10 ![1] bcast_S10_S1x10_1 : (⟨S10, .i32⟩ : BufTy).Contents (Elt F) → (⟨S1x10, .i32⟩ : BufTy).Contents (Elt F)),
    unary main_v98 main_v127 (broadcastInDim S300x7x1 ![0, 1] bcast_S300x7_S300x7x1_0_1 : (⟨S300x7, .i32⟩ : BufTy).Contents (Elt F) → (⟨S300x7x1, .i32⟩ : BufTy).Contents (Elt F)),
    unary main_v126 main_v128 (broadcastInDim S1x1x10 ![1, 2] bcast_S1x10_S1x1x10_1_2 : (⟨S1x10, .i32⟩ : BufTy).Contents (Elt F) → (⟨S1x1x10, .i32⟩ : BufTy).Contents (Elt F)),
    unary main_v127 main_v129 (broadcastInDim S300x7x10 ![0, 1, 2] bcast_S300x7x1_S300x7x10_0_1_2 : (⟨S300x7x1, .i32⟩ : BufTy).Contents (Elt F) → (⟨S300x7x10, .i32⟩ : BufTy).Contents (Elt F)),
    unary main_v128 main_v130 (broadcastInDim S300x7x10 ![0, 1, 2] bcast_S1x1x10_S300x7x10_0_1_2 : (⟨S1x1x10, .i32⟩ : BufTy).Contents (Elt F) → (⟨S300x7x10, .i32⟩ : BufTy).Contents (Elt F)),
    binary main_v129 main_v130 main_v131 (addi : (⟨S300x7x10, .i32⟩ : BufTy).Contents (Elt F) → (⟨S300x7x10, .i32⟩ : BufTy).Contents (Elt F) → (⟨S300x7x10, .i32⟩ : BufTy).Contents (Elt F)),
    unary main_v44 main_v132 (broadcastInDim S1x10 ![1] bcast_S10_S1x10_1 : (⟨S10, .i32⟩ : BufTy).Contents (Elt F) → (⟨S1x10, .i32⟩ : BufTy).Contents (Elt F)),
    unary main_v99 main_v133 (broadcastInDim S300x7x1 ![0, 1] bcast_S300x7_S300x7x1_0_1 : (⟨S300x7, .i32⟩ : BufTy).Contents (Elt F) → (⟨S300x7x1, .i32⟩ : BufTy).Contents (Elt F)),
    unary main_v132 main_v134 (broadcastInDim S1x1x10 ![1, 2] bcast_S1x10_S1x1x10_1_2 : (⟨S1x10, .i32⟩ : BufTy).Contents (Elt F) → (⟨S1x1x10, .i32⟩ : BufTy).Contents (Elt F)),
    unary main_v133 main_v135 (broadcastInDim S300x7x10 ![0, 1, 2] bcast_S300x7x1_S300x7x10_0_1_2 : (⟨S300x7x1, .i32⟩ : BufTy).Contents (Elt F) → (⟨S300x7x10, .i32⟩ : BufTy).Contents (Elt F)),
    unary main_v134 main_v136 (broadcastInDim S300x7x10 ![0, 1, 2] bcast_S1x1x10_S300x7x10_0_1_2 : (⟨S1x1x10, .i32⟩ : BufTy).Contents (Elt F) → (⟨S300x7x10, .i32⟩ : BufTy).Contents (Elt F)),
    binary main_v135 main_v136 main_v137 (addi : (⟨S300x7x10, .i32⟩ : BufTy).Contents (Elt F) → (⟨S300x7x10, .i32⟩ : BufTy).Contents (Elt F) → (⟨S300x7x10, .i32⟩ : BufTy).Contents (Elt F)),
    unary main_v57 main_v138 (broadcastInDim S300x7x1 ![0, 1] bcast_S300x7_S300x7x1_0_1 : (⟨S300x7, .i32⟩ : BufTy).Contents (Elt F) → (⟨S300x7x1, .i32⟩ : BufTy).Contents (Elt F)) ]

/-- @main's operations 201 … 210 of 242 (window `main_part2`). -/
abbrev ops_part2_2 : List (HloOp τ sig (Elt F)) :=
  [ unary main_v138 main_v139 (broadcastInDim S300x7x10 ![0, 1, 2] bcast_S300x7x1_S300x7x10_0_1_2 : (⟨S300x7x1, .i32⟩ : BufTy).Contents (Elt F) → (⟨S300x7x10, .i32⟩ : BufTy).Contents (Elt F)),
    binary main_v131 main_v139 main_v140 (cmpi .sge : (⟨S300x7x10, .i32⟩ : BufTy).Contents (Elt F) → (⟨S300x7x10, .i32⟩ : BufTy).Contents (Elt F) → (⟨S300x7x10, .i1⟩ : BufTy).Contents (Elt F)),
    unary main_v71 main_v141 (broadcastInDim S300x7x1 ![0, 1] bcast_S300x7_S300x7x1_0_1 : (⟨S300x7, .i32⟩ : BufTy).Contents (Elt F) → (⟨S300x7x1, .i32⟩ : BufTy).Contents (Elt F)),
    unary main_v141 main_v142 (broadcastInDim S300x7x10 ![0, 1, 2] bcast_S300x7x1_S300x7x10_0_1_2 : (⟨S300x7x1, .i32⟩ : BufTy).Contents (Elt F) → (⟨S300x7x10, .i32⟩ : BufTy).Contents (Elt F)),
    binary main_v131 main_v142 main_v143 (cmpi .slt : (⟨S300x7x10, .i32⟩ : BufTy).Contents (Elt F) → (⟨S300x7x10, .i32⟩ : BufTy).Contents (Elt F) → (⟨S300x7x10, .i1⟩ : BufTy).Contents (Elt F)),
    binary main_v140 main_v143 main_v144 (andi : (⟨S300x7x10, .i1⟩ : BufTy).Contents (Elt F) → (⟨S300x7x10, .i1⟩ : BufTy).Contents (Elt F) → (⟨S300x7x10, .i1⟩ : BufTy).Contents (Elt F)),
    unary main_v144 main_v145 (broadcastInDim S300x7x10x1 ![0, 1, 2] bcast_S300x7x10_S300x7x10x1_0_1_2 : (⟨S300x7x10, .i1⟩ : BufTy).Contents (Elt F) → (⟨S300x7x10x1, .i1⟩ : BufTy).Contents (Elt F)),
    unary main_v83 main_v146 (broadcastInDim S300x7x1 ![0, 1] bcast_S300x7_S300x7x1_0_1 : (⟨S300x7, .i32⟩ : BufTy).Contents (Elt F) → (⟨S300x7x1, .i32⟩ : BufTy).Contents (Elt F)),
    unary main_v146 main_v147 (broadcastInDim S300x7x10 ![0, 1, 2] bcast_S300x7x1_S300x7x10_0_1_2 : (⟨S300x7x1, .i32⟩ : BufTy).Contents (Elt F) → (⟨S300x7x10, .i32⟩ : BufTy).Contents (Elt F)),
    binary main_v137 main_v147 main_v148 (cmpi .sge : (⟨S300x7x10, .i32⟩ : BufTy).Contents (Elt F) → (⟨S300x7x10, .i32⟩ : BufTy).Contents (Elt F) → (⟨S300x7x10, .i1⟩ : BufTy).Contents (Elt F)) ]

/-- The operations of the stretch `main_part2` of @main. -/
def ops_part2 : List (HloOp τ sig (Elt F)) :=
  ops_part2_0 ++ (ops_part2_1 ++ (ops_part2_2))

/-- @main's operations 211 … 242 of 242 (window `main_part3`). -/
abbrev ops_part3 : List (HloOp τ sig (Elt F)) :=
  [ unary main_v97 main_v149 (broadcastInDim S300x7x1 ![0, 1] bcast_S300x7_S300x7x1_0_1 : (⟨S300x7, .i32⟩ : BufTy).Contents (Elt F) → (⟨S300x7x1, .i32⟩ : BufTy).Contents (Elt F)),
    unary main_v149 main_v150 (broadcastInDim S300x7x10 ![0, 1, 2] bcast_S300x7x1_S300x7x10_0_1_2 : (⟨S300x7x1, .i32⟩ : BufTy).Contents (Elt F) → (⟨S300x7x10, .i32⟩ : BufTy).Contents (Elt F)),
    binary main_v137 main_v150 main_v151 (cmpi .slt : (⟨S300x7x10, .i32⟩ : BufTy).Contents (Elt F) → (⟨S300x7x10, .i32⟩ : BufTy).Contents (Elt F) → (⟨S300x7x10, .i1⟩ : BufTy).Contents (Elt F)),
    binary main_v148 main_v151 main_v152 (andi : (⟨S300x7x10, .i1⟩ : BufTy).Contents (Elt F) → (⟨S300x7x10, .i1⟩ : BufTy).Contents (Elt F) → (⟨S300x7x10, .i1⟩ : BufTy).Contents (Elt F)),
    unary main_v152 main_v153 (broadcastInDim S300x7x1x10 ![0, 1, 3] bcast_S300x7x10_S300x7x1x10_0_1_3 : (⟨S300x7x10, .i1⟩ : BufTy).Contents (Elt F) → (⟨S300x7x1x10, .i1⟩ : BufTy).Contents (Elt F)),
    unary main_v145 main_v154 (broadcastInDim S300x7x1x10x1 ![0, 1, 3, 4] bcast_S300x7x10x1_S300x7x1x10x1_0_1_3_4 : (⟨S300x7x10x1, .i1⟩ : BufTy).Contents (Elt F) → (⟨S300x7x1x10x1, .i1⟩ : BufTy).Contents (Elt F)),
    unary main_v153 main_v155 (broadcastInDim S300x1x7x1x10 ![0, 2, 3, 4] bcast_S300x7x1x10_S300x1x7x1x10_0_2_3_4 : (⟨S300x7x1x10, .i1⟩ : BufTy).Contents (Elt F) → (⟨S300x1x7x1x10, .i1⟩ : BufTy).Contents (Elt F)),
    unary main_v154 main_v156 (broadcastInDim S300x7x7x10x10 ![0, 1, 2, 3, 4] bcast_S300x7x1x10x1_S300x7x7x10x10_0_1_2_3_4 : (⟨S300x7x1x10x1, .i1⟩ : BufTy).Contents (Elt F) → (⟨S300x7x7x10x10, .i1⟩ : BufTy).Contents (Elt F)),
    unary main_v155 main_v157 (broadcastInDim S300x7x7x10x10 ![0, 1, 2, 3, 4] bcast_S300x1x7x1x10_S300x7x7x10x10_0_1_2_3_4 : (⟨S300x1x7x1x10, .i1⟩ : BufTy).Contents (Elt F) → (⟨S300x7x7x10x10, .i1⟩ : BufTy).Contents (Elt F)),
    binary main_v156 main_v157 main_v158 (andi : (⟨S300x7x7x10x10, .i1⟩ : BufTy).Contents (Elt F) → (⟨S300x7x7x10x10, .i1⟩ : BufTy).Contents (Elt F) → (⟨S300x7x7x10x10, .i1⟩ : BufTy).Contents (Elt F)),
    unary main_v158 main_v159 (broadcastInDim S300x7x7x1x10x10 ![0, 1, 2, 4, 5] bcast_S300x7x7x10x10_S300x7x7x1x10x10_0_1_2_4_5 : (⟨S300x7x7x10x10, .i1⟩ : BufTy).Contents (Elt F) → (⟨S300x7x7x1x10x10, .i1⟩ : BufTy).Contents (Elt F)),
    nullary main_cst_29 (constant S_ .f32 0xFF800000#32),
    TRef.unary (TRef.of (T := ⟨S_, .f32⟩) main_cst_29) (TRef.of (T := ⟨S_, .f32⟩) main_call10_v0) id,
    TRef.unary (TRef.of (T := ⟨S300x7x7x1x10x10, .i1⟩) main_v159) (TRef.of (T := ⟨S300x7x7x512x10x10, .i1⟩) main_call10_v1) (broadcastInDim S300x7x7x512x10x10 ![0, 1, 2, 3, 4, 5] bcast_S300x7x7x1x10x10_S300x7x7x512x10x10_0_1_2_3_4_5),
    TRef.unary (TRef.of (T := ⟨S_, .f32⟩) main_call10_v0) (TRef.of (T := ⟨S512x10x10, .f32⟩) main_call10_v2) (broadcastInDim S512x10x10 ![] bcast_S_S512x10x10),
    TRef.unary (TRef.of (T := ⟨S512x10x10, .f32⟩) main_call10_v2) (TRef.of (T := ⟨S7x512x10x10, .f32⟩) main_call10_v3) (broadcastInDim S7x512x10x10 ![1, 2, 3] bcast_S512x10x10_S7x512x10x10_1_2_3),
    TRef.unary (TRef.of (T := ⟨S7x512x10x10, .f32⟩) main_call10_v3) (TRef.of (T := ⟨S7x7x512x10x10, .f32⟩) main_call10_v4) (broadcastInDim S7x7x512x10x10 ![1, 2, 3, 4] bcast_S7x512x10x10_S7x7x512x10x10_1_2_3_4),
    TRef.unary (TRef.of (T := ⟨S7x7x512x10x10, .f32⟩) main_call10_v4) (TRef.of (T := ⟨S300x7x7x512x10x10, .f32⟩) main_call10_v5) (broadcastInDim S300x7x7x512x10x10 ![1, 2, 3, 4, 5] bcast_S7x7x512x10x10_S300x7x7x512x10x10_1_2_3_4_5),
    TRef.ternary (TRef.of (T := ⟨S300x7x7x512x10x10, .i1⟩) main_call10_v1) (TRef.of (T := ⟨S300x7x7x512x10x10, .f32⟩) main_v125) (TRef.of (T := ⟨S300x7x7x512x10x10, .f32⟩) main_call10_v5) (TRef.of (T := ⟨S300x7x7x512x10x10, .f32⟩) main_v160) select,
    nullary main_cst_30 (constant S_ .f32 0xFF800000#32),
    binary main_v160 main_cst_30 main_v161 ((fun x v => Host.reduce FloatOps.maximumf x v reducesTo_S300x7x7x512x10x10_S300x7x7x512_d4_5 h_S_) : (⟨S300x7x7x512x10x10, .f32⟩ : BufTy).Contents (Elt F) → (⟨S_, .f32⟩ : BufTy).Contents (Elt F) → (⟨S300x7x7x512, .f32⟩ : BufTy).Contents (Elt F)),
    nullary main_c_31 (constantI S_ 1 0#1),
    binary main_v158 main_c_31 main_v162 ((fun x v => Host.reduce IntOp.ori x v reducesTo_S300x7x7x10x10_S300x7x7_d3_4 h_S_) : (⟨S300x7x7x10x10, .i1⟩ : BufTy).Contents (Elt F) → (⟨S_, .i1⟩ : BufTy).Contents (Elt F) → (⟨S300x7x7, .i1⟩ : BufTy).Contents (Elt F)),
    nullary main_cst_32 (constant S_ .f32 0x00000000#32),
    unary main_cst_32 main_v163 (broadcastInDim S512 ![] bcast_S_S512 : (⟨S_, .f32⟩ : BufTy).Contents (Elt F) → (⟨S512, .f32⟩ : BufTy).Contents (Elt F)),
    TRef.unary (TRef.of (T := ⟨S512, .f32⟩) main_v163) (TRef.of (T := ⟨S7x512, .f32⟩) main_call11_v0) (broadcastInDim S7x512 ![1] bcast_S512_S7x512_1),
    TRef.unary (TRef.of (T := ⟨S300x7x7, .i1⟩) main_v162) (TRef.of (T := ⟨S300x7x7x512, .i1⟩) main_call11_v1) (broadcastInDim S300x7x7x512 ![0, 1, 2] bcast_S300x7x7_S300x7x7x512_0_1_2),
    TRef.unary (TRef.of (T := ⟨S7x512, .f32⟩) main_call11_v0) (TRef.of (T := ⟨S7x7x512, .f32⟩) main_call11_v2) (broadcastInDim S7x7x512 ![1, 2] bcast_S7x512_S7x7x512_1_2),
    TRef.unary (TRef.of (T := ⟨S7x7x512, .f32⟩) main_call11_v2) (TRef.of (T := ⟨S300x7x7x512, .f32⟩) main_call11_v3) (broadcastInDim S300x7x7x512 ![1, 2, 3] bcast_S7x7x512_S300x7x7x512_1_2_3),
    TRef.ternary (TRef.of (T := ⟨S300x7x7x512, .i1⟩) main_call11_v1) (TRef.of (T := ⟨S300x7x7x512, .f32⟩) main_v161) (TRef.of (T := ⟨S300x7x7x512, .f32⟩) main_call11_v3) (TRef.of (T := ⟨S300x7x7x512, .f32⟩) main_v164) select,
    unary main_v164 main_v165 ((transpose S300x7x512x7 [0, 1, 3, 2] · transposes_S300x7x7x512_S300x7x512x7_0_1_3_2) : (⟨S300x7x7x512, .f32⟩ : BufTy).Contents (Elt F) → (⟨S300x7x512x7, .f32⟩ : BufTy).Contents (Elt F)),
    unary main_v165 main_v166 ((transpose S300x512x7x7 [0, 2, 1, 3] · transposes_S300x7x512x7_S300x512x7x7_0_2_1_3) : (⟨S300x7x512x7, .f32⟩ : BufTy).Contents (Elt F) → (⟨S300x512x7x7, .f32⟩ : BufTy).Contents (Elt F)) ]

/-- @main's 242 operations, in order (a called function's operations stand in its call's place, spelt `TRef.…`). -/
abbrev ops : List (HloOp τ sig (Elt F)) :=
  ops_part0 ++ (ops_part1 ++ (ops_part2 ++ (ops_part3)))

set_option maxRecDepth 8192 in
theorem main_part0_eq (c : Dev nD) : main_part0 (F := F) c = seq ops_part0 := rfl
set_option maxRecDepth 8192 in
set_option maxHeartbeats 4000000 in
theorem main_part1_eq (c : Dev nD) : main_part1 (F := F) c = seq ops_part1 := rfl
set_option maxRecDepth 8192 in
set_option maxHeartbeats 4000000 in
/-- The third stretch of the reference's lines, peeled one operation at a time. -/
theorem main_part2_eq (c : Dev nD) : main_part2 (F := F) c = seq ops_part2 := by
  show IsSeq (main_part2 (F := F) c) (ops_part2_0 ++ (ops_part2_1 ++ ops_part2_2))
  unfold main_part2 fn_clip_0.body fn_clip_1.body ops_part2_0 ops_part2_1 ops_part2_2
  simp only [List.cons_append, List.nil_append]
  repeat (first | exact IsSeq.nil | apply IsSeq.cons)
set_option maxRecDepth 8192 in
theorem main_part3_eq (c : Dev nD) : main_part3 (F := F) c = seq ops_part3 := rfl
set_option maxRecDepth 8192 in
theorem main_eq (c : Dev nD) : main (F := F) c = seq ops := by
  simp only [ops, seq_append, ← main_part0_eq c, ← main_part1_eq c, ← main_part2_eq c, ← main_part3_eq c]
  rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_part0_sub : (ops_part0 : List (HloOp τ sig (Elt F))).Forall fun op => op.bufs ⊆ tcRefs τ sig :=
  ⟨unary_bufs_sub .., reshape_bufs_sub .., unary_bufs_sub .., unary_bufs_sub .., reshape_bufs_sub .., nullary_bufs_sub .., unary_bufs_sub .., binary_bufs_sub .., unary_bufs_sub .., unary_bufs_sub .., unary_bufs_sub .., reshape_bufs_sub .., nullary_bufs_sub .., unary_bufs_sub .., binary_bufs_sub .., unary_bufs_sub .., unary_bufs_sub .., unary_bufs_sub .., reshape_bufs_sub .., nullary_bufs_sub .., unary_bufs_sub .., binary_bufs_sub .., unary_bufs_sub .., unary_bufs_sub .., unary_bufs_sub .., reshape_bufs_sub .., nullary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., unary_bufs_sub .., binary_bufs_sub .., nullary_bufs_sub .., unary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., nullary_bufs_sub .., nullary_bufs_sub .., nullary_bufs_sub .., unary_bufs_sub .., unary_bufs_sub .., unary_bufs_sub .., unary_bufs_sub ..⟩
set_option maxRecDepth 8192 in
theorem ops_part0_fresh : (ops_part0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part1_0_sub : (ops_part1_0 : List (HloOp τ sig (Elt F))).Forall fun op => op.bufs ⊆ tcRefs τ sig :=
  ⟨unary_bufs_sub .., binary_bufs_sub .., unary_bufs_sub .., unary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., unary_bufs_sub .., unary_bufs_sub .., binary_bufs_sub .., unary_bufs_sub .., unary_bufs_sub .., unary_bufs_sub .., unary_bufs_sub .., binary_bufs_sub .., nullary_bufs_sub ..⟩
set_option maxRecDepth 8192 in
theorem ops_part1_0_fresh : (ops_part1_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part1_1_sub : (ops_part1_1 : List (HloOp τ sig (Elt F))).Forall fun op => op.bufs ⊆ tcRefs τ sig :=
  ⟨nullary_bufs_sub .., unary_bufs_sub .., unary_bufs_sub .., binary_bufs_sub .., unary_bufs_sub .., unary_bufs_sub .., binary_bufs_sub .., unary_bufs_sub .., unary_bufs_sub .., unary_bufs_sub .., unary_bufs_sub .., unary_bufs_sub .., binary_bufs_sub .., unary_bufs_sub .., unary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., unary_bufs_sub ..⟩
set_option maxRecDepth 8192 in
theorem ops_part1_1_fresh : (ops_part1_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part1_2_sub : (ops_part1_2 : List (HloOp τ sig (Elt F))).Forall fun op => op.bufs ⊆ tcRefs τ sig :=
  ⟨unary_bufs_sub .., unary_bufs_sub .., unary_bufs_sub .., unary_bufs_sub .., binary_bufs_sub .., unary_bufs_sub .., unary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., nullary_bufs_sub ..⟩
set_option maxRecDepth 8192 in
theorem ops_part1_2_fresh : (ops_part1_2 : List (HloOp τ sig (Elt F))).Forall fun op => op.fresh = ∅ :=
  ⟨rfl, rfl, rfl, rfl, rfl, rfl, rfl, rfl, rfl, rfl, rfl, rfl, rfl, rfl, rfl, rfl, rfl, rfl, rfl, rfl⟩
set_option maxRecDepth 8192 in
theorem ops_part2_0_sub : (ops_part2_0 : List (HloOp τ sig (Elt F))).Forall fun op => op.bufs ⊆ tcRefs τ sig :=
  ⟨unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub ..⟩
set_option maxRecDepth 8192 in
theorem ops_part2_0_fresh : (ops_part2_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part2_1_sub : (ops_part2_1 : List (HloOp τ sig (Elt F))).Forall fun op => op.bufs ⊆ tcRefs τ sig :=
  ⟨binary_bufs_sub .., nullary_bufs_sub .., unary_bufs_sub .., binary_bufs_sub .., ternary_bufs_sub .., unary_bufs_sub .., nullary_bufs_sub .., unary_bufs_sub .., unary_bufs_sub .., unary_bufs_sub .., unary_bufs_sub .., unary_bufs_sub .., unary_bufs_sub .., unary_bufs_sub .., nary_bufs_sub .., binary_bufs_sub .., reshape_bufs_sub .., unary_bufs_sub .., unary_bufs_sub .., unary_bufs_sub .., unary_bufs_sub .., unary_bufs_sub .., binary_bufs_sub .., unary_bufs_sub .., unary_bufs_sub .., unary_bufs_sub .., unary_bufs_sub .., unary_bufs_sub .., binary_bufs_sub .., unary_bufs_sub ..⟩
set_option maxRecDepth 8192 in
theorem ops_part2_1_fresh : (ops_part2_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part2_2_sub : (ops_part2_2 : List (HloOp τ sig (Elt F))).Forall fun op => op.bufs ⊆ tcRefs τ sig :=
  ⟨unary_bufs_sub .., binary_bufs_sub .., unary_bufs_sub .., unary_bufs_sub .., binary_bufs_sub .., binary_bufs_sub .., unary_bufs_sub .., unary_bufs_sub .., unary_bufs_sub .., binary_bufs_sub ..⟩
set_option maxRecDepth 8192 in
theorem ops_part2_2_fresh : (ops_part2_2 : List (HloOp τ sig (Elt F))).Forall fun op => op.fresh = ∅ :=
  ⟨rfl, rfl, rfl, rfl, rfl, rfl, rfl, rfl, rfl, rfl⟩
set_option maxRecDepth 8192 in
theorem ops_part3_sub : (ops_part3 : List (HloOp τ sig (Elt F))).Forall fun op => op.bufs ⊆ tcRefs τ sig :=
  ⟨unary_bufs_sub .., unary_bufs_sub .., binary_bufs_sub .., binary_bufs_sub .., unary_bufs_sub .., unary_bufs_sub .., unary_bufs_sub .., unary_bufs_sub .., unary_bufs_sub .., binary_bufs_sub .., unary_bufs_sub .., nullary_bufs_sub .., unary_bufs_sub .., unary_bufs_sub .., unary_bufs_sub .., unary_bufs_sub .., unary_bufs_sub .., unary_bufs_sub .., ternary_bufs_sub .., nullary_bufs_sub .., binary_bufs_sub .., nullary_bufs_sub .., binary_bufs_sub .., nullary_bufs_sub .., unary_bufs_sub .., unary_bufs_sub .., unary_bufs_sub .., unary_bufs_sub .., unary_bufs_sub .., ternary_bufs_sub .., unary_bufs_sub .., unary_bufs_sub ..⟩
set_option maxRecDepth 8192 in
theorem ops_part3_fresh : (ops_part3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem ops_sub : (ops : List (HloOp τ sig (Elt F))).Forall fun op => op.bufs ⊆ tcRefs τ sig :=
  List.forall_iff_forall_mem.mpr fun op h => by
    simp only [ops, ops_part1, ops_part2, List.mem_append, or_assoc] at h
    rcases h with h | h | h | h | h | h | h | h
    exacts [List.forall_iff_forall_mem.mp ops_part0_sub op h, List.forall_iff_forall_mem.mp ops_part1_0_sub op h, List.forall_iff_forall_mem.mp ops_part1_1_sub op h, List.forall_iff_forall_mem.mp ops_part1_2_sub op h, List.forall_iff_forall_mem.mp ops_part2_0_sub op h, List.forall_iff_forall_mem.mp ops_part2_1_sub op h, List.forall_iff_forall_mem.mp ops_part2_2_sub op h, List.forall_iff_forall_mem.mp ops_part3_sub op h]
theorem ops_fresh : ∀ op ∈ (ops : List (HloOp τ sig (Elt F))), op.fresh = ∅ := fun op h => by
    simp only [ops, ops_part1, ops_part2, List.mem_append, or_assoc] at h
    rcases h with h | h | h | h | h | h | h | h
    exacts [List.forall_iff_forall_mem.mp ops_part0_fresh op h, List.forall_iff_forall_mem.mp ops_part1_0_fresh op h, List.forall_iff_forall_mem.mp ops_part1_1_fresh op h, List.forall_iff_forall_mem.mp ops_part1_2_fresh op h, List.forall_iff_forall_mem.mp ops_part2_0_fresh op h, List.forall_iff_forall_mem.mp ops_part2_1_fresh op h, List.forall_iff_forall_mem.mp ops_part2_2_fresh op h, List.forall_iff_forall_mem.mp ops_part3_fresh op h]

end Cert.ReferenceIdeal.Roi

end
-- ==== Proof.Roi.RefRun.lean ====
/- What the reference's buffers hold after its operations, stretch by stretch, as terms of the two arguments,
   and the run of the whole reference with its result named. -/
module

public import proofs.«01_k».proof.Proof.Roi.RefOps

@[expose] public section

set_option Elab.async false

noncomputable section

namespace Cert.ReferenceIdeal.Roi

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
/-- What `main_v2` holds, as a term of the arguments. -/
def res_main_v2 (V0 : Valuation τ sig (Elt F)) : (Proc.devRef .tc main_v2 : DevRef τ sig).ty.Contents (Elt F) :=
  fptosi 32 (shapeCast _ (extractStridedSlice S300x1 ![0, 0] (V0 (Proc.devRef .tc main_arg1)) slices_S300x5_S300x1_0_0) shapeCasts_S300x1_S300)

set_option maxRecDepth 8192 in
/-- What `main_v8` holds, as a term of the arguments. -/
def res_main_v8 (V0 : Valuation τ sig (Elt F)) : (Proc.devRef .tc main_v8 : DevRef τ sig).ty.Contents (Elt F) :=
  fptosi 32 (Host.roundeven (mulf (shapeCast _ (extractStridedSlice S300x1 ![0, 1] (V0 (Proc.devRef .tc main_arg1)) slices_S300x5_S300x1_0_1) shapeCasts_S300x1_S300) (broadcastInDim S300 ![] bcast_S_S300 (constant S_ .f32 0x3D800000#32))))

set_option maxRecDepth 8192 in
/-- What `main_v14` holds, as a term of the arguments. -/
def res_main_v14 (V0 : Valuation τ sig (Elt F)) : (Proc.devRef .tc main_v14 : DevRef τ sig).ty.Contents (Elt F) :=
  fptosi 32 (Host.roundeven (mulf (shapeCast _ (extractStridedSlice S300x1 ![0, 2] (V0 (Proc.devRef .tc main_arg1)) slices_S300x5_S300x1_0_2) shapeCasts_S300x1_S300) (broadcastInDim S300 ![] bcast_S_S300 (constant S_ .f32 0x3D800000#32))))

set_option maxRecDepth 8192 in
/-- What `main_v40` holds, as a term of the arguments. -/
def res_main_v40 (V0 : Valuation τ sig (Elt F)) : (Proc.devRef .tc main_v40 : DevRef τ sig).ty.Contents (Elt F) :=
  Host.divf (sitofp .f32 (maxsi (addi (subi (fptosi 32 (Host.roundeven (mulf (shapeCast _ (extractStridedSlice S300x1 ![0, 4] (V0 (Proc.devRef .tc main_arg1)) slices_S300x5_S300x1_0_4) shapeCasts_S300x1_S300) (broadcastInDim S300 ![] bcast_S_S300 (constant S_ .f32 0x3D800000#32))))) (res_main_v14 V0)) (broadcastInDim S300 ![] bcast_S_S300 (constantI S_ 32 1#32))) (broadcastInDim S300 ![] bcast_S_S300 (constantI S_ 32 1#32)))) (broadcastInDim S300 ![] bcast_S_S300 (constant S_ .f32 0x40E00000#32))

set_option maxRecDepth 8192 in
/-- What `main_v42` holds, as a term of the arguments. -/
def res_main_v42 (V0 : Valuation τ sig (Elt F)) : (Proc.devRef .tc main_v42 : DevRef τ sig).ty.Contents (Elt F) :=
  Host.divf (sitofp .f32 (maxsi (addi (subi (fptosi 32 (Host.roundeven (mulf (shapeCast _ (extractStridedSlice S300x1 ![0, 3] (V0 (Proc.devRef .tc main_arg1)) slices_S300x5_S300x1_0_3) shapeCasts_S300x1_S300) (broadcastInDim S300 ![] bcast_S_S300 (constant S_ .f32 0x3D800000#32))))) (res_main_v8 V0)) (broadcastInDim S300 ![] bcast_S_S300 (constantI S_ 32 1#32))) (broadcastInDim S300 ![] bcast_S_S300 (constantI S_ 32 1#32)))) (broadcastInDim S300 ![] bcast_S_S300 (constant S_ .f32 0x40E00000#32))

set_option maxRecDepth 8192 in
/-- What `main_v45` holds, as a term of the arguments. -/
def res_main_v45 (V0 : Valuation τ sig (Elt F)) : (Proc.devRef .tc main_v45 : DevRef τ sig).ty.Contents (Elt F) :=
  iotaInDim S7 32 0

set_option maxRecDepth 8192 in
/-- What `main_v57` holds, as a term of the arguments. -/
def res_main_v57 (V0 : Valuation τ sig (Elt F)) : (Proc.devRef .tc main_v57 : DevRef τ sig).ty.Contents (Elt F) :=
  minsi (broadcastInDim S300x7 ![] bcast_S_S300x7 (id (constantI S_ 32 50#32))) (maxsi (broadcastInDim S300x7 ![] bcast_S_S300x7 (id (constantI S_ 32 0#32))) (addi (fptosi 32 (Host.floor (mulf (broadcastInDim S300x7 ![0, 1] bcast_S1x7_S300x7_0_1 (broadcastInDim S1x7 ![1] bcast_S7_S1x7_1 (sitofp .f32 (res_main_v45 V0)))) (broadcastInDim S300x7 ![0, 1] bcast_S300x1_S300x7_0_1 (broadcastInDim S300x1 ![0] bcast_S300_S300x1_0 (res_main_v40 V0)))))) (broadcastInDim S300x7 ![0, 1] bcast_S300x1_S300x7_0_1 (broadcastInDim S300x1 ![0] bcast_S300_S300x1_0 (res_main_v14 V0)))))

set_option maxRecDepth 8192 in
/-- What `main_v83` holds, as a term of the arguments. -/
def res_main_v83 (V0 : Valuation τ sig (Elt F)) : (Proc.devRef .tc main_v83 : DevRef τ sig).ty.Contents (Elt F) :=
  minsi (broadcastInDim S300x7 ![] bcast_S_S300x7 (id (constantI S_ 32 50#32))) (maxsi (broadcastInDim S300x7 ![] bcast_S_S300x7 (id (constantI S_ 32 0#32))) (addi (fptosi 32 (Host.floor (mulf (broadcastInDim S300x7 ![0, 1] bcast_S1x7_S300x7_0_1 (broadcastInDim S1x7 ![1] bcast_S7_S1x7_1 (sitofp .f32 (res_main_v45 V0)))) (broadcastInDim S300x7 ![0, 1] bcast_S300x1_S300x7_0_1 (broadcastInDim S300x1 ![0] bcast_S300_S300x1_0 (res_main_v42 V0)))))) (broadcastInDim S300x7 ![0, 1] bcast_S300x1_S300x7_0_1 (broadcastInDim S300x1 ![0] bcast_S300_S300x1_0 (res_main_v8 V0)))))

set_option maxRecDepth 8192 in
/-- What `main_v98` holds, as a term of the arguments. -/
def res_main_v98 (V0 : Valuation τ sig (Elt F)) : (Proc.devRef .tc main_v98 : DevRef τ sig).ty.Contents (Elt F) :=
  minsi (broadcastInDim S300x7 ![] bcast_S_S300x7 (id (constantI S_ 32 40#32))) (maxsi (broadcastInDim S300x7 ![] bcast_S_S300x7 (id (constantI S_ 32 0#32))) (res_main_v57 V0))

set_option maxRecDepth 8192 in
/-- What `main_v99` holds, as a term of the arguments. -/
def res_main_v99 (V0 : Valuation τ sig (Elt F)) : (Proc.devRef .tc main_v99 : DevRef τ sig).ty.Contents (Elt F) :=
  minsi (broadcastInDim S300x7 ![] bcast_S_S300x7 (id (constantI S_ 32 40#32))) (maxsi (broadcastInDim S300x7 ![] bcast_S_S300x7 (id (constantI S_ 32 0#32))) (res_main_v83 V0))

set_option maxRecDepth 8192 in
/-- What `main_v131` holds, as a term of the arguments. -/
def res_main_v131 (V0 : Valuation τ sig (Elt F)) : (Proc.devRef .tc main_v131 : DevRef τ sig).ty.Contents (Elt F) :=
  addi (broadcastInDim S300x7x10 ![0, 1, 2] bcast_S300x7x1_S300x7x10_0_1_2 (broadcastInDim S300x7x1 ![0, 1] bcast_S300x7_S300x7x1_0_1 (res_main_v98 V0))) (broadcastInDim S300x7x10 ![0, 1, 2] bcast_S1x1x10_S300x7x10_0_1_2 (broadcastInDim S1x1x10 ![1, 2] bcast_S1x10_S1x1x10_1_2 (broadcastInDim S1x10 ![1] bcast_S10_S1x10_1 (iotaInDim S10 32 0))))

set_option maxRecDepth 8192 in
/-- What `main_v137` holds, as a term of the arguments. -/
def res_main_v137 (V0 : Valuation τ sig (Elt F)) : (Proc.devRef .tc main_v137 : DevRef τ sig).ty.Contents (Elt F) :=
  addi (broadcastInDim S300x7x10 ![0, 1, 2] bcast_S300x7x1_S300x7x10_0_1_2 (broadcastInDim S300x7x1 ![0, 1] bcast_S300x7_S300x7x1_0_1 (res_main_v99 V0))) (broadcastInDim S300x7x10 ![0, 1, 2] bcast_S1x1x10_S300x7x10_0_1_2 (broadcastInDim S1x1x10 ![1, 2] bcast_S1x10_S1x1x10_1_2 (broadcastInDim S1x10 ![1] bcast_S10_S1x10_1 (iotaInDim S10 32 0))))

set_option maxRecDepth 8192 in
/-- What `main_v158` holds, as a term of the arguments. -/
def res_main_v158 (V0 : Valuation τ sig (Elt F)) : (Proc.devRef .tc main_v158 : DevRef τ sig).ty.Contents (Elt F) :=
  andi (broadcastInDim S300x7x7x10x10 ![0, 1, 2, 3, 4] bcast_S300x7x1x10x1_S300x7x7x10x10_0_1_2_3_4 (broadcastInDim S300x7x1x10x1 ![0, 1, 3, 4] bcast_S300x7x10x1_S300x7x1x10x1_0_1_3_4 (broadcastInDim S300x7x10x1 ![0, 1, 2] bcast_S300x7x10_S300x7x10x1_0_1_2 (andi (cmpi .sge (res_main_v131 V0) (broadcastInDim S300x7x10 ![0, 1, 2] bcast_S300x7x1_S300x7x10_0_1_2 (broadcastInDim S300x7x1 ![0, 1] bcast_S300x7_S300x7x1_0_1 (res_main_v57 V0)))) (cmpi .slt (res_main_v131 V0) (broadcastInDim S300x7x10 ![0, 1, 2] bcast_S300x7x1_S300x7x10_0_1_2 (broadcastInDim S300x7x1 ![0, 1] bcast_S300x7_S300x7x1_0_1 (minsi (broadcastInDim S300x7 ![] bcast_S_S300x7 (id (constantI S_ 32 50#32))) (maxsi (broadcastInDim S300x7 ![] bcast_S_S300x7 (id (constantI S_ 32 0#32))) (addi (fptosi 32 (Host.ceil (mulf (broadcastInDim S300x7 ![0, 1] bcast_S1x7_S300x7_0_1 (broadcastInDim S1x7 ![1] bcast_S7_S1x7_1 (sitofp .f32 (addi (res_main_v45 V0) (broadcastInDim S7 ![] bcast_S_S7 (constantI S_ 32 1#32)))))) (broadcastInDim S300x7 ![0, 1] bcast_S300x1_S300x7_0_1 (broadcastInDim S300x1 ![0] bcast_S300_S300x1_0 (res_main_v40 V0)))))) (broadcastInDim S300x7 ![0, 1] bcast_S300x1_S300x7_0_1 (broadcastInDim S300x1 ![0] bcast_S300_S300x1_0 (res_main_v14 V0))))))))))))) (broadcastInDim S300x7x7x10x10 ![0, 1, 2, 3, 4] bcast_S300x1x7x1x10_S300x7x7x10x10_0_1_2_3_4 (broadcastInDim S300x1x7x1x10 ![0, 2, 3, 4] bcast_S300x7x1x10_S300x1x7x1x10_0_2_3_4 (broadcastInDim S300x7x1x10 ![0, 1, 3] bcast_S300x7x10_S300x7x1x10_0_1_3 (andi (cmpi .sge (res_main_v137 V0) (broadcastInDim S300x7x10 ![0, 1, 2] bcast_S300x7x1_S300x7x10_0_1_2 (broadcastInDim S300x7x1 ![0, 1] bcast_S300x7_S300x7x1_0_1 (res_main_v83 V0)))) (cmpi .slt (res_main_v137 V0) (broadcastInDim S300x7x10 ![0, 1, 2] bcast_S300x7x1_S300x7x10_0_1_2 (broadcastInDim S300x7x1 ![0, 1] bcast_S300x7_S300x7x1_0_1 (minsi (broadcastInDim S300x7 ![] bcast_S_S300x7 (id (constantI S_ 32 50#32))) (maxsi (broadcastInDim S300x7 ![] bcast_S_S300x7 (id (constantI S_ 32 0#32))) (addi (fptosi 32 (Host.ceil (mulf (broadcastInDim S300x7 ![0, 1] bcast_S1x7_S300x7_0_1 (broadcastInDim S1x7 ![1] bcast_S7_S1x7_1 (sitofp .f32 (addi (res_main_v45 V0) (broadcastInDim S7 ![] bcast_S_S7 (constantI S_ 32 1#32)))))) (broadcastInDim S300x7 ![0, 1] bcast_S300x1_S300x7_0_1 (broadcastInDim S300x1 ![0] bcast_S300_S300x1_0 (res_main_v42 V0)))))) (broadcastInDim S300x7 ![0, 1] bcast_S300x1_S300x7_0_1 (broadcastInDim S300x1 ![0] bcast_S300_S300x1_0 (res_main_v8 V0)))))))))))))

/-- The device's buffer contents before @main's first window. -/
def val0 (V0 : Valuation τ sig (Elt F)) : Valuation τ sig (Elt F) := V0
theorem val0_main_arg0 (V0 : Valuation τ sig (Elt F)) : val0 V0 (no_index (Proc.devRef .tc main_arg0)) = V0 (Proc.devRef .tc main_arg0) := rfl
theorem val0_main_arg1 (V0 : Valuation τ sig (Elt F)) : val0 V0 (no_index (Proc.devRef .tc main_arg1)) = V0 (Proc.devRef .tc main_arg1) := rfl

/-- The device's buffer contents after @main's first 1 window. -/
def val1 (V0 : Valuation τ sig (Elt F)) : Valuation τ sig (Elt F) := after ops_part0 (val0 V0)
/-- The buffers that window `main_part0`'s operations write. -/
abbrev ops_part0_W : List (Ref sig .tc) := [main_v0, main_v1, main_v2, main_v3, main_v4, main_cst, main_v5, main_v6, main_v7, main_v8, main_v9, main_v10, main_cst_0, main_v11, main_v12, main_v13, main_v14, main_v15, main_v16, main_cst_1, main_v17, main_v18, main_v19, main_v20, main_v21, main_v22, main_cst_2, main_v23, main_v24, main_v25, main_v26, main_v27, main_c, main_v28, main_v29, main_c_3, main_v30, main_v31, main_v32, main_v33, main_c_4, main_v34, main_v35, main_c_5, main_v36, main_v37, main_v38, main_cst_6, main_v39, main_v40, main_cst_7, main_v41, main_v42, main_v43, main_v44, main_v45, main_v46, main_v47, main_v48, main_v49]
set_option maxRecDepth 8192 in
theorem ops_part0_writes : (ops_part0 : List (HloOp τ sig (Elt F))).Forall fun op => op.writes ⊆ (ops_part0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `main_part0` does not write keeps its contents through it. -/
theorem val1_keep (V0 : Valuation τ sig (Elt F)) (r : Ref sig .tc) (h : r ∉ ops_part0_W) :
    val1 V0 (Proc.devRef .tc r) = val0 V0 (Proc.devRef .tc r) :=
  after_of_writes_sub ops_part0 _ ops_part0_writes h
theorem val1_main_arg0 (V0 : Valuation τ sig (Elt F)) : val1 V0 (no_index (Proc.devRef .tc main_arg0)) = V0 (Proc.devRef .tc main_arg0) :=
  (val1_keep V0 main_arg0 (by decide)).trans (val0_main_arg0 V0)
theorem val1_main_arg1 (V0 : Valuation τ sig (Elt F)) : val1 V0 (no_index (Proc.devRef .tc main_arg1)) = V0 (Proc.devRef .tc main_arg1) :=
  (val1_keep V0 main_arg1 (by decide)).trans (val0_main_arg1 V0)
set_option maxRecDepth 8192 in
set_option maxHeartbeats 2000000 in
theorem val1_main_v2 (V0 : Valuation τ sig (Elt F)) : val1 V0 (no_index (Proc.devRef .tc main_v2)) = res_main_v2 V0 := by
  unfold val1
  simp only [ops_part0, TRef.unary, TRef.toBuf, TRef.ofBuf, cast_eq]
  after_results_simp
  simp only [val0_main_arg1] <;> rfl
set_option maxRecDepth 8192 in
set_option maxHeartbeats 2000000 in
theorem val1_main_v8 (V0 : Valuation τ sig (Elt F)) : val1 V0 (no_index (Proc.devRef .tc main_v8)) = res_main_v8 V0 := by
  unfold val1
  simp only [ops_part0, TRef.unary, TRef.toBuf, TRef.ofBuf, cast_eq]
  after_results_simp
  simp only [val0_main_arg1] <;> rfl
set_option maxRecDepth 8192 in
set_option maxHeartbeats 2000000 in
theorem val1_main_v14 (V0 : Valuation τ sig (Elt F)) : val1 V0 (no_index (Proc.devRef .tc main_v14)) = res_main_v14 V0 := by
  unfold val1
  simp only [ops_part0, TRef.unary, TRef.toBuf, TRef.ofBuf, cast_eq]
  after_results_simp
  simp only [val0_main_arg1] <;> rfl
set_option maxRecDepth 8192 in
set_option maxHeartbeats 2000000 in
theorem val1_main_v40 (V0 : Valuation τ sig (Elt F)) : val1 V0 (no_index (Proc.devRef .tc main_v40)) = res_main_v40 V0 := by
  unfold val1
  simp only [ops_part0, TRef.unary, TRef.toBuf, TRef.ofBuf, cast_eq]
  after_results_simp
  simp only [val0_main_arg1] <;> rfl
set_option maxRecDepth 8192 in
set_option maxHeartbeats 2000000 in
theorem val1_main_v42 (V0 : Valuation τ sig (Elt F)) : val1 V0 (no_index (Proc.devRef .tc main_v42)) = res_main_v42 V0 := by
  unfold val1
  simp only [ops_part0, TRef.unary, TRef.toBuf, TRef.ofBuf, cast_eq]
  after_results_simp
  simp only [val0_main_arg1] <;> rfl
set_option maxRecDepth 8192 in
set_option maxHeartbeats 2000000 in
theorem val1_main_v43 (V0 : Valuation τ sig (Elt F)) : val1 V0 (no_index (Proc.devRef .tc main_v43)) = iotaInDim S10 32 0 := by
  unfold val1
  simp only [ops_part0, TRef.unary, TRef.toBuf, TRef.ofBuf, cast_eq]
  after_results_simp
  all_goals rfl
set_option maxRecDepth 8192 in
set_option maxHeartbeats 2000000 in
theorem val1_main_v44 (V0 : Valuation τ sig (Elt F)) : val1 V0 (no_index (Proc.devRef .tc main_v44)) = iotaInDim S10 32 0 := by
  unfold val1
  simp only [ops_part0, TRef.unary, TRef.toBuf, TRef.ofBuf, cast_eq]
  after_results_simp
  all_goals rfl
set_option maxRecDepth 8192 in
set_option maxHeartbeats 2000000 in
theorem val1_main_v45 (V0 : Valuation τ sig (Elt F)) : val1 V0 (no_index (Proc.devRef .tc main_v45)) = res_main_v45 V0 := by
  unfold val1
  simp only [ops_part0, TRef.unary, TRef.toBuf, TRef.ofBuf, cast_eq]
  after_results_simp
  all_goals rfl
set_option maxRecDepth 8192 in
set_option maxHeartbeats 2000000 in
theorem val1_main_v46 (V0 : Valuation τ sig (Elt F)) : val1 V0 (no_index (Proc.devRef .tc main_v46)) = broadcastInDim S300x1 ![0] bcast_S300_S300x1_0 (res_main_v40 V0) := by
  unfold val1
  simp only [ops_part0, TRef.unary, TRef.toBuf, TRef.ofBuf, cast_eq]
  after_results_simp
  simp only [val0_main_arg1] <;> rfl
set_option maxRecDepth 8192 in
set_option maxHeartbeats 2000000 in
theorem val1_main_v49 (V0 : Valuation τ sig (Elt F)) : val1 V0 (no_index (Proc.devRef .tc main_v49)) = broadcastInDim S300x7 ![0, 1] bcast_S1x7_S300x7_0_1 (broadcastInDim S1x7 ![1] bcast_S7_S1x7_1 (sitofp .f32 (res_main_v45 V0))) := by
  unfold val1
  simp only [ops_part0, TRef.unary, TRef.toBuf, TRef.ofBuf, cast_eq]
  after_results_simp
  all_goals rfl

/-- The device's buffer contents after @main's first 90 operations. -/
def val1_1 (V0 : Valuation τ sig (Elt F)) : Valuation τ sig (Elt F) := after ops_part1_0 (val1 V0)
/-- The buffers that window `ops_part1_0`'s operations write. -/
abbrev ops_part1_0_W : List (Ref sig .tc) := [main_v50, main_v51, main_v52, main_v53, main_v54, main_v55, main_v56, main_c_8, main_c_9, main_call4_v0, main_call4_v1, main_call4_v2, main_call4_v3, main_call4_v4, main_v57, main_c_10, main_v58, main_v59, main_v60, main_v61, main_v62, main_v63, main_v64, main_v65, main_v66, main_v67, main_v68, main_v69, main_v70, main_c_11]
set_option maxRecDepth 8192 in
theorem ops_part1_0_writes : (ops_part1_0 : List (HloOp τ sig (Elt F))).Forall fun op => op.writes ⊆ (ops_part1_0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part1_0` does not write keeps its contents through it. -/
theorem val1_1_keep (V0 : Valuation τ sig (Elt F)) (r : Ref sig .tc) (h : r ∉ ops_part1_0_W) :
    val1_1 V0 (Proc.devRef .tc r) = val1 V0 (Proc.devRef .tc r) :=
  after_of_writes_sub ops_part1_0 _ ops_part1_0_writes h
theorem val1_1_main_arg0 (V0 : Valuation τ sig (Elt F)) : val1_1 V0 (no_index (Proc.devRef .tc main_arg0)) = V0 (Proc.devRef .tc main_arg0) :=
  (val1_1_keep V0 main_arg0 (by decide)).trans (val1_main_arg0 V0)
theorem val1_1_main_arg1 (V0 : Valuation τ sig (Elt F)) : val1_1 V0 (no_index (Proc.devRef .tc main_arg1)) = V0 (Proc.devRef .tc main_arg1) :=
  (val1_1_keep V0 main_arg1 (by decide)).trans (val1_main_arg1 V0)
theorem val1_1_main_v2 (V0 : Valuation τ sig (Elt F)) : val1_1 V0 (no_index (Proc.devRef .tc main_v2)) = res_main_v2 V0 :=
  (val1_1_keep V0 main_v2 (by decide)).trans (val1_main_v2 V0)
theorem val1_1_main_v8 (V0 : Valuation τ sig (Elt F)) : val1_1 V0 (no_index (Proc.devRef .tc main_v8)) = res_main_v8 V0 :=
  (val1_1_keep V0 main_v8 (by decide)).trans (val1_main_v8 V0)
theorem val1_1_main_v42 (V0 : Valuation τ sig (Elt F)) : val1_1 V0 (no_index (Proc.devRef .tc main_v42)) = res_main_v42 V0 :=
  (val1_1_keep V0 main_v42 (by decide)).trans (val1_main_v42 V0)
theorem val1_1_main_v43 (V0 : Valuation τ sig (Elt F)) : val1_1 V0 (no_index (Proc.devRef .tc main_v43)) = iotaInDim S10 32 0 :=
  (val1_1_keep V0 main_v43 (by decide)).trans (val1_main_v43 V0)
theorem val1_1_main_v44 (V0 : Valuation τ sig (Elt F)) : val1_1 V0 (no_index (Proc.devRef .tc main_v44)) = iotaInDim S10 32 0 :=
  (val1_1_keep V0 main_v44 (by decide)).trans (val1_main_v44 V0)
theorem val1_1_main_v45 (V0 : Valuation τ sig (Elt F)) : val1_1 V0 (no_index (Proc.devRef .tc main_v45)) = res_main_v45 V0 :=
  (val1_1_keep V0 main_v45 (by decide)).trans (val1_main_v45 V0)
set_option maxRecDepth 8192 in
set_option maxHeartbeats 2000000 in
theorem val1_1_main_v57 (V0 : Valuation τ sig (Elt F)) : val1_1 V0 (no_index (Proc.devRef .tc main_v57)) = res_main_v57 V0 := by
  unfold val1_1
  simp only [ops_part1_0, TRef.binary, TRef.unary, TRef.toBuf, TRef.ofBuf, cast_eq]
  after_results_simp
  simp only [val1_main_v14, val1_main_v46, val1_main_v49] <;> rfl
set_option maxRecDepth 8192 in
set_option maxHeartbeats 2000000 in
theorem val1_1_main_v70 (V0 : Valuation τ sig (Elt F)) : val1_1 V0 (no_index (Proc.devRef .tc main_v70)) = addi (fptosi 32 (Host.ceil (mulf (broadcastInDim S300x7 ![0, 1] bcast_S1x7_S300x7_0_1 (broadcastInDim S1x7 ![1] bcast_S7_S1x7_1 (sitofp .f32 (addi (res_main_v45 V0) (broadcastInDim S7 ![] bcast_S_S7 (constantI S_ 32 1#32)))))) (broadcastInDim S300x7 ![0, 1] bcast_S300x1_S300x7_0_1 (broadcastInDim S300x1 ![0] bcast_S300_S300x1_0 (res_main_v40 V0)))))) (broadcastInDim S300x7 ![0, 1] bcast_S300x1_S300x7_0_1 (broadcastInDim S300x1 ![0] bcast_S300_S300x1_0 (res_main_v14 V0))) := by
  unfold val1_1
  simp only [ops_part1_0, TRef.binary, TRef.unary, TRef.toBuf, TRef.ofBuf, cast_eq]
  after_results_simp
  simp only [val1_main_v14, val1_main_v40, val1_main_v45] <;> rfl
set_option maxRecDepth 8192 in
set_option maxHeartbeats 2000000 in
theorem val1_1_main_c_11 (V0 : Valuation τ sig (Elt F)) : val1_1 V0 (no_index (Proc.devRef .tc main_c_11)) = constantI S_ 32 0#32 := by
  unfold val1_1
  simp only [ops_part1_0, TRef.binary, TRef.unary, TRef.toBuf, TRef.ofBuf, cast_eq]
  after_results_simp
  all_goals rfl

/-- The device's buffer contents after @main's first 120 operations. -/
def val1_2 (V0 : Valuation τ sig (Elt F)) : Valuation τ sig (Elt F) := after ops_part1_1 (val1_1 V0)
/-- The buffers that window `ops_part1_1`'s operations write. -/
abbrev ops_part1_1_W : List (Ref sig .tc) := [main_c_12, main_call5_v0, main_call5_v1, main_call5_v2, main_call5_v3, main_call5_v4, main_v71, main_v72, main_v73, main_v74, main_v75, main_v76, main_v77, main_v78, main_v79, main_v80, main_v81, main_v82, main_c_13, main_c_14, main_call6_v0, main_call6_v1, main_call6_v2, main_call6_v3, main_call6_v4, main_v83, main_c_15, main_v84, main_v85, main_v86]
set_option maxRecDepth 8192 in
theorem ops_part1_1_writes : (ops_part1_1 : List (HloOp τ sig (Elt F))).Forall fun op => op.writes ⊆ (ops_part1_1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part1_1` does not write keeps its contents through it. -/
theorem val1_2_keep (V0 : Valuation τ sig (Elt F)) (r : Ref sig .tc) (h : r ∉ ops_part1_1_W) :
    val1_2 V0 (Proc.devRef .tc r) = val1_1 V0 (Proc.devRef .tc r) :=
  after_of_writes_sub ops_part1_1 _ ops_part1_1_writes h
theorem val1_2_main_arg0 (V0 : Valuation τ sig (Elt F)) : val1_2 V0 (no_index (Proc.devRef .tc main_arg0)) = V0 (Proc.devRef .tc main_arg0) :=
  (val1_2_keep V0 main_arg0 (by decide)).trans (val1_1_main_arg0 V0)
theorem val1_2_main_arg1 (V0 : Valuation τ sig (Elt F)) : val1_2 V0 (no_index (Proc.devRef .tc main_arg1)) = V0 (Proc.devRef .tc main_arg1) :=
  (val1_2_keep V0 main_arg1 (by decide)).trans (val1_1_main_arg1 V0)
theorem val1_2_main_v2 (V0 : Valuation τ sig (Elt F)) : val1_2 V0 (no_index (Proc.devRef .tc main_v2)) = res_main_v2 V0 :=
  (val1_2_keep V0 main_v2 (by decide)).trans (val1_1_main_v2 V0)
theorem val1_2_main_v8 (V0 : Valuation τ sig (Elt F)) : val1_2 V0 (no_index (Proc.devRef .tc main_v8)) = res_main_v8 V0 :=
  (val1_2_keep V0 main_v8 (by decide)).trans (val1_1_main_v8 V0)
theorem val1_2_main_v43 (V0 : Valuation τ sig (Elt F)) : val1_2 V0 (no_index (Proc.devRef .tc main_v43)) = iotaInDim S10 32 0 :=
  (val1_2_keep V0 main_v43 (by decide)).trans (val1_1_main_v43 V0)
theorem val1_2_main_v44 (V0 : Valuation τ sig (Elt F)) : val1_2 V0 (no_index (Proc.devRef .tc main_v44)) = iotaInDim S10 32 0 :=
  (val1_2_keep V0 main_v44 (by decide)).trans (val1_1_main_v44 V0)
theorem val1_2_main_v57 (V0 : Valuation τ sig (Elt F)) : val1_2 V0 (no_index (Proc.devRef .tc main_v57)) = res_main_v57 V0 :=
  (val1_2_keep V0 main_v57 (by decide)).trans (val1_1_main_v57 V0)
set_option maxRecDepth 8192 in
set_option maxHeartbeats 2000000 in
theorem val1_2_main_v71 (V0 : Valuation τ sig (Elt F)) : val1_2 V0 (no_index (Proc.devRef .tc main_v71)) = minsi (broadcastInDim S300x7 ![] bcast_S_S300x7 (id (constantI S_ 32 50#32))) (maxsi (broadcastInDim S300x7 ![] bcast_S_S300x7 (id (constantI S_ 32 0#32))) (addi (fptosi 32 (Host.ceil (mulf (broadcastInDim S300x7 ![0, 1] bcast_S1x7_S300x7_0_1 (broadcastInDim S1x7 ![1] bcast_S7_S1x7_1 (sitofp .f32 (addi (res_main_v45 V0) (broadcastInDim S7 ![] bcast_S_S7 (constantI S_ 32 1#32)))))) (broadcastInDim S300x7 ![0, 1] bcast_S300x1_S300x7_0_1 (broadcastInDim S300x1 ![0] bcast_S300_S300x1_0 (res_main_v40 V0)))))) (broadcastInDim S300x7 ![0, 1] bcast_S300x1_S300x7_0_1 (broadcastInDim S300x1 ![0] bcast_S300_S300x1_0 (res_main_v14 V0))))) := by
  unfold val1_2
  simp only [ops_part1_1, TRef.binary, TRef.unary, TRef.toBuf, TRef.ofBuf, cast_eq]
  after_results_simp
  simp only [val1_1_main_v70, val1_1_main_c_11] <;> rfl
set_option maxRecDepth 8192 in
set_option maxHeartbeats 2000000 in
theorem val1_2_main_v83 (V0 : Valuation τ sig (Elt F)) : val1_2 V0 (no_index (Proc.devRef .tc main_v83)) = res_main_v83 V0 := by
  unfold val1_2
  simp only [ops_part1_1, TRef.binary, TRef.unary, TRef.toBuf, TRef.ofBuf, cast_eq]
  after_results_simp
  simp only [val1_1_main_v8, val1_1_main_v42, val1_1_main_v45] <;> rfl
set_option maxRecDepth 8192 in
set_option maxHeartbeats 2000000 in
theorem val1_2_main_v85 (V0 : Valuation τ sig (Elt F)) : val1_2 V0 (no_index (Proc.devRef .tc main_v85)) = addi (res_main_v45 V0) (broadcastInDim S7 ![] bcast_S_S7 (constantI S_ 32 1#32)) := by
  unfold val1_2
  simp only [ops_part1_1, TRef.binary, TRef.unary, TRef.toBuf, TRef.ofBuf, cast_eq]
  after_results_simp
  simp only [val1_1_main_v45] <;> rfl
set_option maxRecDepth 8192 in
set_option maxHeartbeats 2000000 in
theorem val1_2_main_v86 (V0 : Valuation τ sig (Elt F)) : val1_2 V0 (no_index (Proc.devRef .tc main_v86)) = broadcastInDim S300x1 ![0] bcast_S300_S300x1_0 (res_main_v42 V0) := by
  unfold val1_2
  simp only [ops_part1_1, TRef.binary, TRef.unary, TRef.toBuf, TRef.ofBuf, cast_eq]
  after_results_simp
  simp only [val1_1_main_v42] <;> rfl

/-- The device's buffer contents after @main's first 2 windows. -/
def val2 (V0 : Valuation τ sig (Elt F)) : Valuation τ sig (Elt F) := after ops_part1_2 (val1_2 V0)
/-- The buffers that window `ops_part1_2`'s operations write. -/
abbrev ops_part1_2_W : List (Ref sig .tc) := [main_v87, main_v88, main_v89, main_v90, main_v91, main_v92, main_v93, main_v94, main_v95, main_v96, main_c_16, main_c_17, main_call7_v0, main_call7_v1, main_call7_v2, main_call7_v3, main_call7_v4, main_v97, main_c_18, main_c_19]
set_option maxRecDepth 8192 in
theorem ops_part1_2_writes : (ops_part1_2 : List (HloOp τ sig (Elt F))).Forall fun op => op.writes ⊆ (ops_part1_2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part1_2` does not write keeps its contents through it. -/
theorem val2_keep (V0 : Valuation τ sig (Elt F)) (r : Ref sig .tc) (h : r ∉ ops_part1_2_W) :
    val2 V0 (Proc.devRef .tc r) = val1_2 V0 (Proc.devRef .tc r) :=
  after_of_writes_sub ops_part1_2 _ ops_part1_2_writes h
theorem val2_main_arg0 (V0 : Valuation τ sig (Elt F)) : val2 V0 (no_index (Proc.devRef .tc main_arg0)) = V0 (Proc.devRef .tc main_arg0) :=
  (val2_keep V0 main_arg0 (by decide)).trans (val1_2_main_arg0 V0)
theorem val2_main_arg1 (V0 : Valuation τ sig (Elt F)) : val2 V0 (no_index (Proc.devRef .tc main_arg1)) = V0 (Proc.devRef .tc main_arg1) :=
  (val2_keep V0 main_arg1 (by decide)).trans (val1_2_main_arg1 V0)
theorem val2_main_v2 (V0 : Valuation τ sig (Elt F)) : val2 V0 (no_index (Proc.devRef .tc main_v2)) = res_main_v2 V0 :=
  (val2_keep V0 main_v2 (by decide)).trans (val1_2_main_v2 V0)
theorem val2_main_v43 (V0 : Valuation τ sig (Elt F)) : val2 V0 (no_index (Proc.devRef .tc main_v43)) = iotaInDim S10 32 0 :=
  (val2_keep V0 main_v43 (by decide)).trans (val1_2_main_v43 V0)
theorem val2_main_v44 (V0 : Valuation τ sig (Elt F)) : val2 V0 (no_index (Proc.devRef .tc main_v44)) = iotaInDim S10 32 0 :=
  (val2_keep V0 main_v44 (by decide)).trans (val1_2_main_v44 V0)
theorem val2_main_v57 (V0 : Valuation τ sig (Elt F)) : val2 V0 (no_index (Proc.devRef .tc main_v57)) = res_main_v57 V0 :=
  (val2_keep V0 main_v57 (by decide)).trans (val1_2_main_v57 V0)
theorem val2_main_v71 (V0 : Valuation τ sig (Elt F)) : val2 V0 (no_index (Proc.devRef .tc main_v71)) = minsi (broadcastInDim S300x7 ![] bcast_S_S300x7 (id (constantI S_ 32 50#32))) (maxsi (broadcastInDim S300x7 ![] bcast_S_S300x7 (id (constantI S_ 32 0#32))) (addi (fptosi 32 (Host.ceil (mulf (broadcastInDim S300x7 ![0, 1] bcast_S1x7_S300x7_0_1 (broadcastInDim S1x7 ![1] bcast_S7_S1x7_1 (sitofp .f32 (addi (res_main_v45 V0) (broadcastInDim S7 ![] bcast_S_S7 (constantI S_ 32 1#32)))))) (broadcastInDim S300x7 ![0, 1] bcast_S300x1_S300x7_0_1 (broadcastInDim S300x1 ![0] bcast_S300_S300x1_0 (res_main_v40 V0)))))) (broadcastInDim S300x7 ![0, 1] bcast_S300x1_S300x7_0_1 (broadcastInDim S300x1 ![0] bcast_S300_S300x1_0 (res_main_v14 V0))))) :=
  (val2_keep V0 main_v71 (by decide)).trans (val1_2_main_v71 V0)
theorem val2_main_v83 (V0 : Valuation τ sig (Elt F)) : val2 V0 (no_index (Proc.devRef .tc main_v83)) = res_main_v83 V0 :=
  (val2_keep V0 main_v83 (by decide)).trans (val1_2_main_v83 V0)
set_option maxRecDepth 8192 in
set_option maxHeartbeats 2000000 in
theorem val2_main_v97 (V0 : Valuation τ sig (Elt F)) : val2 V0 (no_index (Proc.devRef .tc main_v97)) = minsi (broadcastInDim S300x7 ![] bcast_S_S300x7 (id (constantI S_ 32 50#32))) (maxsi (broadcastInDim S300x7 ![] bcast_S_S300x7 (id (constantI S_ 32 0#32))) (addi (fptosi 32 (Host.ceil (mulf (broadcastInDim S300x7 ![0, 1] bcast_S1x7_S300x7_0_1 (broadcastInDim S1x7 ![1] bcast_S7_S1x7_1 (sitofp .f32 (addi (res_main_v45 V0) (broadcastInDim S7 ![] bcast_S_S7 (constantI S_ 32 1#32)))))) (broadcastInDim S300x7 ![0, 1] bcast_S300x1_S300x7_0_1 (broadcastInDim S300x1 ![0] bcast_S300_S300x1_0 (res_main_v42 V0)))))) (broadcastInDim S300x7 ![0, 1] bcast_S300x1_S300x7_0_1 (broadcastInDim S300x1 ![0] bcast_S300_S300x1_0 (res_main_v8 V0))))) := by
  unfold val2
  simp only [ops_part1_2, TRef.binary, TRef.unary, TRef.toBuf, TRef.ofBuf, cast_eq]
  after_results_simp
  simp only [val1_2_main_v8, val1_2_main_v86, val1_2_main_v85] <;> rfl
set_option maxRecDepth 8192 in
set_option maxHeartbeats 2000000 in
theorem val2_main_c_18 (V0 : Valuation τ sig (Elt F)) : val2 V0 (no_index (Proc.devRef .tc main_c_18)) = constantI S_ 32 0#32 := by
  unfold val2
  simp only [ops_part1_2, TRef.binary, TRef.unary, TRef.toBuf, TRef.ofBuf, cast_eq]
  after_results_simp
  all_goals rfl
set_option maxRecDepth 8192 in
set_option maxHeartbeats 2000000 in
theorem val2_main_c_19 (V0 : Valuation τ sig (Elt F)) : val2 V0 (no_index (Proc.devRef .tc main_c_19)) = constantI S_ 32 40#32 := by
  unfold val2
  simp only [ops_part1_2, TRef.binary, TRef.unary, TRef.toBuf, TRef.ofBuf, cast_eq]
  after_results_simp
  all_goals rfl

/-- The device's buffer contents after @main's first 170 operations. -/
def val2_1 (V0 : Valuation τ sig (Elt F)) : Valuation τ sig (Elt F) := after ops_part2_0 (val2 V0)
/-- The buffers that window `ops_part2_0`'s operations write. -/
abbrev ops_part2_0_W : List (Ref sig .tc) := [main_call8_v0, main_call8_v1, main_call8_v2, main_call8_v3, main_call8_v4, main_v98, main_c_20, main_c_21, main_call9_v0, main_call9_v1, main_call9_v2, main_call9_v3, main_call9_v4, main_v99, main_c_22, main_v100, main_v101, main_c_23, main_v102, main_v103, main_v104, main_c_24, main_v105, main_v106, main_c_25, main_v107, main_v108, main_v109, main_c_26, main_v110]
set_option maxRecDepth 8192 in
theorem ops_part2_0_writes : (ops_part2_0 : List (HloOp τ sig (Elt F))).Forall fun op => op.writes ⊆ (ops_part2_0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part2_0` does not write keeps its contents through it. -/
theorem val2_1_keep (V0 : Valuation τ sig (Elt F)) (r : Ref sig .tc) (h : r ∉ ops_part2_0_W) :
    val2_1 V0 (Proc.devRef .tc r) = val2 V0 (Proc.devRef .tc r) :=
  after_of_writes_sub ops_part2_0 _ ops_part2_0_writes h
theorem val2_1_main_arg0 (V0 : Valuation τ sig (Elt F)) : val2_1 V0 (no_index (Proc.devRef .tc main_arg0)) = V0 (Proc.devRef .tc main_arg0) :=
  (val2_1_keep V0 main_arg0 (by decide)).trans (val2_main_arg0 V0)
theorem val2_1_main_arg1 (V0 : Valuation τ sig (Elt F)) : val2_1 V0 (no_index (Proc.devRef .tc main_arg1)) = V0 (Proc.devRef .tc main_arg1) :=
  (val2_1_keep V0 main_arg1 (by decide)).trans (val2_main_arg1 V0)
theorem val2_1_main_v43 (V0 : Valuation τ sig (Elt F)) : val2_1 V0 (no_index (Proc.devRef .tc main_v43)) = iotaInDim S10 32 0 :=
  (val2_1_keep V0 main_v43 (by decide)).trans (val2_main_v43 V0)
theorem val2_1_main_v44 (V0 : Valuation τ sig (Elt F)) : val2_1 V0 (no_index (Proc.devRef .tc main_v44)) = iotaInDim S10 32 0 :=
  (val2_1_keep V0 main_v44 (by decide)).trans (val2_main_v44 V0)
theorem val2_1_main_v57 (V0 : Valuation τ sig (Elt F)) : val2_1 V0 (no_index (Proc.devRef .tc main_v57)) = res_main_v57 V0 :=
  (val2_1_keep V0 main_v57 (by decide)).trans (val2_main_v57 V0)
theorem val2_1_main_v71 (V0 : Valuation τ sig (Elt F)) : val2_1 V0 (no_index (Proc.devRef .tc main_v71)) = minsi (broadcastInDim S300x7 ![] bcast_S_S300x7 (id (constantI S_ 32 50#32))) (maxsi (broadcastInDim S300x7 ![] bcast_S_S300x7 (id (constantI S_ 32 0#32))) (addi (fptosi 32 (Host.ceil (mulf (broadcastInDim S300x7 ![0, 1] bcast_S1x7_S300x7_0_1 (broadcastInDim S1x7 ![1] bcast_S7_S1x7_1 (sitofp .f32 (addi (res_main_v45 V0) (broadcastInDim S7 ![] bcast_S_S7 (constantI S_ 32 1#32)))))) (broadcastInDim S300x7 ![0, 1] bcast_S300x1_S300x7_0_1 (broadcastInDim S300x1 ![0] bcast_S300_S300x1_0 (res_main_v40 V0)))))) (broadcastInDim S300x7 ![0, 1] bcast_S300x1_S300x7_0_1 (broadcastInDim S300x1 ![0] bcast_S300_S300x1_0 (res_main_v14 V0))))) :=
  (val2_1_keep V0 main_v71 (by decide)).trans (val2_main_v71 V0)
theorem val2_1_main_v83 (V0 : Valuation τ sig (Elt F)) : val2_1 V0 (no_index (Proc.devRef .tc main_v83)) = res_main_v83 V0 :=
  (val2_1_keep V0 main_v83 (by decide)).trans (val2_main_v83 V0)
theorem val2_1_main_v97 (V0 : Valuation τ sig (Elt F)) : val2_1 V0 (no_index (Proc.devRef .tc main_v97)) = minsi (broadcastInDim S300x7 ![] bcast_S_S300x7 (id (constantI S_ 32 50#32))) (maxsi (broadcastInDim S300x7 ![] bcast_S_S300x7 (id (constantI S_ 32 0#32))) (addi (fptosi 32 (Host.ceil (mulf (broadcastInDim S300x7 ![0, 1] bcast_S1x7_S300x7_0_1 (broadcastInDim S1x7 ![1] bcast_S7_S1x7_1 (sitofp .f32 (addi (res_main_v45 V0) (broadcastInDim S7 ![] bcast_S_S7 (constantI S_ 32 1#32)))))) (broadcastInDim S300x7 ![0, 1] bcast_S300x1_S300x7_0_1 (broadcastInDim S300x1 ![0] bcast_S300_S300x1_0 (res_main_v42 V0)))))) (broadcastInDim S300x7 ![0, 1] bcast_S300x1_S300x7_0_1 (broadcastInDim S300x1 ![0] bcast_S300_S300x1_0 (res_main_v8 V0))))) :=
  (val2_1_keep V0 main_v97 (by decide)).trans (val2_main_v97 V0)
set_option maxRecDepth 8192 in
set_option maxHeartbeats 2000000 in
theorem val2_1_main_v98 (V0 : Valuation τ sig (Elt F)) : val2_1 V0 (no_index (Proc.devRef .tc main_v98)) = res_main_v98 V0 := by
  unfold val2_1
  simp only [ops_part2_0, TRef.binary, TRef.unary, TRef.toBuf, TRef.ofBuf, cast_eq]
  after_results_simp
  simp only [val2_main_v57, val2_main_c_18, val2_main_c_19] <;> rfl
set_option maxRecDepth 8192 in
set_option maxHeartbeats 2000000 in
theorem val2_1_main_v99 (V0 : Valuation τ sig (Elt F)) : val2_1 V0 (no_index (Proc.devRef .tc main_v99)) = res_main_v99 V0 := by
  unfold val2_1
  simp only [ops_part2_0, TRef.binary, TRef.unary, TRef.toBuf, TRef.ofBuf, cast_eq]
  after_results_simp
  simp only [val2_main_v83] <;> rfl
set_option maxRecDepth 8192 in
set_option maxHeartbeats 2000000 in
theorem val2_1_main_v104 (V0 : Valuation τ sig (Elt F)) : val2_1 V0 (no_index (Proc.devRef .tc main_v104)) = select (cmpi .slt (res_main_v2 V0) (broadcastInDim S300 ![] bcast_S_S300 (constantI S_ 32 0#32))) (addi (res_main_v2 V0) (broadcastInDim S300 ![] bcast_S_S300 (constantI S_ 32 2#32))) (res_main_v2 V0) := by
  unfold val2_1
  simp only [ops_part2_0, TRef.binary, TRef.unary, TRef.toBuf, TRef.ofBuf, cast_eq]
  after_results_simp
  simp only [val2_main_v2] <;> rfl
set_option maxRecDepth 8192 in
set_option maxHeartbeats 2000000 in
theorem val2_1_main_v109 (V0 : Valuation τ sig (Elt F)) : val2_1 V0 (no_index (Proc.devRef .tc main_v109)) = select (cmpi .slt (res_main_v98 V0) (broadcastInDim S300x7 ![] bcast_S_S300x7 (constantI S_ 32 0#32))) (addi (res_main_v98 V0) (broadcastInDim S300x7 ![] bcast_S_S300x7 (constantI S_ 32 50#32))) (res_main_v98 V0) := by
  unfold val2_1
  simp only [ops_part2_0, TRef.binary, TRef.unary, TRef.toBuf, TRef.ofBuf, cast_eq]
  after_results_simp
  simp only [val2_main_v57, val2_main_c_18, val2_main_c_19] <;> rfl
set_option maxRecDepth 8192 in
set_option maxHeartbeats 2000000 in
theorem val2_1_main_v110 (V0 : Valuation τ sig (Elt F)) : val2_1 V0 (no_index (Proc.devRef .tc main_v110)) = broadcastInDim S300x7 ![] bcast_S_S300x7 (constantI S_ 32 0#32) := by
  unfold val2_1
  simp only [ops_part2_0, TRef.binary, TRef.unary, TRef.toBuf, TRef.ofBuf, cast_eq]
  after_results_simp
  all_goals rfl

/-- The device's buffer contents after @main's first 200 operations. -/
def val2_2 (V0 : Valuation τ sig (Elt F)) : Valuation τ sig (Elt F) := after ops_part2_1 (val2_1 V0)
/-- The buffers that window `ops_part2_1`'s operations write. -/
abbrev ops_part2_1_W : List (Ref sig .tc) := [main_v111, main_c_27, main_v112, main_v113, main_v114, main_v115, main_c_28, main_v116, main_v117, main_v118, main_v119, main_v120, main_v121, main_v122, main_v123, main_v124, main_v125, main_v126, main_v127, main_v128, main_v129, main_v130, main_v131, main_v132, main_v133, main_v134, main_v135, main_v136, main_v137, main_v138]
set_option maxRecDepth 8192 in
theorem ops_part2_1_writes : (ops_part2_1 : List (HloOp τ sig (Elt F))).Forall fun op => op.writes ⊆ (ops_part2_1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part2_1` does not write keeps its contents through it. -/
theorem val2_2_keep (V0 : Valuation τ sig (Elt F)) (r : Ref sig .tc) (h : r ∉ ops_part2_1_W) :
    val2_2 V0 (Proc.devRef .tc r) = val2_1 V0 (Proc.devRef .tc r) :=
  after_of_writes_sub ops_part2_1 _ ops_part2_1_writes h
theorem val2_2_main_arg0 (V0 : Valuation τ sig (Elt F)) : val2_2 V0 (no_index (Proc.devRef .tc main_arg0)) = V0 (Proc.devRef .tc main_arg0) :=
  (val2_2_keep V0 main_arg0 (by decide)).trans (val2_1_main_arg0 V0)
theorem val2_2_main_arg1 (V0 : Valuation τ sig (Elt F)) : val2_2 V0 (no_index (Proc.devRef .tc main_arg1)) = V0 (Proc.devRef .tc main_arg1) :=
  (val2_2_keep V0 main_arg1 (by decide)).trans (val2_1_main_arg1 V0)
theorem val2_2_main_v71 (V0 : Valuation τ sig (Elt F)) : val2_2 V0 (no_index (Proc.devRef .tc main_v71)) = minsi (broadcastInDim S300x7 ![] bcast_S_S300x7 (id (constantI S_ 32 50#32))) (maxsi (broadcastInDim S300x7 ![] bcast_S_S300x7 (id (constantI S_ 32 0#32))) (addi (fptosi 32 (Host.ceil (mulf (broadcastInDim S300x7 ![0, 1] bcast_S1x7_S300x7_0_1 (broadcastInDim S1x7 ![1] bcast_S7_S1x7_1 (sitofp .f32 (addi (res_main_v45 V0) (broadcastInDim S7 ![] bcast_S_S7 (constantI S_ 32 1#32)))))) (broadcastInDim S300x7 ![0, 1] bcast_S300x1_S300x7_0_1 (broadcastInDim S300x1 ![0] bcast_S300_S300x1_0 (res_main_v40 V0)))))) (broadcastInDim S300x7 ![0, 1] bcast_S300x1_S300x7_0_1 (broadcastInDim S300x1 ![0] bcast_S300_S300x1_0 (res_main_v14 V0))))) :=
  (val2_2_keep V0 main_v71 (by decide)).trans (val2_1_main_v71 V0)
theorem val2_2_main_v83 (V0 : Valuation τ sig (Elt F)) : val2_2 V0 (no_index (Proc.devRef .tc main_v83)) = res_main_v83 V0 :=
  (val2_2_keep V0 main_v83 (by decide)).trans (val2_1_main_v83 V0)
theorem val2_2_main_v97 (V0 : Valuation τ sig (Elt F)) : val2_2 V0 (no_index (Proc.devRef .tc main_v97)) = minsi (broadcastInDim S300x7 ![] bcast_S_S300x7 (id (constantI S_ 32 50#32))) (maxsi (broadcastInDim S300x7 ![] bcast_S_S300x7 (id (constantI S_ 32 0#32))) (addi (fptosi 32 (Host.ceil (mulf (broadcastInDim S300x7 ![0, 1] bcast_S1x7_S300x7_0_1 (broadcastInDim S1x7 ![1] bcast_S7_S1x7_1 (sitofp .f32 (addi (res_main_v45 V0) (broadcastInDim S7 ![] bcast_S_S7 (constantI S_ 32 1#32)))))) (broadcastInDim S300x7 ![0, 1] bcast_S300x1_S300x7_0_1 (broadcastInDim S300x1 ![0] bcast_S300_S300x1_0 (res_main_v42 V0)))))) (broadcastInDim S300x7 ![0, 1] bcast_S300x1_S300x7_0_1 (broadcastInDim S300x1 ![0] bcast_S300_S300x1_0 (res_main_v8 V0))))) :=
  (val2_2_keep V0 main_v97 (by decide)).trans (val2_1_main_v97 V0)
set_option maxRecDepth 8192 in
set_option maxHeartbeats 2000000 in
theorem val2_2_main_v125 (V0 : Valuation τ sig (Elt F)) : val2_2 V0 (no_index (Proc.devRef .tc main_v125)) = shapeCast _ (Host.gather gather_S2x512x50x50_S300x7x7x4_S300x7x7x1x512x10x10_3456_n_n_n_0123_3_15121010 (V0 (Proc.devRef .tc main_arg0)) ((concatenate S300x7x7x4 3 [⟨S300x7x7x1, ((broadcastInDim S300x7x7x1 ![0, 2, 3] bcast_S300x7x1_S300x7x7x1_0_2_3 (broadcastInDim S300x7x1 ![0] bcast_S300_S300x7x1_0 (select (cmpi .slt (res_main_v2 V0) (broadcastInDim S300 ![] bcast_S_S300 (constantI S_ 32 0#32))) (addi (res_main_v2 V0) (broadcastInDim S300 ![] bcast_S_S300 (constantI S_ 32 2#32))) (res_main_v2 V0)))) : (⟨S300x7x7x1, .i32⟩ : BufTy).Contents (Elt F))⟩, ⟨S300x7x7x1, ((broadcastInDim S300x7x7x1 ![1, 2, 3] bcast_S7x7x1_S300x7x7x1_1_2_3 (broadcastInDim S7x7x1 ![1, 2] bcast_S7x1_S7x7x1_1_2 (broadcastInDim S7x1 ![] bcast_S_S7x1 (constantI S_ 32 0#32)))) : (⟨S300x7x7x1, .i32⟩ : BufTy).Contents (Elt F))⟩, ⟨S300x7x7x1, ((broadcastInDim S300x7x7x1 ![0, 1] bcast_S300x7_S300x7x7x1_0_1 (select (cmpi .slt (res_main_v98 V0) (broadcastInDim S300x7 ![] bcast_S_S300x7 (constantI S_ 32 0#32))) (addi (res_main_v98 V0) (broadcastInDim S300x7 ![] bcast_S_S300x7 (constantI S_ 32 50#32))) (res_main_v98 V0))) : (⟨S300x7x7x1, .i32⟩ : BufTy).Contents (Elt F))⟩, ⟨S300x7x7x1, ((broadcastInDim S300x7x7x1 ![0, 2, 3] bcast_S300x7x1_S300x7x7x1_0_2_3 (broadcastInDim S300x7x1 ![0, 1] bcast_S300x7_S300x7x1_0_1 (select (cmpi .slt (res_main_v99 V0) (broadcastInDim S300x7 ![] bcast_S_S300x7 (constantI S_ 32 0#32))) (addi (res_main_v99 V0) (broadcastInDim S300x7 ![] bcast_S_S300x7 (constantI S_ 32 50#32))) (res_main_v99 V0)))) : (⟨S300x7x7x1, .i32⟩ : BufTy).Contents (Elt F))⟩] concatenates_S300x7x7x1_S300x7x7x1_S300x7x7x1_S300x7x7x1_S300x7x7x4_d3 : (⟨S300x7x7x4, .i32⟩ : BufTy).Contents (Elt F)))) shapeCasts_S300x7x7x1x512x10x10_S300x7x7x512x10x10 := by
  unfold val2_2
  simp only [ops_part2_1]
  after_results_simp
  try dsimp only [Matrix.cons_val]
  try after_results_simp
  simp only [val2_1_main_v99, val2_1_main_v110, val2_1_main_v109, val2_1_main_v104, val2_1_main_arg0] <;> rfl
set_option maxRecDepth 8192 in
set_option maxHeartbeats 2000000 in
theorem val2_2_main_v131 (V0 : Valuation τ sig (Elt F)) : val2_2 V0 (no_index (Proc.devRef .tc main_v131)) = res_main_v131 V0 := by
  unfold val2_2
  simp only [ops_part2_1]
  after_results_simp
  try dsimp only [Matrix.cons_val]
  try after_results_simp
  simp only [val2_1_main_v43, val2_1_main_v98] <;> rfl
set_option maxRecDepth 8192 in
set_option maxHeartbeats 2000000 in
theorem val2_2_main_v137 (V0 : Valuation τ sig (Elt F)) : val2_2 V0 (no_index (Proc.devRef .tc main_v137)) = res_main_v137 V0 := by
  unfold val2_2
  simp only [ops_part2_1]
  after_results_simp
  try dsimp only [Matrix.cons_val]
  try after_results_simp
  simp only [val2_1_main_v44, val2_1_main_v99] <;> rfl
set_option maxRecDepth 8192 in
set_option maxHeartbeats 2000000 in
theorem val2_2_main_v138 (V0 : Valuation τ sig (Elt F)) : val2_2 V0 (no_index (Proc.devRef .tc main_v138)) = broadcastInDim S300x7x1 ![0, 1] bcast_S300x7_S300x7x1_0_1 (res_main_v57 V0) := by
  unfold val2_2
  simp only [ops_part2_1]
  after_results_simp
  try dsimp only [Matrix.cons_val]
  try after_results_simp
  simp only [val2_1_main_v57] <;> rfl

/-- The device's buffer contents after @main's first 3 windows. -/
def val3 (V0 : Valuation τ sig (Elt F)) : Valuation τ sig (Elt F) := after ops_part2_2 (val2_2 V0)
/-- The buffers that window `ops_part2_2`'s operations write. -/
abbrev ops_part2_2_W : List (Ref sig .tc) := [main_v139, main_v140, main_v141, main_v142, main_v143, main_v144, main_v145, main_v146, main_v147, main_v148]
set_option maxRecDepth 8192 in
theorem ops_part2_2_writes : (ops_part2_2 : List (HloOp τ sig (Elt F))).Forall fun op => op.writes ⊆ (ops_part2_2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part2_2` does not write keeps its contents through it. -/
theorem val3_keep (V0 : Valuation τ sig (Elt F)) (r : Ref sig .tc) (h : r ∉ ops_part2_2_W) :
    val3 V0 (Proc.devRef .tc r) = val2_2 V0 (Proc.devRef .tc r) :=
  after_of_writes_sub ops_part2_2 _ ops_part2_2_writes h
theorem val3_main_arg0 (V0 : Valuation τ sig (Elt F)) : val3 V0 (no_index (Proc.devRef .tc main_arg0)) = V0 (Proc.devRef .tc main_arg0) :=
  (val3_keep V0 main_arg0 (by decide)).trans (val2_2_main_arg0 V0)
theorem val3_main_arg1 (V0 : Valuation τ sig (Elt F)) : val3 V0 (no_index (Proc.devRef .tc main_arg1)) = V0 (Proc.devRef .tc main_arg1) :=
  (val3_keep V0 main_arg1 (by decide)).trans (val2_2_main_arg1 V0)
theorem val3_main_v97 (V0 : Valuation τ sig (Elt F)) : val3 V0 (no_index (Proc.devRef .tc main_v97)) = minsi (broadcastInDim S300x7 ![] bcast_S_S300x7 (id (constantI S_ 32 50#32))) (maxsi (broadcastInDim S300x7 ![] bcast_S_S300x7 (id (constantI S_ 32 0#32))) (addi (fptosi 32 (Host.ceil (mulf (broadcastInDim S300x7 ![0, 1] bcast_S1x7_S300x7_0_1 (broadcastInDim S1x7 ![1] bcast_S7_S1x7_1 (sitofp .f32 (addi (res_main_v45 V0) (broadcastInDim S7 ![] bcast_S_S7 (constantI S_ 32 1#32)))))) (broadcastInDim S300x7 ![0, 1] bcast_S300x1_S300x7_0_1 (broadcastInDim S300x1 ![0] bcast_S300_S300x1_0 (res_main_v42 V0)))))) (broadcastInDim S300x7 ![0, 1] bcast_S300x1_S300x7_0_1 (broadcastInDim S300x1 ![0] bcast_S300_S300x1_0 (res_main_v8 V0))))) :=
  (val3_keep V0 main_v97 (by decide)).trans (val2_2_main_v97 V0)
theorem val3_main_v125 (V0 : Valuation τ sig (Elt F)) : val3 V0 (no_index (Proc.devRef .tc main_v125)) = shapeCast _ (Host.gather gather_S2x512x50x50_S300x7x7x4_S300x7x7x1x512x10x10_3456_n_n_n_0123_3_15121010 (V0 (Proc.devRef .tc main_arg0)) ((concatenate S300x7x7x4 3 [⟨S300x7x7x1, ((broadcastInDim S300x7x7x1 ![0, 2, 3] bcast_S300x7x1_S300x7x7x1_0_2_3 (broadcastInDim S300x7x1 ![0] bcast_S300_S300x7x1_0 (select (cmpi .slt (res_main_v2 V0) (broadcastInDim S300 ![] bcast_S_S300 (constantI S_ 32 0#32))) (addi (res_main_v2 V0) (broadcastInDim S300 ![] bcast_S_S300 (constantI S_ 32 2#32))) (res_main_v2 V0)))) : (⟨S300x7x7x1, .i32⟩ : BufTy).Contents (Elt F))⟩, ⟨S300x7x7x1, ((broadcastInDim S300x7x7x1 ![1, 2, 3] bcast_S7x7x1_S300x7x7x1_1_2_3 (broadcastInDim S7x7x1 ![1, 2] bcast_S7x1_S7x7x1_1_2 (broadcastInDim S7x1 ![] bcast_S_S7x1 (constantI S_ 32 0#32)))) : (⟨S300x7x7x1, .i32⟩ : BufTy).Contents (Elt F))⟩, ⟨S300x7x7x1, ((broadcastInDim S300x7x7x1 ![0, 1] bcast_S300x7_S300x7x7x1_0_1 (select (cmpi .slt (res_main_v98 V0) (broadcastInDim S300x7 ![] bcast_S_S300x7 (constantI S_ 32 0#32))) (addi (res_main_v98 V0) (broadcastInDim S300x7 ![] bcast_S_S300x7 (constantI S_ 32 50#32))) (res_main_v98 V0))) : (⟨S300x7x7x1, .i32⟩ : BufTy).Contents (Elt F))⟩, ⟨S300x7x7x1, ((broadcastInDim S300x7x7x1 ![0, 2, 3] bcast_S300x7x1_S300x7x7x1_0_2_3 (broadcastInDim S300x7x1 ![0, 1] bcast_S300x7_S300x7x1_0_1 (select (cmpi .slt (res_main_v99 V0) (broadcastInDim S300x7 ![] bcast_S_S300x7 (constantI S_ 32 0#32))) (addi (res_main_v99 V0) (broadcastInDim S300x7 ![] bcast_S_S300x7 (constantI S_ 32 50#32))) (res_main_v99 V0)))) : (⟨S300x7x7x1, .i32⟩ : BufTy).Contents (Elt F))⟩] concatenates_S300x7x7x1_S300x7x7x1_S300x7x7x1_S300x7x7x1_S300x7x7x4_d3 : (⟨S300x7x7x4, .i32⟩ : BufTy).Contents (Elt F)))) shapeCasts_S300x7x7x1x512x10x10_S300x7x7x512x10x10 :=
  (val3_keep V0 main_v125 (by decide)).trans (val2_2_main_v125 V0)
theorem val3_main_v137 (V0 : Valuation τ sig (Elt F)) : val3 V0 (no_index (Proc.devRef .tc main_v137)) = res_main_v137 V0 :=
  (val3_keep V0 main_v137 (by decide)).trans (val2_2_main_v137 V0)
set_option maxRecDepth 8192 in
set_option maxHeartbeats 1000000 in
theorem val3_main_v145 (V0 : Valuation τ sig (Elt F)) : val3 V0 (no_index (Proc.devRef .tc main_v145)) = broadcastInDim S300x7x10x1 ![0, 1, 2] bcast_S300x7x10_S300x7x10x1_0_1_2 (andi (cmpi .sge (res_main_v131 V0) (broadcastInDim S300x7x10 ![0, 1, 2] bcast_S300x7x1_S300x7x10_0_1_2 (broadcastInDim S300x7x1 ![0, 1] bcast_S300x7_S300x7x1_0_1 (res_main_v57 V0)))) (cmpi .slt (res_main_v131 V0) (broadcastInDim S300x7x10 ![0, 1, 2] bcast_S300x7x1_S300x7x10_0_1_2 (broadcastInDim S300x7x1 ![0, 1] bcast_S300x7_S300x7x1_0_1 (minsi (broadcastInDim S300x7 ![] bcast_S_S300x7 (id (constantI S_ 32 50#32))) (maxsi (broadcastInDim S300x7 ![] bcast_S_S300x7 (id (constantI S_ 32 0#32))) (addi (fptosi 32 (Host.ceil (mulf (broadcastInDim S300x7 ![0, 1] bcast_S1x7_S300x7_0_1 (broadcastInDim S1x7 ![1] bcast_S7_S1x7_1 (sitofp .f32 (addi (res_main_v45 V0) (broadcastInDim S7 ![] bcast_S_S7 (constantI S_ 32 1#32)))))) (broadcastInDim S300x7 ![0, 1] bcast_S300x1_S300x7_0_1 (broadcastInDim S300x1 ![0] bcast_S300_S300x1_0 (res_main_v40 V0)))))) (broadcastInDim S300x7 ![0, 1] bcast_S300x1_S300x7_0_1 (broadcastInDim S300x1 ![0] bcast_S300_S300x1_0 (res_main_v14 V0)))))))))) := by
  unfold val3
  simp only [ops_part2_2]
  after_results_simp
  simp only [val2_2_main_v71, val2_2_main_v131, val2_2_main_v138] <;> rfl
set_option maxRecDepth 8192 in
set_option maxHeartbeats 1000000 in
theorem val3_main_v148 (V0 : Valuation τ sig (Elt F)) : val3 V0 (no_index (Proc.devRef .tc main_v148)) = cmpi .sge (res_main_v137 V0) (broadcastInDim S300x7x10 ![0, 1, 2] bcast_S300x7x1_S300x7x10_0_1_2 (broadcastInDim S300x7x1 ![0, 1] bcast_S300x7_S300x7x1_0_1 (res_main_v83 V0))) := by
  unfold val3
  simp only [ops_part2_2]
  after_results_simp
  simp only [val2_2_main_v83, val2_2_main_v137] <;> rfl

/-- The device's buffer contents after @main's first 4 windows. -/
def val4 (V0 : Valuation τ sig (Elt F)) : Valuation τ sig (Elt F) := after ops_part3 (val3 V0)
/-- The buffers that window `main_part3`'s operations write. -/
abbrev ops_part3_W : List (Ref sig .tc) := [main_v149, main_v150, main_v151, main_v152, main_v153, main_v154, main_v155, main_v156, main_v157, main_v158, main_v159, main_cst_29, main_call10_v0, main_call10_v1, main_call10_v2, main_call10_v3, main_call10_v4, main_call10_v5, main_v160, main_cst_30, main_v161, main_c_31, main_v162, main_cst_32, main_v163, main_call11_v0, main_call11_v1, main_call11_v2, main_call11_v3, main_v164, main_v165, main_v166]
set_option maxRecDepth 8192 in
theorem ops_part3_writes : (ops_part3 : List (HloOp τ sig (Elt F))).Forall fun op => op.writes ⊆ (ops_part3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `main_part3` does not write keeps its contents through it. -/
theorem val4_keep (V0 : Valuation τ sig (Elt F)) (r : Ref sig .tc) (h : r ∉ ops_part3_W) :
    val4 V0 (Proc.devRef .tc r) = val3 V0 (Proc.devRef .tc r) :=
  after_of_writes_sub ops_part3 _ ops_part3_writes h
theorem val4_main_arg0 (V0 : Valuation τ sig (Elt F)) : val4 V0 (no_index (Proc.devRef .tc main_arg0)) = V0 (Proc.devRef .tc main_arg0) :=
  (val4_keep V0 main_arg0 (by decide)).trans (val3_main_arg0 V0)
theorem val4_main_arg1 (V0 : Valuation τ sig (Elt F)) : val4 V0 (no_index (Proc.devRef .tc main_arg1)) = V0 (Proc.devRef .tc main_arg1) :=
  (val4_keep V0 main_arg1 (by decide)).trans (val3_main_arg1 V0)
set_option maxRecDepth 8192 in
set_option maxHeartbeats 2000000 in
theorem val4_main_v166 (V0 : Valuation τ sig (Elt F)) : val4 V0 (no_index (Proc.devRef .tc main_v166)) = transpose S300x512x7x7 [0, 2, 1, 3] (transpose S300x7x512x7 [0, 1, 3, 2] (select (broadcastInDim S300x7x7x512 ![0, 1, 2] bcast_S300x7x7_S300x7x7x512_0_1_2 (Host.reduce IntOp.ori (res_main_v158 V0) (constantI S_ 1 0#1) reducesTo_S300x7x7x10x10_S300x7x7_d3_4 h_S_)) (Host.reduce FloatOps.maximumf (select (broadcastInDim S300x7x7x512x10x10 ![0, 1, 2, 3, 4, 5] bcast_S300x7x7x1x10x10_S300x7x7x512x10x10_0_1_2_3_4_5 (broadcastInDim S300x7x7x1x10x10 ![0, 1, 2, 4, 5] bcast_S300x7x7x10x10_S300x7x7x1x10x10_0_1_2_4_5 (res_main_v158 V0))) (shapeCast _ (Host.gather gather_S2x512x50x50_S300x7x7x4_S300x7x7x1x512x10x10_3456_n_n_n_0123_3_15121010 (V0 (Proc.devRef .tc main_arg0)) ((concatenate S300x7x7x4 3 [⟨S300x7x7x1, ((broadcastInDim S300x7x7x1 ![0, 2, 3] bcast_S300x7x1_S300x7x7x1_0_2_3 (broadcastInDim S300x7x1 ![0] bcast_S300_S300x7x1_0 (select (cmpi .slt (res_main_v2 V0) (broadcastInDim S300 ![] bcast_S_S300 (constantI S_ 32 0#32))) (addi (res_main_v2 V0) (broadcastInDim S300 ![] bcast_S_S300 (constantI S_ 32 2#32))) (res_main_v2 V0)))) : (⟨S300x7x7x1, .i32⟩ : BufTy).Contents (Elt F))⟩, ⟨S300x7x7x1, ((broadcastInDim S300x7x7x1 ![1, 2, 3] bcast_S7x7x1_S300x7x7x1_1_2_3 (broadcastInDim S7x7x1 ![1, 2] bcast_S7x1_S7x7x1_1_2 (broadcastInDim S7x1 ![] bcast_S_S7x1 (constantI S_ 32 0#32)))) : (⟨S300x7x7x1, .i32⟩ : BufTy).Contents (Elt F))⟩, ⟨S300x7x7x1, ((broadcastInDim S300x7x7x1 ![0, 1] bcast_S300x7_S300x7x7x1_0_1 (select (cmpi .slt (res_main_v98 V0) (broadcastInDim S300x7 ![] bcast_S_S300x7 (constantI S_ 32 0#32))) (addi (res_main_v98 V0) (broadcastInDim S300x7 ![] bcast_S_S300x7 (constantI S_ 32 50#32))) (res_main_v98 V0))) : (⟨S300x7x7x1, .i32⟩ : BufTy).Contents (Elt F))⟩, ⟨S300x7x7x1, ((broadcastInDim S300x7x7x1 ![0, 2, 3] bcast_S300x7x1_S300x7x7x1_0_2_3 (broadcastInDim S300x7x1 ![0, 1] bcast_S300x7_S300x7x1_0_1 (select (cmpi .slt (res_main_v99 V0) (broadcastInDim S300x7 ![] bcast_S_S300x7 (constantI S_ 32 0#32))) (addi (res_main_v99 V0) (broadcastInDim S300x7 ![] bcast_S_S300x7 (constantI S_ 32 50#32))) (res_main_v99 V0)))) : (⟨S300x7x7x1, .i32⟩ : BufTy).Contents (Elt F))⟩] concatenates_S300x7x7x1_S300x7x7x1_S300x7x7x1_S300x7x7x1_S300x7x7x4_d3 : (⟨S300x7x7x4, .i32⟩ : BufTy).Contents (Elt F)))) shapeCasts_S300x7x7x1x512x10x10_S300x7x7x512x10x10) (broadcastInDim S300x7x7x512x10x10 ![1, 2, 3, 4, 5] bcast_S7x7x512x10x10_S300x7x7x512x10x10_1_2_3_4_5 (broadcastInDim S7x7x512x10x10 ![1, 2, 3, 4] bcast_S7x512x10x10_S7x7x512x10x10_1_2_3_4 (broadcastInDim S7x512x10x10 ![1, 2, 3] bcast_S512x10x10_S7x512x10x10_1_2_3 (broadcastInDim S512x10x10 ![] bcast_S_S512x10x10 (id (constant S_ .f32 0xFF800000#32))))))) (constant S_ .f32 0xFF800000#32) reducesTo_S300x7x7x512x10x10_S300x7x7x512_d4_5 h_S_) (broadcastInDim S300x7x7x512 ![1, 2, 3] bcast_S7x7x512_S300x7x7x512_1_2_3 (broadcastInDim S7x7x512 ![1, 2] bcast_S7x512_S7x7x512_1_2 (broadcastInDim S7x512 ![1] bcast_S512_S7x512_1 (broadcastInDim S512 ![] bcast_S_S512 (constant S_ .f32 0x00000000#32)))))) transposes_S300x7x7x512_S300x7x512x7_0_1_3_2) transposes_S300x7x512x7_S300x512x7x7_0_2_1_3 := by
  unfold val4
  simp only [ops_part3, TRef.ternary, TRef.unary, TRef.toBuf, TRef.ofBuf, cast_eq]
  after_results_simp
  simp only [val3_main_v125, val3_main_v97, val3_main_v137, val3_main_v148, val3_main_v145] <;> rfl

theorem after_ops (V0 : Valuation τ sig (Elt F)) : after ops V0 = val4 V0 := by
  simp only [ops, ops_part1, ops_part2, after_append]
  rfl

set_option maxRecDepth 8192 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v166) = transpose S300x512x7x7 [0, 2, 1, 3] (transpose S300x7x512x7 [0, 1, 3, 2] (select (broadcastInDim S300x7x7x512 ![0, 1, 2] bcast_S300x7x7_S300x7x7x512_0_1_2 (Host.reduce IntOp.ori (res_main_v158 (launchContents m c)) (constantI S_ 1 0#1) reducesTo_S300x7x7x10x10_S300x7x7_d3_4 h_S_)) (Host.reduce FloatOps.maximumf (select (broadcastInDim S300x7x7x512x10x10 ![0, 1, 2, 3, 4, 5] bcast_S300x7x7x1x10x10_S300x7x7x512x10x10_0_1_2_3_4_5 (broadcastInDim S300x7x7x1x10x10 ![0, 1, 2, 4, 5] bcast_S300x7x7x10x10_S300x7x7x1x10x10_0_1_2_4_5 (res_main_v158 (launchContents m c)))) (shapeCast _ (Host.gather gather_S2x512x50x50_S300x7x7x4_S300x7x7x1x512x10x10_3456_n_n_n_0123_3_15121010 ((launchContents m c) (Proc.devRef .tc main_arg0)) ((concatenate S300x7x7x4 3 [⟨S300x7x7x1, ((broadcastInDim S300x7x7x1 ![0, 2, 3] bcast_S300x7x1_S300x7x7x1_0_2_3 (broadcastInDim S300x7x1 ![0] bcast_S300_S300x7x1_0 (select (cmpi .slt (res_main_v2 (launchContents m c)) (broadcastInDim S300 ![] bcast_S_S300 (constantI S_ 32 0#32))) (addi (res_main_v2 (launchContents m c)) (broadcastInDim S300 ![] bcast_S_S300 (constantI S_ 32 2#32))) (res_main_v2 (launchContents m c))))) : (⟨S300x7x7x1, .i32⟩ : BufTy).Contents (Elt F))⟩, ⟨S300x7x7x1, ((broadcastInDim S300x7x7x1 ![1, 2, 3] bcast_S7x7x1_S300x7x7x1_1_2_3 (broadcastInDim S7x7x1 ![1, 2] bcast_S7x1_S7x7x1_1_2 (broadcastInDim S7x1 ![] bcast_S_S7x1 (constantI S_ 32 0#32)))) : (⟨S300x7x7x1, .i32⟩ : BufTy).Contents (Elt F))⟩, ⟨S300x7x7x1, ((broadcastInDim S300x7x7x1 ![0, 1] bcast_S300x7_S300x7x7x1_0_1 (select (cmpi .slt (res_main_v98 (launchContents m c)) (broadcastInDim S300x7 ![] bcast_S_S300x7 (constantI S_ 32 0#32))) (addi (res_main_v98 (launchContents m c)) (broadcastInDim S300x7 ![] bcast_S_S300x7 (constantI S_ 32 50#32))) (res_main_v98 (launchContents m c)))) : (⟨S300x7x7x1, .i32⟩ : BufTy).Contents (Elt F))⟩, ⟨S300x7x7x1, ((broadcastInDim S300x7x7x1 ![0, 2, 3] bcast_S300x7x1_S300x7x7x1_0_2_3 (broadcastInDim S300x7x1 ![0, 1] bcast_S300x7_S300x7x1_0_1 (select (cmpi .slt (res_main_v99 (launchContents m c)) (broadcastInDim S300x7 ![] bcast_S_S300x7 (constantI S_ 32 0#32))) (addi (res_main_v99 (launchContents m c)) (broadcastInDim S300x7 ![] bcast_S_S300x7 (constantI S_ 32 50#32))) (res_main_v99 (launchContents m c))))) : (⟨S300x7x7x1, .i32⟩ : BufTy).Contents (Elt F))⟩] concatenates_S300x7x7x1_S300x7x7x1_S300x7x7x1_S300x7x7x1_S300x7x7x4_d3 : (⟨S300x7x7x4, .i32⟩ : BufTy).Contents (Elt F)))) shapeCasts_S300x7x7x1x512x10x10_S300x7x7x512x10x10) (broadcastInDim S300x7x7x512x10x10 ![1, 2, 3, 4, 5] bcast_S7x7x512x10x10_S300x7x7x512x10x10_1_2_3_4_5 (broadcastInDim S7x7x512x10x10 ![1, 2, 3, 4] bcast_S7x512x10x10_S7x7x512x10x10_1_2_3_4 (broadcastInDim S7x512x10x10 ![1, 2, 3] bcast_S512x10x10_S7x512x10x10_1_2_3 (broadcastInDim S512x10x10 ![] bcast_S_S512x10x10 (id (constant S_ .f32 0xFF800000#32))))))) (constant S_ .f32 0xFF800000#32) reducesTo_S300x7x7x512x10x10_S300x7x7x512_d4_5 h_S_) (broadcastInDim S300x7x7x512 ![1, 2, 3] bcast_S7x7x512_S300x7x7x512_1_2_3 (broadcastInDim S7x7x512 ![1, 2] bcast_S7x512_S7x7x512_1_2 (broadcastInDim S7x512 ![1] bcast_S512_S7x512_1 (broadcastInDim S512 ![] bcast_S_S512 (constant S_ .f32 0x00000000#32)))))) transposes_S300x7x7x512_S300x7x512x7_0_1_3_2) transposes_S300x7x512x7_S300x512x7x7_0_2_1_3
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v166).trans ((congrFun (after_ops (launchContents m c)) (Proc.devRef .tc main_v166)).trans (val4_main_v166 (launchContents m c))),
      (h c main_arg0).trans ((congrFun (after_ops (launchContents m c)) (Proc.devRef .tc main_arg0)).trans (val4_main_arg0 (launchContents m c))),
      (h c main_arg1).trans ((congrFun (after_ops (launchContents m c)) (Proc.devRef .tc main_arg1)).trans (val4_main_arg1 (launchContents m c)))⟩)
    (run_seq scopedRefs_eq scopedSems_eq defs main (fun _ => ops) main_eq (fun _ => ops_sub) m ρ fun _ => ops_fresh)

end Cert.ReferenceIdeal.Roi

end
-- ==== Proof.Roi.Frames.lean ====
/- The frames of the three programs under the precondition, and the kernel's named constant. -/
module

public import proofs.«01_k».proof.Defs
public import proofs.«01_k».proof.Proof.Roi.WordHyps
public import proofs.«01_k».proof.Proof.Roi.IdealHyps
public import proofs.«01_k».proof.Proof.Roi.RefRun
public import Idealize.ShloMosaic.Lib.Quiescent

@[expose] public section

set_option maxRecDepth 16384

namespace Cert.Roi

open Idealize.ShloMosaic Idealize.ShloMosaic.TcCoe

/-- The kernel at machine words runs, keeps its arguments, and ends with every semaphore at zero. -/
theorem frame_word : Cert.quiescent_Kernel := fun m ρ h =>
  Cert.Kernel.Gen.frame m ρ (Cert.Kernel.Gen.ok_all m) (Cert.Kernel.Gen.hyps_of_pre m (h 0) _)

/-- The kernel over extended reals runs, keeps its arguments, and ends with every semaphore at zero. -/
theorem frame_ideal : Cert.quiescent_KernelIdeal := fun m ρ h =>
  Cert.KernelIdeal.Gen.frame m ρ (Cert.KernelIdeal.Gen.ok_all m) (Cert.KernelIdeal.Gen.hyps_of_pre m (h 0) _)

/-- The reference over extended reals runs and keeps its arguments; it declares no semaphore. -/
theorem frame_ref : Cert.quiescent_ReferenceIdeal := fun m ρ _ =>
  (θ_run Cert.ReferenceIdeal.defs _ _).mono (fun r h => ⟨fun c => (h c).2, sem_eq_zero_of_no_sems (by decide) r.2⟩)
    (Cert.ReferenceIdeal.Roi.run (F := Ideal) m ρ)

/-- The kernel's mask constant, the word of -3.0e38, is read as minus infinity over extended reals. -/
theorem preserves : Cert.preserves_Kernel_KernelIdeal := IdealRules.named_const.statement Cert.KernelIdeal.κ "neg" .f32 0xFF61B1E6#32 ⊥ rfl

end Cert.Roi
-- ==== Proof.Roi.IdealPieces.lean ====
/- What the kernel's body leaves in its output block: the list of its 49 stores is one store per bin, each of the bin's
   maximum over the masked band. -/
module

public import proofs.«01_k».proof.Proof.Roi.IdealFrame

@[expose] public section

set_option maxRecDepth 16384

noncomputable section

namespace Cert.KernelIdeal.Gen

open Idealize.ShloMosaic Idealize.ShloMosaic.TcCoe Idealize.ShloMosaic.Tactic

variable {F : FTy → Type} [FloatOps F] [Named F]

/-- The maximum of a band's ten rows, those outside `[v5, v7)` replaced by the mask constant. -/
def rowMax (v5 v7 : BitVec 32) (b : Vec F S1x10x50x512 .f32) : FVec F S50x512 .f32 := k0_pay1 v5 v7 b

/-- A bin's maximum over the columns `[v27, v29)` of the row maxima `rm`, or zero where the bin is empty. -/
def cellMax (v5 v7 : BitVec 32) (rm : FVec F S50x512 .f32) (v27 v29 : BitVec 32) : FVec F S512 .f32 :=
  Scalar.select (Scalar.andi (Scalar.cmpi .sgt v7 v5) (Scalar.cmpi .sgt v29 v27))
    (multiReduction .maximumf [0] S512
      (select (broadcastTo S50x512 (shapeCast S50x1 (andi (cmpi .sge (iota .tc S50x1 32 [0] iota_S50x1_d0_w32) (broadcast S50x1 v27))
          (cmpi .slt (iota .tc S50x1 32 [0] iota_S50x1_d0_w32) (broadcast S50x1 v29))) shapeCasts_S50x1_S50x1) broadcasts_S50x1_S50x512)
        rm (broadcast S50x512 (Named.named κ "neg" 0xFF61B1E6#32)))
      0xFF800000#32 reduces_S50x512_S512 (.inl rfl) rfl)
    (broadcast S512 (Scalar.ofBits .f32 0x00000000#32))

/-- Where bin `k` of region `i` is read in a table. -/
def offT (i : grid0.Coords) (k : ℕ) : Fin 2 → Nat := ![(Scalar.indexCast (BitVec.ofNat 32 (i 0).val)).toNat, k]

/-- A bin's word lies inside its table. -/
theorem offT_inb (i : grid0.Coords) (k : Fin 7) : ∀ a, offT i k a + S1x1.size a ≤ S300x7.size a := by
  intro a
  have hi : (i 0).val < 300 := (i 0).isLt
  fin_cases a
  · show (BitVec.ofNat 32 (i 0).val).toNat + 1 ≤ 300
    rw [BitVec.toNat_ofNat]; omega
  · show k.val + 1 ≤ 7
    omega

/-- The region's image number, as the body reads it. -/
abbrev imgW {c : Dev nD} (i : grid0.Coords) (xt0 : TbBuf0 (F := F) c tbM0_0) : BitVec 32 :=
  tbM0_0.view.readAt (Elt F) (Rect.unit (s := S300) (k0_off1 i) S1.size (k0_off1_inb i)).toLoadRect xt0 (Shape.Idx.first (numel1_S1.symm ▸ Nat.one_pos))
/-- The first row of bin `k`, as the body reads it. -/
abbrev hsW {c : Dev nD} (i : grid0.Coords) (xt1 : TbBuf0 (F := F) c tbM0_1) (k : Fin 7) : BitVec 32 :=
  tbM0_1.view.readAt (Elt F) (Rect.unit (s := S300x7) (offT i k) S1x1.size (offT_inb i k)).toLoadRect xt1 (Shape.Idx.first (numel1_S1x1.symm ▸ Nat.one_pos))
/-- The end row of bin `k`, as the body reads it. -/
abbrev heW {c : Dev nD} (i : grid0.Coords) (xt2 : TbBuf0 (F := F) c tbM0_2) (k : Fin 7) : BitVec 32 :=
  tbM0_2.view.readAt (Elt F) (Rect.unit (s := S300x7) (offT i k) S1x1.size (offT_inb i k)).toLoadRect xt2 (Shape.Idx.first (numel1_S1x1.symm ▸ Nat.one_pos))
/-- The first column of bin `k`, as the body reads it. -/
abbrev wsW {c : Dev nD} (i : grid0.Coords) (xt3 : TbBuf0 (F := F) c tbM0_3) (k : Fin 7) : BitVec 32 :=
  tbM0_3.view.readAt (Elt F) (Rect.unit (s := S300x7) (offT i k) S1x1.size (offT_inb i k)).toLoadRect xt3 (Shape.Idx.first (numel1_S1x1.symm ▸ Nat.one_pos))
/-- The end column of bin `k`, as the body reads it. -/
abbrev weW {c : Dev nD} (i : grid0.Coords) (xt4 : TbBuf0 (F := F) c tbM0_4) (k : Fin 7) : BitVec 32 :=
  tbM0_4.view.readAt (Elt F) (Rect.unit (s := S300x7) (offT i k) S1x1.size (offT_inb i k)).toLoadRect xt4 (Shape.Idx.first (numel1_S1x1.symm ▸ Nat.one_pos))

/-- A row of the output block lies inside it. -/
theorem row_inb (k : Fin 49) : ∀ a, (![0, k.val, 0] : Fin 3 → Nat) a + S1x1x512.size a ≤ S1x49x512.size a := by
  intro a
  fin_cases a
  · show 0 + 1 ≤ 1; omega
  · show k.val + 1 ≤ 49; omega
  · show 0 + 512 ≤ 512; omega

/-- The row and the column of a bin in the region's seven by seven grid. -/
abbrev binRow (k : Fin 49) : Fin 7 := ⟨k.val / 7, by omega⟩
abbrev binCol (k : Fin 49) : Fin 7 := ⟨k.val % 7, by omega⟩

/-- The value of bin `k`, over the body's own reads. -/
def binVal (c : Dev nD) (i : grid0.Coords) (arg6 : Memref sig .tc .vmem S2x50x50x512 .f32) (harg6 : arg6.IsWhole)
    (x0 : Vec F S2x50x50x512 .f32) (xt0 : TbBuf0 (F := F) c tbM0_0) (xt1 : TbBuf0 (F := F) c tbM0_1) (xt2 : TbBuf0 (F := F) c tbM0_2)
    (xt3 : TbBuf0 (F := F) c tbM0_3) (xt4 : TbBuf0 (F := F) c tbM0_4) (hw : ∀ p : Fin 7, k0_chk1 (imgW i xt0) (hsW i xt1 p)) (k : Fin 49) : FVec F S512 .f32 :=
  cellMax (hsW i xt1 (binRow k)) (heW i xt2 (binRow k))
    (rowMax (hsW i xt1 (binRow k)) (heW i xt2 (binRow k))
      (arg6.view.readAt (Elt F) (Rect.unit (s := S2x50x50x512) (k0_off3 (imgW i xt0) (hsW i xt1 (binRow k))) S1x10x50x512.size
        (k0_off3_inb _ _ (hw (binRow k)))).toLoadRect (harg6.unread x0)))
    (wsW i xt3 (binCol k)) (weW i xt4 (binCol k))

/-- The body's stores, last first: one per bin, of the bin's value. -/
theorem pieces_eq  (c : Dev nD) (i : grid0.Coords) (arg6 : Memref sig .tc .vmem S2x50x50x512 .f32) (harg6 : arg6.IsWhole) (arg7 : Memref sig .tc .vmem S1x49x512 .f32) (harg7 : arg7.IsWhole)
    (x0 : Vec F S2x50x50x512 .f32) (xt0 : TbBuf0 (F := F) c tbM0_0) (xt1 : TbBuf0 (F := F) c tbM0_1) (xt2 : TbBuf0 (F := F) c tbM0_2) (xt3 : TbBuf0 (F := F) c tbM0_3) (xt4 : TbBuf0 (F := F) c tbM0_4) (k0_hw1 : k0_chk1 (tbM0_0.view.readAt (Elt F) (Rect.unit (s := S300) (k0_off1 i) S1.size (k0_off1_inb i)).toLoadRect xt0 (Shape.Idx.first (numel1_S1.symm ▸ Nat.one_pos))) (tbM0_1.view.readAt (Elt F) (Rect.unit (s := S300x7) (k0_off2 i) S1x1.size (k0_off2_inb i)).toLoadRect xt1 (Shape.Idx.first (numel1_S1x1.symm ▸ Nat.one_pos)))) (k0_hw2 : k0_chk2 (tbM0_0.view.readAt (Elt F) (Rect.unit (s := S300) (k0_off1 i) S1.size (k0_off1_inb i)).toLoadRect xt0 (Shape.Idx.first (numel1_S1.symm ▸ Nat.one_pos))) (tbM0_1.view.readAt (Elt F) (Rect.unit (s := S300x7) (k0_off5 i) S1x1.size (k0_off5_inb i)).toLoadRect xt1 (Shape.Idx.first (numel1_S1x1.symm ▸ Nat.one_pos)))) (k0_hw3 : k0_chk3 (tbM0_0.view.readAt (Elt F) (Rect.unit (s := S300) (k0_off1 i) S1.size (k0_off1_inb i)).toLoadRect xt0 (Shape.Idx.first (numel1_S1.symm ▸ Nat.one_pos))) (tbM0_1.view.readAt (Elt F) (Rect.unit (s := S300x7) (k0_off14 i) S1x1.size (k0_off14_inb i)).toLoadRect xt1 (Shape.Idx.first (numel1_S1x1.symm ▸ Nat.one_pos)))) (k0_hw4 : k0_chk4 (tbM0_0.view.readAt (Elt F) (Rect.unit (s := S300) (k0_off1 i) S1.size (k0_off1_inb i)).toLoadRect xt0 (Shape.Idx.first (numel1_S1.symm ▸ Nat.one_pos))) (tbM0_1.view.readAt (Elt F) (Rect.unit (s := S300x7) (k0_off23 i) S1x1.size (k0_off23_inb i)).toLoadRect xt1 (Shape.Idx.first (numel1_S1x1.symm ▸ Nat.one_pos)))) (k0_hw5 : k0_chk5 (tbM0_0.view.readAt (Elt F) (Rect.unit (s := S300) (k0_off1 i) S1.size (k0_off1_inb i)).toLoadRect xt0 (Shape.Idx.first (numel1_S1.symm ▸ Nat.one_pos))) (tbM0_1.view.readAt (Elt F) (Rect.unit (s := S300x7) (k0_off32 i) S1x1.size (k0_off32_inb i)).toLoadRect xt1 (Shape.Idx.first (numel1_S1x1.symm ▸ Nat.one_pos)))) (k0_hw6 : k0_chk6 (tbM0_0.view.readAt (Elt F) (Rect.unit (s := S300) (k0_off1 i) S1.size (k0_off1_inb i)).toLoadRect xt0 (Shape.Idx.first (numel1_S1.symm ▸ Nat.one_pos))) (tbM0_1.view.readAt (Elt F) (Rect.unit (s := S300x7) (k0_off41 i) S1x1.size (k0_off41_inb i)).toLoadRect xt1 (Shape.Idx.first (numel1_S1x1.symm ▸ Nat.one_pos)))) (k0_hw7 : k0_chk7 (tbM0_0.view.readAt (Elt F) (Rect.unit (s := S300) (k0_off1 i) S1.size (k0_off1_inb i)).toLoadRect xt0 (Shape.Idx.first (numel1_S1.symm ▸ Nat.one_pos))) (tbM0_1.view.readAt (Elt F) (Rect.unit (s := S300x7) (k0_off50 i) S1x1.size (k0_off50_inb i)).toLoadRect xt1 (Shape.Idx.first (numel1_S1x1.symm ▸ Nat.one_pos))))  (hw : ∀ p : Fin 7, k0_chk1 (imgW i xt0) (hsW i xt1 p)) :
    (kernelRun0_A c i arg6 harg6 arg7 harg7 x0 xt0 xt1 xt2 xt3 xt4 k0_hw1 k0_hw2 k0_hw3 k0_hw4 k0_hw5 k0_hw6 k0_hw7).1
      = (List.ofFn fun k : Fin 49 => (⟨Rect.unit (s := S1x49x512) ![0, k.val, 0] S1x1x512.size (row_inb k),
          shapeCast S1x1x512 (binVal c i arg6 harg6 x0 xt0 xt1 xt2 xt3 xt4 hw k) shapeCasts_S512_S1x1x512⟩ : View.Piece (Elt F) S1x49x512 .f32)).reverse := by
  sl_kernel_rfl

end Cert.KernelIdeal.Gen

end
-- ==== Proof.Roi.IdealCell.lean ====
/- The pallas array after the run: at region `n`, bin `k`, channel `c`, the bin's value over the band the body loads. -/
module

public import proofs.«01_k».proof.Proof.Roi.IdealPieces
public import proofs.«01_k».proof.Proof.Roi.IdealHyps
public import Idealize.ShloMosaic.Lib.Pipeline.ValueKit

@[expose] public section

set_option maxRecDepth 16384

noncomputable section

namespace Cert.KernelIdeal.Gen

open Idealize.ShloMosaic Idealize.ShloMosaic.TcCoe Idealize.ShloMosaic.Tactic

variable {F : FTy → Type} [FloatOps F] [Named F]

/-- Stores that all agree with `G` leave `G` wherever one of them wrote. -/
theorem read_writes_of_agree {sig : RefSig} {κ : Kind} {sp : Space} {s : Shape} {e : EltTy} {Val : EltTy → Type}
    (v : View sig κ sp s e) (f : v.ty.Contents Val) (G : s.Idx → Val e) (y : s.Idx) :
    ∀ L : List (View.Piece Val s e), (∀ p ∈ L, ∀ x, p.2 x = G (p.1.emb x)) → (∃ p ∈ L, y ∈ p.1.set) →
      v.read Val (v.writes Val f L) y = G y
  | [], _, h => by obtain ⟨_, hm, _⟩ := h; exact absurd hm List.not_mem_nil
  | p :: L, hG, h => by
    by_cases hy : y ∈ p.1.set
    · obtain ⟨x, rfl⟩ : ∃ x, p.1.emb x = y := p.1.exists_idx_of_mem hy
      exact (View.read_writes_cons_emb v f p.1 p.2 L x).trans (hG p List.mem_cons_self x)
    · have hy' : y ∉ Finset.univ.map p.1.emb := by rwa [Rect.map_emb_univ]
      rw [View.writes_cons, View.read_slice_write_of_not_mem p.1 _ _ _ hy']
      refine read_writes_of_agree v f G y L (fun q hq => hG q (List.mem_cons_of_mem _ hq)) ?_
      obtain ⟨q, hm, hq⟩ := h
      rcases List.mem_cons.mp hm with rfl | hm
      · exact absurd hq hy
      · exact ⟨q, hm, hq⟩

/-- A row of channels stored as a block of one row keeps its channels. -/
theorem cast_row (w : FVec F S512 .f32) (x : S1x1x512.Idx) : shapeCast S1x1x512 w shapeCasts_S512_S1x1x512 x = w (ix1 (x 2)) := by
  pointwise

/-- What the body leaves in its output block, at bin `k` and channel `ch`: the bin's value there. -/
theorem out_at  (c : Dev nD) (i : grid0.Coords) (arg6 : Memref sig .tc .vmem S2x50x50x512 .f32) (harg6 : arg6.IsWhole) (arg7 : Memref sig .tc .vmem S1x49x512 .f32) (harg7 : arg7.IsWhole)
    (x0 : Vec F S2x50x50x512 .f32) (xt0 : TbBuf0 (F := F) c tbM0_0) (xt1 : TbBuf0 (F := F) c tbM0_1) (xt2 : TbBuf0 (F := F) c tbM0_2) (xt3 : TbBuf0 (F := F) c tbM0_3) (xt4 : TbBuf0 (F := F) c tbM0_4) (k0_hw1 : k0_chk1 (tbM0_0.view.readAt (Elt F) (Rect.unit (s := S300) (k0_off1 i) S1.size (k0_off1_inb i)).toLoadRect xt0 (Shape.Idx.first (numel1_S1.symm ▸ Nat.one_pos))) (tbM0_1.view.readAt (Elt F) (Rect.unit (s := S300x7) (k0_off2 i) S1x1.size (k0_off2_inb i)).toLoadRect xt1 (Shape.Idx.first (numel1_S1x1.symm ▸ Nat.one_pos)))) (k0_hw2 : k0_chk2 (tbM0_0.view.readAt (Elt F) (Rect.unit (s := S300) (k0_off1 i) S1.size (k0_off1_inb i)).toLoadRect xt0 (Shape.Idx.first (numel1_S1.symm ▸ Nat.one_pos))) (tbM0_1.view.readAt (Elt F) (Rect.unit (s := S300x7) (k0_off5 i) S1x1.size (k0_off5_inb i)).toLoadRect xt1 (Shape.Idx.first (numel1_S1x1.symm ▸ Nat.one_pos)))) (k0_hw3 : k0_chk3 (tbM0_0.view.readAt (Elt F) (Rect.unit (s := S300) (k0_off1 i) S1.size (k0_off1_inb i)).toLoadRect xt0 (Shape.Idx.first (numel1_S1.symm ▸ Nat.one_pos))) (tbM0_1.view.readAt (Elt F) (Rect.unit (s := S300x7) (k0_off14 i) S1x1.size (k0_off14_inb i)).toLoadRect xt1 (Shape.Idx.first (numel1_S1x1.symm ▸ Nat.one_pos)))) (k0_hw4 : k0_chk4 (tbM0_0.view.readAt (Elt F) (Rect.unit (s := S300) (k0_off1 i) S1.size (k0_off1_inb i)).toLoadRect xt0 (Shape.Idx.first (numel1_S1.symm ▸ Nat.one_pos))) (tbM0_1.view.readAt (Elt F) (Rect.unit (s := S300x7) (k0_off23 i) S1x1.size (k0_off23_inb i)).toLoadRect xt1 (Shape.Idx.first (numel1_S1x1.symm ▸ Nat.one_pos)))) (k0_hw5 : k0_chk5 (tbM0_0.view.readAt (Elt F) (Rect.unit (s := S300) (k0_off1 i) S1.size (k0_off1_inb i)).toLoadRect xt0 (Shape.Idx.first (numel1_S1.symm ▸ Nat.one_pos))) (tbM0_1.view.readAt (Elt F) (Rect.unit (s := S300x7) (k0_off32 i) S1x1.size (k0_off32_inb i)).toLoadRect xt1 (Shape.Idx.first (numel1_S1x1.symm ▸ Nat.one_pos)))) (k0_hw6 : k0_chk6 (tbM0_0.view.readAt (Elt F) (Rect.unit (s := S300) (k0_off1 i) S1.size (k0_off1_inb i)).toLoadRect xt0 (Shape.Idx.first (numel1_S1.symm ▸ Nat.one_pos))) (tbM0_1.view.readAt (Elt F) (Rect.unit (s := S300x7) (k0_off41 i) S1x1.size (k0_off41_inb i)).toLoadRect xt1 (Shape.Idx.first (numel1_S1x1.symm ▸ Nat.one_pos)))) (k0_hw7 : k0_chk7 (tbM0_0.view.readAt (Elt F) (Rect.unit (s := S300) (k0_off1 i) S1.size (k0_off1_inb i)).toLoadRect xt0 (Shape.Idx.first (numel1_S1.symm ▸ Nat.one_pos))) (tbM0_1.view.readAt (Elt F) (Rect.unit (s := S300x7) (k0_off50 i) S1x1.size (k0_off50_inb i)).toLoadRect xt1 (Shape.Idx.first (numel1_S1x1.symm ▸ Nat.one_pos))))  (hw : ∀ p : Fin 7, k0_chk1 (imgW i xt0) (hsW i xt1 p)) (k : Fin 49) (ch : Fin 512) :
    out0_A_1 c i arg6 harg6 arg7 harg7 x0 xt0 xt1 xt2 xt3 xt4 k0_hw1 k0_hw2 k0_hw3 k0_hw4 k0_hw5 k0_hw6 k0_hw7 (ix3 0 k ch : S1x49x512.Idx)
      = binVal c i arg6 harg6 x0 xt0 xt1 xt2 xt3 xt4 hw k (ix1 ch) := by
  unfold out0_A_1
  refine read_writes_of_agree _ _ (fun y : S1x49x512.Idx => binVal c i arg6 harg6 x0 xt0 xt1 xt2 xt3 xt4 hw (y 1) (ix1 (y 2))) _ _ ?_
    (cover0_A_1 c i arg6 harg6 arg7 harg7 x0 xt0 xt1 xt2 xt3 xt4 k0_hw1 k0_hw2 k0_hw3 k0_hw4 k0_hw5 k0_hw6 k0_hw7 _)
  rw [pieces_eq (hw := hw)]
  intro p hp
  rw [List.mem_reverse, List.mem_ofFn] at hp
  obtain ⟨k', rfl⟩ := hp
  intro x
  have e1 : (Rect.unit (s := S1x49x512) ![0, k'.val, 0] S1x1x512.size (row_inb k')).emb x 1 = k' :=
    Fin.ext (show k'.val + 1 * (x 1).val = k'.val from by have : (x 1).val < 1 := (x 1).isLt; omega)
  have e2 : (Rect.unit (s := S1x49x512) ![0, k'.val, 0] S1x1x512.size (row_inb k')).emb x 2 = (x 2 : Fin 512) :=
    Fin.ext (show 0 + 1 * (x 2).val = (x 2).val from by omega)
  refine (cast_row _ x).trans ?_
  show _ = binVal c i arg6 harg6 x0 xt0 xt1 xt2 xt3 xt4 hw ((Rect.unit (s := S1x49x512) ![0, k'.val, 0] S1x1x512.size (row_inb k')).emb x 1) (ix1 ((Rect.unit (s := S1x49x512) ![0, k'.val, 0] S1x1x512.size (row_inb k')).emb x 2))
  rw [e1, e2]
  rfl

/-- The grid has one point per region. -/
theorem N_grid : grid0.N = 300 := by decide

/-- A point's coordinate is its number. -/
theorem coords_word (t : Fin grid0.N) : (BitVec.ofNat 32 (grid0.coords t 0).val).toNat = t.val := by
  have h : t.val < 300 := lt_of_lt_of_eq t.isLt N_grid
  rw [Pipeline.Grid.coords_val t 0 (S := 1) (B := 300) (by decide) rfl, BitVec.toNat_ofNat]
  omega

/-- The image number the body reads at region `t` is the first table's entry `t`. -/
theorem imgW_at {c : Dev nD} (t : Fin grid0.N) (xt0 : TbBuf0 (F := F) c tbM0_0) :
    imgW (c := c) (grid0.coords t) xt0 = (show S300.Idx → BitVec 32 from xt0) (ix1 (t.cast N_grid)) := by
  refine congrArg (show S300.Idx → BitVec 32 from xt0) (funext fun a => Fin.ext ?_)
  fin_cases a
  exact coords_word t

/-- Where bin `p`'s word is read in a table of seven bins per region. -/
theorem offT_emb (t : Fin grid0.N) (p : Fin 7) :
    (Rect.unit (s := S300x7) (offT (grid0.coords t) p) S1x1.size (offT_inb (grid0.coords t) p)).toLoadRect.idx (Shape.Idx.first (numel1_S1x1.symm ▸ Nat.one_pos))
      = (ix2 (t.cast N_grid) p : S300x7.Idx) := by
  funext a
  apply Fin.ext
  fin_cases a
  · exact coords_word t
  · rfl

/-- The first row the body reads for bin `p` of region `t` is the table's entry. -/
theorem hsW_at {c : Dev nD} (t : Fin grid0.N) (xt : TbBuf0 (F := F) c tbM0_1) (p : Fin 7) :
    hsW (c := c) (grid0.coords t) xt p = (show S300x7.Idx → BitVec 32 from xt) (ix2 (t.cast N_grid) p) :=
  congrArg (show S300x7.Idx → BitVec 32 from xt) (offT_emb t p)

/-- The end row the body reads for bin `p` of region `t` is the table's entry. -/
theorem heW_at {c : Dev nD} (t : Fin grid0.N) (xt : TbBuf0 (F := F) c tbM0_2) (p : Fin 7) :
    heW (c := c) (grid0.coords t) xt p = (show S300x7.Idx → BitVec 32 from xt) (ix2 (t.cast N_grid) p) :=
  congrArg (show S300x7.Idx → BitVec 32 from xt) (offT_emb t p)

/-- The first column the body reads for bin `p` of region `t` is the table's entry. -/
theorem wsW_at {c : Dev nD} (t : Fin grid0.N) (xt : TbBuf0 (F := F) c tbM0_3) (p : Fin 7) :
    wsW (c := c) (grid0.coords t) xt p = (show S300x7.Idx → BitVec 32 from xt) (ix2 (t.cast N_grid) p) :=
  congrArg (show S300x7.Idx → BitVec 32 from xt) (offT_emb t p)

/-- The end column the body reads for bin `p` of region `t` is the table's entry. -/
theorem weW_at {c : Dev nD} (t : Fin grid0.N) (xt : TbBuf0 (F := F) c tbM0_4) (p : Fin 7) :
    weW (c := c) (grid0.coords t) xt p = (show S300x7.Idx → BitVec 32 from xt) (ix2 (t.cast N_grid) p) :=
  congrArg (show S300x7.Idx → BitVec 32 from xt) (offT_emb t p)

/-- The array of the pipeline's result, over the bins' values. -/
theorem arr_at (m : (ℓ : Loc nD τ sig) → Buf (Elt F) ℓ) (hO : Ok m) (hH : Hyps m hO) (c : Dev nD)
    (hw : ∀ (t : Fin (cfgM m hO).N) (p : Fin 7), k0_chk1 (imgW (c := c) (grid0.coords t) (tbl m 0)) (hsW (c := c) (grid0.coords t) (tbl m 1) p))
    (t : Fin (cfgM m hO).N) (k : Fin 49) (ch : Fin 512) :
    ((dats m hO hH 0 c).arrAt 1 (cfgM m hO).N : S300x49x512.Idx → F .f32) (ix3 (t.cast N_grid) k ch)
      = binVal c (grid0.coords t) (ms0_0 m hO t) (hs0_0 m hO t) (iblk m hO c 0 t) (tbl m 0) (tbl m 1) (tbl m 2) (tbl m 3) (tbl m 4) (hw t) k (ix1 ch) := by
  have hd := Pipeline.Window.hdisj_of_index_inj ((cfgM m hO).win 1) (fun t t' _ _ h => by
    have h0 : (BitVec.ofNat 32 (grid0.coords t 0).val).toNat = (BitVec.ofNat 32 (grid0.coords t' 0).val).toNat :=
      congrFun (show (![_, _, _] : Fin 3 → Nat) = ![_, _, _] from h) 0
    rw [coords_word, coords_word] at h0
    exact Fin.ext h0)
  have e : (ix3 (t.cast N_grid) k ch : S300x49x512.Idx) = (((cfgM m hO).win 1).blk t).view.emb (ix3 0 k ch : S1x49x512.Idx) := by
    funext a
    apply Fin.ext
    fin_cases a
    · show t.val = (BitVec.ofNat 32 (grid0.coords t 0).val).toNat * 1 + 1 * 0
      rw [coords_word]; omega
    · show k.val = 0 * 49 + 1 * k.val
      omega
    · show ch.val = 0 * 512 + 1 * ch.val
      omega
  refine (congrArg _ e).trans (((dats m hO hH 0 c).arrAt_emb_eq_flushed 1 hd t (flush0_1 _ t) (ix3 0 k ch : S1x49x512.Idx)).trans ?_)
  show (dats m hO hH 0 c).after 1 t (ix3 0 k ch : S1x49x512.Idx) = _
  rw [after0_1]
  exact out_at _ _ _ _ _ _ _ _ _ _ _ _ _ _ _ _ _ _ _ _ _ _

end Cert.KernelIdeal.Gen

end
-- ==== Proof.Roi.Bins.lean ====
/- The bins of a region, as scalar formulas: a rounded coordinate, the width of a bin, and the first and the last
   position of a bin, each written with the operations both programs use. -/
module

public import Idealize.ShloMosaic.Lib.Pointwise

@[expose] public section

noncomputable section

namespace Cert.Roi

open Idealize.ShloMosaic

variable {F : FTy → Type} [FloatOps F]

/-- A coordinate of a region on the feature map: scaled by 1/16 and rounded to the nearest integer. -/
def coord (v : F .f32) : BitVec 32 :=
  FloatOps.fptosi 32 (FloatOps.hostUnary HostUnaryOp.roundeven (FloatOps.mulf v (FloatOps.ofBits FTy.f32 0x3D800000#32)))

/-- The width of one of the seven bins of the range from `a` to `b`, whose length is at least one. -/
def bin (a b : BitVec 32) : F .f32 :=
  FloatOps.hostDivf (FloatOps.sitofp FTy.f32 (IntOp.maxsi (IntOp.addi (IntOp.subi b a) 1#32) 1#32)) (FloatOps.ofBits FTy.f32 0x40E00000#32)

/-- A position clipped to the feature map's side, [0, 50]. -/
def clip (w : BitVec 32) : BitVec 32 := IntOp.minsi 50#32 (IntOp.maxsi 0#32 w)

/-- The first position of the bin that starts `q` bin widths after `a`. -/
def lo (q : F .f32) (a b : BitVec 32) : BitVec 32 :=
  clip (IntOp.addi (FloatOps.fptosi 32 (FloatOps.hostUnary HostUnaryOp.floor (FloatOps.mulf q (bin a b)))) a)

/-- One past the last position of the bin that ends `q` bin widths after `a`. -/
def hi (q : F .f32) (a b : BitVec 32) : BitVec 32 :=
  clip (IntOp.addi (FloatOps.fptosi 32 (FloatOps.hostUnary HostUnaryOp.ceil (FloatOps.mulf q (bin a b)))) a)

/-- The words of the floats 0 to 7. -/
def word8 : Fin 8 → BitVec 32 :=
  ![0x00000000#32, 0x3F800000#32, 0x40000000#32, 0x40400000#32, 0x40800000#32, 0x40A00000#32, 0x40C00000#32, 0x40E00000#32]

end Cert.Roi
-- ==== Proof.Roi.IdealTables.lean ====
/- The kernel's five prefetched tables at an index, over the rois: the image number, and the first and last
   positions of the seven bins along the height and along the width. -/
module

public import proofs.«01_k».proof.Proof.Roi.IdealHyps
public import proofs.«01_k».proof.Proof.Roi.Bins

@[expose] public section

set_option maxRecDepth 16384

namespace Cert.KernelIdeal.Gen

open Idealize.ShloMosaic Idealize.ShloMosaic.TcCoe

variable {F : FTy → Type} [FloatOps F] [Named F]

/-- The rois as launched. -/
abbrev rois (m : (ℓ : Loc nD τ sig) → Buf (Elt F) ℓ) : FVec F S300x5 .f32 := m (((0 : Dev nD).tc : Thread nD τ).loc main_arg1)

/-- The image as launched. -/
abbrev image (m : (ℓ : Loc nD τ sig) → Buf (Elt F) ℓ) : FVec F S2x512x50x50 .f32 := m (((0 : Dev nD).tc : Thread nD τ).loc main_arg0)

/-- The kernel's image operand is the image with the channels last. -/
theorem operand_at (m : (ℓ : Loc nD τ sig) → Buf (Elt F) ℓ) (b : Fin 2) (i j : Fin 50) (c : Fin 512) :
    (V m 0 main_v0 : FVec F S2x50x50x512 .f32) (ix4 b i j c) = image m (ix4 b c i j) := by
  simp only [V, V0, List.flatten_cons, List.flatten_nil, List.append_nil]
  after_reads_at

set_option maxHeartbeats 4000000 in
/-- Table 1 holds the first row of bin `k` of region `n`. -/
theorem tbl1_at (m : (ℓ : Loc nD τ sig) → Buf (Elt F) ℓ) (n : Fin 300) (k : Fin 7) :
    tbl m 1 (ix2 n k : S300x7.Idx) = Roi.lo (F := F) (FloatOps.ofBits .f32 (Roi.word8 k.castSucc)) (Roi.coord (rois m (ix2 n 2))) (Roi.coord (rois m (ix2 n 4))) := by
  show V m 0 main_v93 (ix2 n k) = _
  simp only [V, V0, List.flatten_cons, List.flatten_nil, List.append_nil]
  after_reads_at
  after_reads_at
  fin_cases k <;> rfl

set_option maxHeartbeats 4000000 in
/-- Table 2 holds the end row of bin `k` of region `n`. -/
theorem tbl2_at (m : (ℓ : Loc nD τ sig) → Buf (Elt F) ℓ) (n : Fin 300) (k : Fin 7) :
    tbl m 2 (ix2 n k : S300x7.Idx) = Roi.hi (F := F) (FloatOps.ofBits .f32 (Roi.word8 k.succ)) (Roi.coord (rois m (ix2 n 2))) (Roi.coord (rois m (ix2 n 4))) := by
  show V m 0 main_v143 (ix2 n k) = _
  simp only [V, V0, List.flatten_cons, List.flatten_nil, List.append_nil]
  after_reads_at
  after_reads_at
  fin_cases k <;> rfl

set_option maxHeartbeats 4000000 in
/-- Table 3 holds the first column of bin `k` of region `n`. -/
theorem tbl3_at (m : (ℓ : Loc nD τ sig) → Buf (Elt F) ℓ) (n : Fin 300) (k : Fin 7) :
    tbl m 3 (ix2 n k : S300x7.Idx) = Roi.lo (F := F) (FloatOps.ofBits .f32 (Roi.word8 k.castSucc)) (Roi.coord (rois m (ix2 n 1))) (Roi.coord (rois m (ix2 n 3))) := by
  show V m 0 main_v193 (ix2 n k) = _
  simp only [V, V0, List.flatten_cons, List.flatten_nil, List.append_nil]
  after_reads_at
  after_reads_at
  fin_cases k <;> rfl

set_option maxHeartbeats 4000000 in
/-- Table 4 holds the end column of bin `k` of region `n`. -/
theorem tbl4_at (m : (ℓ : Loc nD τ sig) → Buf (Elt F) ℓ) (n : Fin 300) (k : Fin 7) :
    tbl m 4 (ix2 n k : S300x7.Idx) = Roi.hi (F := F) (FloatOps.ofBits .f32 (Roi.word8 k.succ)) (Roi.coord (rois m (ix2 n 1))) (Roi.coord (rois m (ix2 n 3))) := by
  show V m 0 main_v243 (ix2 n k) = _
  simp only [V, V0, List.flatten_cons, List.flatten_nil, List.append_nil]
  after_reads_at
  after_reads_at
  fin_cases k <;> rfl

end Cert.KernelIdeal.Gen
-- ==== Proof.Roi.Pool.lean ====
/- The maximum over a bin, as the two programs take it: the kernel masks ten rows and all fifty columns, the reference ten
   rows and ten columns. The two maxima are equal where the bin is at most ten columns wide. -/
module

public import proofs.«01_k».proof.Proof.Roi.Bins
public import proofs.«01_k».proof.Proof.Roi.Pre
public import Idealize.ShloMosaic.Lib.WordArith

@[expose] public section

noncomputable section

namespace Cert.Roi

open Idealize.ShloMosaic Idealize.ShloMosaic.WordArith

/-- Whether position `x` lies in the range from `lo` up to, not including, `hi`. -/
def inside (lo hi x : BitVec 32) : BitVec 1 := IntOp.andi (IntOp.cmpi .sge x lo) (IntOp.cmpi .slt x hi)

/-- The start of the ten positions loaded for a range that starts at `v`: `v` clipped to [0, 40]. -/
def band (v : BitVec 32) : BitVec 32 := IntOp.minsi 40#32 (IntOp.maxsi 0#32 v)

/-- The `r`-th of the ten positions loaded for a range that starts at `v`, as a word. -/
abbrev posW (v : BitVec 32) (r : Fin 10) : BitVec 32 := IntOp.addi (band v) (BitVec.ofNat 32 r.val)

/-- The same position, as an index of a side of the feature map. -/
def pos (v : BitVec 32) (r : Fin 10) : Fin 50 := ⟨(band v).toNat + r.val, by have := clip_row_le v; unfold band; omega⟩

/-- `inside` says the two inequalities. -/
theorem inside_iff (lo hi x : BitVec 32) : inside lo hi x = 1#1 ↔ lo.toInt ≤ x.toInt ∧ x.toInt < hi.toInt := by
  unfold inside
  rw [IntOp.andi_eq_one]
  simp only [IntOp.cmpi, ofBool_eq_one_iff, BitVec.sle, BitVec.slt, decide_eq_true_eq]

/-- The signed comparison `a > b`. -/
theorem sgt_iff (a b : BitVec 32) : IntOp.cmpi .sgt a b = 1#1 ↔ b.toInt < a.toInt := by
  simp only [IntOp.cmpi, ofBool_eq_one_iff, BitVec.slt, decide_eq_true_eq]

/-- The window's start is a number between 0 and 40. -/
theorem band_toInt (v : BitVec 32) : (band v).toInt = min 40 (max 0 v.toInt) := by
  unfold band
  rw [SortNet.toInt_minsi, SortNet.toInt_maxsi]; rfl

/-- The window's start read unsigned is the same number. -/
theorem band_toNat (v : BitVec 32) : ((band v).toNat : ℤ) = (band v).toInt := by
  have h := band_toInt v
  have := (band v).isLt
  rw [BitVec.toInt] at h ⊢
  split at h <;> omega

/-- A loaded position, as a number. -/
theorem posW_toInt (v : BitVec 32) (r : Fin 10) : (posW v r).toInt = (pos v r).val := by
  have h := band_toInt v
  have h' := band_toNat v
  have hr : (BitVec.ofNat 32 r.val).toInt = r.val := toInt_ofNat_small _ (by omega)
  have hp : (pos v r).val = (band v).toNat + r.val := rfl
  show (band v + BitVec.ofNat 32 r.val).toInt = _
  rw [toInt_add_of_bounds _ _ (by omega) (by omega), hr, hp]
  push_cast
  omega

/-- A column's number as a word. -/
theorem col_toInt (w : Fin 50) : (BitVec.ofNat 32 w.val).toInt = w.val := toInt_ofNat_small _ (by omega)

/-- A column of a range of at most ten columns inside the map is one of the ten loaded for the range. -/
theorem exists_pos (lo hi : BitVec 32) (w : Fin 50) (h0 : 0 ≤ lo.toInt) (hw : hi.toInt ≤ lo.toInt + 10)
    (hin : lo.toInt ≤ w.val ∧ (w.val : ℤ) < hi.toInt) : ∃ s, pos lo s = w := by
  have h := band_toInt lo
  have h' := band_toNat lo
  have hlt := w.isLt
  refine ⟨⟨w.val - (band lo).toNat, by omega⟩, Fin.ext ?_⟩
  show (band lo).toNat + (w.val - (band lo).toNat) = w.val
  omega

/-- The maximum over those of the ten rows that lie in the range from `hs` to `he`. -/
def rowPool (hs he : BitVec 32) (g : Fin 50 → EReal) : EReal :=
  (Finset.univ : Finset (Fin 10)).sup fun r => Scalar.select (inside hs he (posW hs r)) (g (pos hs r)) ⊥

/-- The maximum over those of the fifty columns that lie in the range from `ws` to `we`. -/
def colPool (ws we : BitVec 32) (g : Fin 50 → EReal) : EReal :=
  (Finset.univ : Finset (Fin 50)).sup fun w => Scalar.select (inside ws we (BitVec.ofNat 32 w.val)) (g w) ⊥

/-- Whether element `(r, s)` of the window lies in the bin. -/
abbrev mask (hs he ws we : BitVec 32) (r s : Fin 10) : BitVec 1 := IntOp.andi (inside hs he (posW hs r)) (inside ws we (posW ws s))

/-- Element `(r, s)` of the window, or −∞ where it does not lie in the bin. -/
def winCell (hs he ws we : BitVec 32) (f : Fin 50 → Fin 50 → EReal) (rs : Fin 10 × Fin 10) : EReal :=
  Scalar.select (mask hs he ws we rs.1 rs.2) (f (pos hs rs.1) (pos ws rs.2)) ⊥

/-- The maximum over those of the ten by ten elements that lie in the bin. -/
def winPool (hs he ws we : BitVec 32) (f : Fin 50 → Fin 50 → EReal) : EReal :=
  (Finset.univ : Finset (Fin 10 × Fin 10)).sup (winCell hs he ws we f)

/-- The kernel's maximum of a bin with rows from `hs` to `he` and columns from `ws` to `we`: zero for an empty bin, else the
    maximum over the bin's columns of the maximum over the bin's rows. -/
def kernelPool (hs he ws we : BitVec 32) (f : Fin 50 → Fin 50 → EReal) : EReal :=
  Scalar.select (IntOp.andi (IntOp.cmpi .sgt he hs) (IntOp.cmpi .sgt we ws)) (colPool ws we fun w => rowPool hs he fun h => f h w) 0

/-- The reference's maximum of the same bin: zero where no element of the ten by ten window lies in the bin (`any`), else the
    maximum over those that do. -/
def refPool (hs he ws we : BitVec 32) (any : BitVec 1) (f : Fin 50 → Fin 50 → EReal) : EReal :=
  Scalar.select any (winPool hs he ws we f) 0

/-- A masked value is at most `y` when the value is, where the mask holds. -/
theorem select_le {c : BitVec 1} {x y : EReal} (h : c = 1#1 → x ≤ y) : Scalar.select c x ⊥ ≤ y := by
  by_cases e : c = 1#1
  · exact le_trans (le_of_eq (if_pos e)) (h e)
  · exact le_trans (le_of_eq (if_neg e)) bot_le

/-- Where the mask holds, the value is at most the masked value. -/
theorem le_select {c : BitVec 1} {x y z : EReal} (e : c = 1#1) (h : x ≤ y) : x ≤ Scalar.select c y z :=
  le_trans h (le_of_eq (if_pos e).symm)

/-- A row in the range is counted. -/
theorem le_rowPool (hs he : BitVec 32) (g : Fin 50 → EReal) (r : Fin 10) (e : inside hs he (posW hs r) = 1#1) :
    g (pos hs r) ≤ rowPool hs he g := by
  unfold rowPool
  exact le_trans (le_select (z := ⊥) e le_rfl)
    (Finset.le_sup (f := fun r => Scalar.select (inside hs he (posW hs r)) (g (pos hs r)) (⊥ : EReal)) (Finset.mem_univ r))

/-- A column in the range is counted. -/
theorem le_colPool (ws we : BitVec 32) (g : Fin 50 → EReal) (w : Fin 50) (e : inside ws we (BitVec.ofNat 32 w.val) = 1#1) :
    g w ≤ colPool ws we g := by
  unfold colPool
  exact le_trans (le_select (z := ⊥) e le_rfl)
    (Finset.le_sup (f := fun w : Fin 50 => Scalar.select (inside ws we (BitVec.ofNat 32 w.val)) (g w) (⊥ : EReal)) (Finset.mem_univ w))

/-- An element of the window that lies in the bin is counted. -/
theorem le_winPool (hs he ws we : BitVec 32) (f : Fin 50 → Fin 50 → EReal) (r s : Fin 10) (e : mask hs he ws we r s = 1#1) :
    f (pos hs r) (pos ws s) ≤ winPool hs he ws we f := by
  have h : f (pos hs r) (pos ws s) ≤ winCell hs he ws we f (r, s) := le_select e le_rfl
  exact le_trans h (Finset.le_sup (Finset.mem_univ (r, s)))

/-- The two maxima are equal for a bin of at most ten columns whose bounds lie in [0, 50]. -/
theorem pool_eq (hs he ws we : BitVec 32) (any : BitVec 1) (f : Fin 50 → Fin 50 → EReal)
    (hany : any = 1#1 ↔ ∃ r s, mask hs he ws we r s = 1#1)
    (hs0 : 0 ≤ hs.toInt) (he1 : he.toInt ≤ 50) (ws0 : 0 ≤ ws.toInt) (we1 : we.toInt ≤ 50) (hw : we.toInt ≤ ws.toInt + 10) :
    kernelPool hs he ws we f = refPool hs he ws we any f := by
  have hm : ∀ r s, mask hs he ws we r s = 1#1 ↔
      (hs.toInt ≤ (pos hs r).val ∧ ((pos hs r).val : ℤ) < he.toInt) ∧ (ws.toInt ≤ (pos ws s).val ∧ ((pos ws s).val : ℤ) < we.toInt) := by
    intro r s
    show IntOp.andi _ _ = 1#1 ↔ _
    rw [IntOp.andi_eq_one, inside_iff, inside_iff, posW_toInt, posW_toInt]
  have hne : IntOp.andi (IntOp.cmpi .sgt he hs) (IntOp.cmpi .sgt we ws) = 1#1 ↔ any = 1#1 := by
    rw [hany, IntOp.andi_eq_one, sgt_iff, sgt_iff]
    constructor
    · rintro ⟨h1, h2⟩
      have b1 := band_toInt hs; have b1' := band_toNat hs
      have b2 := band_toInt ws; have b2' := band_toNat ws
      refine ⟨⟨(hs.toInt - (band hs).toInt).toNat, by omega⟩, ⟨(ws.toInt - (band ws).toInt).toNat, by omega⟩, (hm _ _).2 ?_⟩
      have p1 : (pos hs ⟨(hs.toInt - (band hs).toInt).toNat, by omega⟩).val = (band hs).toNat + (hs.toInt - (band hs).toInt).toNat := rfl
      have p2 : (pos ws ⟨(ws.toInt - (band ws).toInt).toNat, by omega⟩).val = (band ws).toNat + (ws.toInt - (band ws).toInt).toNat := rfl
      rw [p1, p2]
      push_cast
      omega
    · rintro ⟨r, s, h⟩
      have h := (hm r s).1 h
      omega
  unfold kernelPool refPool
  by_cases h : any = 1#1
  · show (if _ = 1#1 then _ else _) = if _ = 1#1 then _ else _
    rw [if_pos h, if_pos (hne.2 h)]
    apply le_antisymm
    · refine Finset.sup_le fun w _ => select_le fun c => Finset.sup_le fun r _ => select_le fun d => ?_
      rw [inside_iff, col_toInt] at c
      rw [inside_iff, posW_toInt] at d
      obtain ⟨s, rfl⟩ := exists_pos ws we w ws0 hw c
      exact le_winPool hs he ws we f r s ((hm r s).2 ⟨d, c⟩)
    · refine Finset.sup_le fun rs _ => select_le fun c => ?_
      have c' := (hm rs.1 rs.2).1 c
      refine le_trans (le_rowPool hs he (fun h => f h (pos ws rs.2)) rs.1 (by rw [inside_iff, posW_toInt]; exact c'.1)) ?_
      exact le_colPool ws we (fun w => rowPool hs he fun h => f h w) (pos ws rs.2) (by rw [inside_iff, col_toInt]; exact c'.2)
  · show (if _ = 1#1 then _ else _) = if _ = 1#1 then _ else _
    rw [if_neg h, if_neg fun h' => h (hne.1 h')]

end Cert.Roi

end
-- ==== Proof.Roi.IdealValue.lean ====
/- The kernel's result over the extended reals, at an index: the kernel's maximum of the bin. -/
module

public import proofs.«01_k».proof.Proof.Roi.IdealCell
public import proofs.«01_k».proof.Proof.Roi.IdealTables
public import proofs.«01_k».proof.Proof.Roi.Pool

@[expose] public section

set_option maxRecDepth 16384

noncomputable section

namespace Cert.KernelIdeal.Gen

open Idealize.ShloMosaic Idealize.ShloMosaic.TcCoe Idealize.ShloMosaic.Tactic

/-- The mask constant is −∞ over the extended reals. -/
theorem neg_eq : (Named.named (F := Ideal) κ "neg" (φ := .f32) 0xFF61B1E6#32 : Ideal .f32) = (⊥ : EReal) :=
  rfl

/-- A band's row maximum at column `w` and channel `ch`: over those of the ten rows that lie in the bin. -/
theorem rowMax_at (v5 v7 : BitVec 32) (b : Vec Ideal S1x10x50x512 .f32) (g : Fin 50 → EReal) (w : Fin 50) (ch : Fin 512)
    (hg : ∀ r : Fin 10, b (ix4 0 r w ch) = g (Cert.Roi.pos v5 r)) :
    rowMax (F := Ideal) v5 v7 b (ix2 w ch) = Cert.Roi.rowPool v5 v7 g := by
  unfold rowMax k0_pay1
  pointwise
  refine congrArg (fun h : Fin 10 → EReal => Finset.univ.sup h) (funext fun r => ?_)
  exact congrArg (fun z : EReal => Scalar.select _ z ⊥) (hg r)

/-- A bin's maximum at channel `ch`: over those of the fifty columns that lie in the bin, and zero for an empty bin. -/
theorem cellMax_at (v5 v7 v27 v29 : BitVec 32) (rm : FVec Ideal S50x512 .f32) (f : Fin 50 → Fin 50 → EReal) (ch : Fin 512)
    (hr : ∀ w : Fin 50, rm (ix2 w ch) = Cert.Roi.rowPool v5 v7 fun h => f h w) :
    cellMax (F := Ideal) v5 v7 rm v27 v29 (ix1 ch) = Cert.Roi.kernelPool v5 v7 v27 v29 f := by
  unfold cellMax
  pointwise
  unfold Cert.Roi.kernelPool
  refine congrArg₂ (Scalar.select _) ?_ rfl
  refine congrArg (fun h : Fin 50 → EReal => Finset.univ.sup h) (funext fun w => ?_)
  exact congrArg (fun z : EReal => Scalar.select _ z ⊥) (hr w)

/-- What the body loads for a bin: ten rows of the region's image, from the clipped first row on. -/
theorem band_at {F : FTy → Type} [FloatOps F] [Named F] (arg6 : Memref sig .tc .vmem S2x50x50x512 .f32) (harg6 : arg6.IsWhole) (x0 : Vec F S2x50x50x512 .f32)
    (v1 v5 : BitVec 32) (hw : k0_chk1 v1 v5) (hb : v1.toNat ≤ 1) (r : Fin 10) (w : Fin 50) (ch : Fin 512) :
    arg6.view.readAt (Elt F) (Rect.unit (s := S2x50x50x512) (k0_off3 v1 v5) S1x10x50x512.size (k0_off3_inb v1 v5 hw)).toLoadRect (harg6.unread x0) (ix4 0 r w ch : S1x10x50x512.Idx)
      = x0 (ix4 ⟨v1.toNat, by omega⟩ (Cert.Roi.pos v5 r) w ch) := by
  rw [View.readAt_apply, harg6.read_unread]
  refine congrArg x0 (funext fun a => Fin.ext ?_)
  fin_cases a
  · show v1.toNat + 1 * 0 = v1.toNat
    omega
  · show (Cert.Roi.band v5).toNat + 1 * r.val = (Cert.Roi.band v5).toNat + r.val
    omega
  · show 0 + 1 * w.val = w.val
    omega
  · show 0 + 1 * ch.val = ch.val
    omega

end Cert.KernelIdeal.Gen

end
-- ==== Proof.Roi.KernelValue.lean ====
/- The kernel's result over the extended reals, after the host's last operations. -/
module

public import proofs.«01_k».proof.Proof.Roi.IdealValue
public import proofs.«01_k».proof.Proof.Roi.IdealHyps

@[expose] public section

set_option maxRecDepth 16384

noncomputable section

namespace Cert.KernelIdeal.Gen

open Idealize.ShloMosaic Idealize.ShloMosaic.TcCoe Idealize.ShloMosaic.Tactic

/-- A bin's first row, end row, first column and end column, as the tables hold them. -/
abbrev rowLo (m : (ℓ : Loc nD τ sig) → Buf (Elt Ideal) ℓ) (n : Fin 300) (p : Fin 7) : BitVec 32 :=
  Cert.Roi.lo (F := Ideal) (FloatOps.ofBits .f32 (Cert.Roi.word8 p.castSucc)) (Cert.Roi.coord (rois m (ix2 n 2))) (Cert.Roi.coord (rois m (ix2 n 4)))
abbrev rowHi (m : (ℓ : Loc nD τ sig) → Buf (Elt Ideal) ℓ) (n : Fin 300) (p : Fin 7) : BitVec 32 :=
  Cert.Roi.hi (F := Ideal) (FloatOps.ofBits .f32 (Cert.Roi.word8 p.succ)) (Cert.Roi.coord (rois m (ix2 n 2))) (Cert.Roi.coord (rois m (ix2 n 4)))
abbrev colLo (m : (ℓ : Loc nD τ sig) → Buf (Elt Ideal) ℓ) (n : Fin 300) (p : Fin 7) : BitVec 32 :=
  Cert.Roi.lo (F := Ideal) (FloatOps.ofBits .f32 (Cert.Roi.word8 p.castSucc)) (Cert.Roi.coord (rois m (ix2 n 1))) (Cert.Roi.coord (rois m (ix2 n 3)))
abbrev colHi (m : (ℓ : Loc nD τ sig) → Buf (Elt Ideal) ℓ) (n : Fin 300) (p : Fin 7) : BitVec 32 :=
  Cert.Roi.hi (F := Ideal) (FloatOps.ofBits .f32 (Cert.Roi.word8 p.succ)) (Cert.Roi.coord (rois m (ix2 n 1))) (Cert.Roi.coord (rois m (ix2 n 3)))

/-- The block of the image operand is the whole operand at every region. -/
theorem iblk_at (m : (ℓ : Loc nD τ sig) → Buf (Elt Ideal) ℓ) (hO : Ok m) (t : Fin (cfgM m hO).N) (b : Fin 2) (i j : Fin 50) (ch : Fin 512) :
    (iblk m hO 0 0 t : S2x50x50x512.Idx → EReal) (ix4 b i j ch) = image m (ix4 b ch i j) := by
  refine Eq.trans ?_ (operand_at m b i j ch)
  refine congrArg (V m 0 main_v0 : S2x50x50x512.Idx → EReal) (funext fun a => Fin.ext ?_)
  fin_cases a
  · show 0 * 2 + 1 * b.val = b.val
    omega
  · show 0 * 50 + 1 * i.val = i.val
    omega
  · show 0 * 50 + 1 * j.val = j.val
    omega
  · show 0 * 512 + 1 * ch.val = ch.val
    omega

variable (m : (ℓ : Loc nD τ sig) → Buf (Elt Ideal) ℓ)
  (h : Cert.Pre_rois_in_range.fn (F := Ideal) (m (((0 : Dev nD).tc : Thread nD τ).loc main_arg0)) (m (((0 : Dev nD).tc : Thread nD τ).loc main_arg1)) = fun _ => 1#1)

include h in
/-- The image number of a region is 0 or 1. -/
theorem img_le (n : Fin 300) : (FloatOps.fptosi (F := Ideal) (φ := .f32) 32 (rois m (ix2 n 0))).toNat ≤ 1 :=
  Cert.Roi.word_lt_two (Cert.Roi.pre_at _ _ h n).1

/-- Bin `(p, q)` of region `n`, channel `ch`, as the kernel pools it. -/
def pooled (n : Fin 300) (p q : Fin 7) (ch : Fin 512) : EReal :=
  Cert.Roi.kernelPool (rowLo m n p) (rowHi m n p) (colLo m n q) (colHi m n q) fun i j =>
    image m (ix4 ⟨(FloatOps.fptosi (F := Ideal) (φ := .f32) 32 (rois m (ix2 n 0))).toNat, by have := img_le m h n; omega⟩ ch i j)

/-- The array of the pipeline's result holds the pooled bins. -/
theorem arr_pooled (hO : Ok m) (hH : Hyps m hO) (n : Fin 300) (k : Fin 49) (ch : Fin 512) :
    ((dats m hO hH 0 0).arrAt 1 (cfgM m hO).N : S300x49x512.Idx → EReal) (ix3 n k ch) = pooled m h n (binRow k) (binCol k) ch := by
  have e0 : ∀ t : Fin (cfgM m hO).N, imgW (c := (0 : Dev nD)) (grid0.coords t) (tbl m 0) = FloatOps.fptosi (F := Ideal) (φ := .f32) 32 (rois m (ix2 (t.cast N_grid) 0)) :=
    fun t => (imgW_at t (tbl m 0)).trans (tbl0_at m (t.cast N_grid))
  have hw : ∀ (t : Fin (cfgM m hO).N) (p : Fin 7), k0_chk1 (imgW (c := (0 : Dev nD)) (grid0.coords t) (tbl m 0)) (hsW (c := (0 : Dev nD)) (grid0.coords t) (tbl m 1) p) :=
    fun t p => band_inb _ _ ((congrArg BitVec.toNat (e0 t)).trans_le (img_le m h (t.cast N_grid)))
  have e1 : ∀ (t : Fin (cfgM m hO).N) (p : Fin 7), hsW (c := (0 : Dev nD)) (grid0.coords t) (tbl m 1) p = rowLo m (t.cast N_grid) p :=
    fun t p => (hsW_at t (tbl m 1) p).trans (tbl1_at m (t.cast N_grid) p)
  have e2 : ∀ (t : Fin (cfgM m hO).N) (p : Fin 7), heW (c := (0 : Dev nD)) (grid0.coords t) (tbl m 2) p = rowHi m (t.cast N_grid) p :=
    fun t p => (heW_at t (tbl m 2) p).trans (tbl2_at m (t.cast N_grid) p)
  have e3 : ∀ (t : Fin (cfgM m hO).N) (p : Fin 7), wsW (c := (0 : Dev nD)) (grid0.coords t) (tbl m 3) p = colLo m (t.cast N_grid) p :=
    fun t p => (wsW_at t (tbl m 3) p).trans (tbl3_at m (t.cast N_grid) p)
  have e4 : ∀ (t : Fin (cfgM m hO).N) (p : Fin 7), weW (c := (0 : Dev nD)) (grid0.coords t) (tbl m 4) p = colHi m (t.cast N_grid) p :=
    fun t p => (weW_at t (tbl m 4) p).trans (tbl4_at m (t.cast N_grid) p)
  obtain ⟨t, rfl⟩ : ∃ t : Fin (cfgM m hO).N, n = t.cast N_grid := ⟨n.cast N_grid.symm, rfl⟩
  refine (arr_at m hO hH 0 hw t k ch).trans ?_
  unfold binVal pooled
  have hb : (imgW (c := (0 : Dev nD)) (grid0.coords t) (tbl m 0)).toNat ≤ 1 := by rw [e0]; exact img_le m h _
  refine (cellMax_at _ _ _ _ _ (fun i j => image m (ix4 ⟨(imgW (c := (0 : Dev nD)) (grid0.coords t) (tbl m 0)).toNat, by omega⟩ ch i j)) ch fun w => ?_).trans ?_
  · refine rowMax_at _ _ _ _ w ch fun r => ?_
    exact (band_at _ _ _ _ _ (hw t (binRow k)) hb r w ch).trans (iblk_at m hO t _ _ _ _)
  · have eb : (⟨(imgW (c := (0 : Dev nD)) (grid0.coords t) (tbl m 0)).toNat, by omega⟩ : Fin 2)
        = ⟨(FloatOps.fptosi (F := Ideal) (φ := .f32) 32 (rois m (ix2 (t.cast N_grid) 0))).toNat, by have := img_le m h (t.cast N_grid); omega⟩ :=
      Fin.ext (congrArg BitVec.toNat (e0 t))
    rw [eb, e1, e2, e3, e4]

omit m h in
/-- The host's last two operations: the channels moved before the bins, and the 49 bins laid out seven by seven. -/
theorem tail_at (W : Valuation τ sig (Elt Ideal)) (n : Fin 300) (ch : Fin 512) (p q : Fin 7) :
    (StableHlo.after (hostOps1 (F := Ideal)) W (Proc.devRef .tc main_v246) : S300x512x7x7.Idx → EReal) (ix4 n ch p q)
      = (W (Proc.devRef .tc main_v244) : S300x49x512.Idx → EReal) (ix3 n ⟨p.val * 7 + q.val, by omega⟩ ch) := by
  after_reads_at

/-- The kernel's result, after the host's transposition and reshape. -/
theorem result_at (hO : Ok m) (hH : Hyps m hO) (n : Fin 300) (ch : Fin 512) (p q : Fin 7) :
    (Pipeline.afterTail pcfgs (fun _ => adm m hO) (dats m hO hH) 0 (V0 m) [hostOps1] 0 main_v246 : S300x512x7x7.Idx → EReal) (ix4 n ch p q)
      = pooled m h n p q ch := by
  unfold Pipeline.afterTail
  simp only [List.flatten_cons, List.flatten_nil, List.append_nil]
  refine (tail_at _ n ch p q).trans ?_
  refine (congrFun (Pipeline.withArrays_arr spec0 (by decide) 0 (V0 m 0) _ 1) (ix3 n ⟨p.val * 7 + q.val, by omega⟩ ch : S300x49x512.Idx)).trans ?_
  refine (arr_pooled m h hO hH n ⟨p.val * 7 + q.val, by omega⟩ ch).trans ?_
  exact congrArg₂ (fun a b => pooled m h n a b ch) (Fin.ext (by show (p.val * 7 + q.val) / 7 = p.val; omega)) (Fin.ext (by show (p.val * 7 + q.val) % 7 = q.val; omega))

end Cert.KernelIdeal.Gen

end
-- ==== Proof.Roi.RefValue.lean ====
/- The reference's result at an index: a window of ten rows and ten columns of the region's image, masked to the bin, its
   maximum taken, and zero where no element of the window lies in the bin. -/
module

public import proofs.«01_k».proof.Proof.Roi.RefRun
public import proofs.«01_k».proof.Proof.Roi.Pool

@[expose] public section

set_option maxRecDepth 16384

noncomputable section

namespace Cert.ReferenceIdeal.Roi

open Idealize.ShloMosaic Idealize.ShloMosaic.TcCoe Idealize.ShloMosaic.Tactic Idealize.ShloMosaic.StableHlo
open Cert.ReferenceIdeal.Facts₀

variable {F : FTy → Type} [FloatOps F]

/-- The image array and the rois, as the run finds them. -/
abbrev image (V0 : Valuation τ sig (Elt F)) : S2x512x50x50.Idx → F .f32 := V0 (Proc.devRef .tc main_arg0)
abbrev rois (V0 : Valuation τ sig (Elt F)) : S300x5.Idx → F .f32 := V0 (Proc.devRef .tc main_arg1)

/-- The rounded coordinates of region `n`: the left, upper, right and lower edges are columns 1, 2, 3, 4. -/
abbrev edge (V0 : Valuation τ sig (Elt F)) (n : Fin 300) (k : Fin 5) : BitVec 32 := Cert.Roi.coord (rois V0 (ix2 n k))

/-- The float of a bin's number, and of the next one. -/
abbrev num (p : Fin 7) : F .f32 := FloatOps.sitofp .f32 (BitVec.ofNat 32 p.val)
abbrev nxt (p : Fin 7) : F .f32 := FloatOps.sitofp .f32 (IntOp.addi (BitVec.ofNat 32 p.val) 1#32)

/-- A bin's first row and first column. -/
abbrev hs (V0 : Valuation τ sig (Elt F)) (n : Fin 300) (p : Fin 7) : BitVec 32 := Cert.Roi.lo (num (F := F) p) (edge V0 n 2) (edge V0 n 4)
abbrev ws (V0 : Valuation τ sig (Elt F)) (n : Fin 300) (p : Fin 7) : BitVec 32 := Cert.Roi.lo (num (F := F) p) (edge V0 n 1) (edge V0 n 3)
/-- One past a bin's last row and last column. -/
abbrev he (V0 : Valuation τ sig (Elt F)) (n : Fin 300) (p : Fin 7) : BitVec 32 := Cert.Roi.hi (nxt (F := F) p) (edge V0 n 2) (edge V0 n 4)
abbrev we (V0 : Valuation τ sig (Elt F)) (n : Fin 300) (p : Fin 7) : BitVec 32 := Cert.Roi.hi (nxt (F := F) p) (edge V0 n 1) (edge V0 n 3)

/-- The reference's table of first rows. -/
theorem v57_at (V0 : Valuation τ sig (Elt F)) (n : Fin 300) (p : Fin 7) :
    (res_main_v57 V0 : S300x7.Idx → BitVec 32) (ix2 n p) = hs V0 n p := by
  unfold res_main_v57 res_main_v40 res_main_v14 res_main_v45
  pointwise
  rfl

/-- The reference's table of first columns. -/
theorem v83_at (V0 : Valuation τ sig (Elt F)) (n : Fin 300) (p : Fin 7) :
    (res_main_v83 V0 : S300x7.Idx → BitVec 32) (ix2 n p) = ws V0 n p := by
  unfold res_main_v83 res_main_v42 res_main_v8 res_main_v45
  pointwise
  rfl

/-- The first row of a bin's window. -/
theorem v98_at (V0 : Valuation τ sig (Elt F)) (n : Fin 300) (p : Fin 7) :
    (res_main_v98 V0 : S300x7.Idx → BitVec 32) (ix2 n p) = Cert.Roi.band (hs V0 n p) := by
  unfold res_main_v98
  pointwise
  rw [v57_at]
  rfl

/-- The first column of a bin's window. -/
theorem v99_at (V0 : Valuation τ sig (Elt F)) (n : Fin 300) (p : Fin 7) :
    (res_main_v99 V0 : S300x7.Idx → BitVec 32) (ix2 n p) = Cert.Roi.band (ws V0 n p) := by
  unfold res_main_v99
  pointwise
  rw [v83_at]
  rfl

/-- The mask: element `(r, s)` of the window lies in the bin when its row and its column do. -/
theorem v158_at (V0 : Valuation τ sig (Elt F)) (n : Fin 300) (p q : Fin 7) (r s : Fin 10) :
    (res_main_v158 V0 : S300x7x7x10x10.Idx → BitVec 1) (ix5 n p q r s)
      = IntOp.andi (Cert.Roi.inside (hs V0 n p) (he V0 n p) (IntOp.addi (Cert.Roi.band (hs V0 n p)) (BitVec.ofNat 32 r.val)))
          (Cert.Roi.inside (ws V0 n q) (we V0 n q) (IntOp.addi (Cert.Roi.band (ws V0 n q)) (BitVec.ofNat 32 s.val))) := by
  unfold res_main_v158 res_main_v131 res_main_v137
  pointwise
  rw [v98_at, v99_at, v57_at, v83_at]
  unfold res_main_v40 res_main_v42 res_main_v14 res_main_v8 res_main_v45
  pointwise
  rfl

/-- The windows' start indices: image, channel, row, column. -/
def starts (V0 : Valuation τ sig (Elt F)) : IVec S300x7x7x4 32 :=
  (concatenate S300x7x7x4 3 [⟨S300x7x7x1, ((broadcastInDim S300x7x7x1 ![0, 2, 3] bcast_S300x7x1_S300x7x7x1_0_2_3 (broadcastInDim S300x7x1 ![0] bcast_S300_S300x7x1_0 (select (cmpi .slt (res_main_v2 V0) (broadcastInDim S300 ![] bcast_S_S300 (constantI S_ 32 0#32))) (addi (res_main_v2 V0) (broadcastInDim S300 ![] bcast_S_S300 (constantI S_ 32 2#32))) (res_main_v2 V0)))) : (⟨S300x7x7x1, .i32⟩ : BufTy).Contents (Elt F))⟩, ⟨S300x7x7x1, ((broadcastInDim S300x7x7x1 ![1, 2, 3] bcast_S7x7x1_S300x7x7x1_1_2_3 (broadcastInDim S7x7x1 ![1, 2] bcast_S7x1_S7x7x1_1_2 (broadcastInDim S7x1 ![] bcast_S_S7x1 (constantI S_ 32 0#32)))) : (⟨S300x7x7x1, .i32⟩ : BufTy).Contents (Elt F))⟩, ⟨S300x7x7x1, ((broadcastInDim S300x7x7x1 ![0, 1] bcast_S300x7_S300x7x7x1_0_1 (select (cmpi .slt (res_main_v98 V0) (broadcastInDim S300x7 ![] bcast_S_S300x7 (constantI S_ 32 0#32))) (addi (res_main_v98 V0) (broadcastInDim S300x7 ![] bcast_S_S300x7 (constantI S_ 32 50#32))) (res_main_v98 V0))) : (⟨S300x7x7x1, .i32⟩ : BufTy).Contents (Elt F))⟩, ⟨S300x7x7x1, ((broadcastInDim S300x7x7x1 ![0, 2, 3] bcast_S300x7x1_S300x7x7x1_0_2_3 (broadcastInDim S300x7x1 ![0, 1] bcast_S300x7_S300x7x1_0_1 (select (cmpi .slt (res_main_v99 V0) (broadcastInDim S300x7 ![] bcast_S_S300x7 (constantI S_ 32 0#32))) (addi (res_main_v99 V0) (broadcastInDim S300x7 ![] bcast_S_S300x7 (constantI S_ 32 50#32))) (res_main_v99 V0)))) : (⟨S300x7x7x1, .i32⟩ : BufTy).Contents (Elt F))⟩] concatenates_S300x7x7x1_S300x7x7x1_S300x7x7x1_S300x7x7x1_S300x7x7x4_d3 : (⟨S300x7x7x4, .i32⟩ : BufTy).Contents (Elt F))

/-- A start index, made non-negative the way array indexing does: a negative one counts from the end. -/
abbrev wrap (d w : BitVec 32) : BitVec 32 := Scalar.select (IntOp.cmpi .slt w 0#32) (IntOp.addi w d) w

/-- The windows' starts, axis by axis. -/
theorem starts_at0 (V0 : Valuation τ sig (Elt F)) (n : Fin 300) (p q : Fin 7) :
    starts V0 (ix4 n p q 0) = wrap 2#32 (FloatOps.fptosi (F := F) (φ := .f32) 32 (rois V0 (ix2 n 0))) := by
  unfold starts res_main_v2
  pointwise
theorem starts_at1 (V0 : Valuation τ sig (Elt F)) (n : Fin 300) (p q : Fin 7) : starts V0 (ix4 n p q 1) = 0#32 := by
  unfold starts
  pointwise
theorem starts_at2 (V0 : Valuation τ sig (Elt F)) (n : Fin 300) (p q : Fin 7) :
    starts V0 (ix4 n p q 2) = wrap 50#32 (Cert.Roi.band (hs V0 n p)) := by
  unfold starts
  pointwise
  rw [v98_at]
theorem starts_at3 (V0 : Valuation τ sig (Elt F)) (n : Fin 300) (p q : Fin 7) :
    starts V0 (ix4 n p q 3) = wrap 50#32 (Cert.Roi.band (ws V0 n q)) := by
  unfold starts
  pointwise
  rw [v99_at]

/-- Where the window's elements are read: the start, moved back where the window would leave the array, plus the element's
    own position. -/
theorem gather_at {α : Type} (x : S2x512x50x50.Idx → α) (idx : IVec S300x7x7x4 32) (n : Fin 300) (p q : Fin 7) (ch : Fin 512) (r s : Fin 10) :
    Host.gather gather_S2x512x50x50_S300x7x7x4_S300x7x7x1x512x10x10_3456_n_n_n_0123_3_15121010 x idx (ix7 n p q 0 ch r s)
      = x (ix4 ⟨min (idx (ix4 n p q 0)).toInt.toNat 1, by omega⟩ ⟨min (idx (ix4 n p q 1)).toInt.toNat 0 + ch.val, by omega⟩
          ⟨min (idx (ix4 n p q 2)).toInt.toNat 40 + r.val, by omega⟩ ⟨min (idx (ix4 n p q 3)).toInt.toNat 40 + s.val, by omega⟩) := by
  have e : ∀ k : Fin 4, gather_S2x512x50x50_S300x7x7x4_S300x7x7x1x512x10x10_3456_n_n_n_0123_3_15121010.siIdx (ix7 n p q 0 ch r s) k = ix4 n p q k := by
    intro k
    funext b
    fin_cases b <;> rfl
  have m : ∀ (k : Fin 4) (d c : ℕ), min (idx (gather_S2x512x50x50_S300x7x7x4_S300x7x7x1x512x10x10_3456_n_n_n_0123_3_15121010.siIdx (ix7 n p q 0 ch r s) k)).toInt.toNat d + c
      = min (idx (ix4 n p q k)).toInt.toNat d + c := fun k d c => by rw [e k]
  refine congrArg x (funext fun a => Fin.ext ?_)
  fin_cases a
  · exact m 0 1 0
  · exact m 1 0 ch.val
  · exact m 2 40 r.val
  · exact m 3 40 s.val

/-- A start that is not negative stays. -/
theorem wrap_of_nonneg (d w : BitVec 32) (h : 0 ≤ w.toInt) : wrap d w = w := by
  refine if_neg fun e => ?_
  simp only [IntOp.cmpi, WordArith.ofBool_eq_one_iff, WordArith.ofBool_eq_numeral_one_iff, BitVec.slt, decide_eq_true_eq] at e
  have : (0#32 : BitVec 32).toInt = 0 := by decide
  omega

/-- An element of region `n`'s image. -/
theorem window_at {α : Type} (x : S2x512x50x50.Idx → α) (V0 : Valuation τ sig (Elt F)) (n : Fin 300) (p q : Fin 7) (ch : Fin 512) (r s : Fin 10)
    (hb : (FloatOps.fptosi (F := F) (φ := .f32) 32 (rois V0 (ix2 n 0))).toNat ≤ 1) :
    Host.gather gather_S2x512x50x50_S300x7x7x4_S300x7x7x1x512x10x10_3456_n_n_n_0123_3_15121010 x (starts V0) (ix7 n p q 0 ch r s)
      = x (ix4 ⟨(FloatOps.fptosi (F := F) (φ := .f32) 32 (rois V0 (ix2 n 0))).toNat, by omega⟩ ch (Cert.Roi.pos (hs V0 n p) r) (Cert.Roi.pos (ws V0 n q) s)) := by
  rw [gather_at]
  have band0 : ∀ v : BitVec 32, (wrap 50#32 (Cert.Roi.band v)).toInt.toNat = (Cert.Roi.band v).toNat ∧ (Cert.Roi.band v).toNat ≤ 40 := fun v => by
    have h1 := Cert.Roi.band_toInt v
    have h2 := Cert.Roi.band_toNat v
    rw [wrap_of_nonneg _ _ (by omega)]
    omega
  refine congrArg x (funext fun a => Fin.ext ?_)
  fin_cases a
  · show min (starts V0 (ix4 n p q 0)).toInt.toNat 1 = (FloatOps.fptosi (F := F) (φ := .f32) 32 (rois V0 (ix2 n 0))).toNat
    rw [starts_at0]
    generalize FloatOps.fptosi (F := F) (φ := .f32) 32 (rois V0 (ix2 n 0)) = b at hb
    have h : b.toInt = b.toNat := by rw [BitVec.toInt]; split <;> omega
    rw [wrap_of_nonneg _ _ (by omega), h]
    show min ((b.toNat : ℤ).toNat) 1 = b.toNat
    omega
  · show min (starts V0 (ix4 n p q 1)).toInt.toNat 0 + ch.val = ch.val
    omega
  · show min (starts V0 (ix4 n p q 2)).toInt.toNat 40 + r.val = (Cert.Roi.band (hs V0 n p)).toNat + r.val
    rw [starts_at2]
    have := band0 (hs V0 n p)
    omega
  · show min (starts V0 (ix4 n p q 3)).toInt.toNat 40 + s.val = (Cert.Roi.band (ws V0 n q)).toNat + s.val
    rw [starts_at3]
    have := band0 (ws V0 n q)
    omega

/-- A disjunction over a set of truth words holds when one of them does. -/
theorem fold_ori_iff {ι : Type} (g : ι → BitVec 1) (S : Finset ι) : S.fold IntOp.ori 0#1 g = 1#1 ↔ ∃ i ∈ S, g i = 1#1 := by
  classical
  induction S using Finset.induction_on with
  | empty => simp
  | insert a S ha ih =>
    rw [Finset.fold_insert ha]
    have o : ∀ u v : BitVec 1, IntOp.ori u v = 1#1 ↔ u = 1#1 ∨ v = 1#1 := by decide
    rw [o, ih]
    simp

/-- The maximum over a set is the maximum over another that names the same values. -/
theorem fold_max_eq {ι κ : Type} [Fintype κ] (S : Finset ι) (g : ι → EReal) (h : κ → EReal) (u : κ → ι) (w : ι → κ)
    (h1 : ∀ i ∈ S, g i = h (w i)) (h2 : ∀ k, u k ∈ S) (h3 : ∀ k, g (u k) = h k) : S.fold max ⊥ g = Finset.univ.sup h := by
  show S.sup g = _
  apply le_antisymm
  · exact Finset.sup_le fun i hi => le_trans (le_of_eq (h1 i hi)) (Finset.le_sup (Finset.mem_univ _))
  · exact Finset.sup_le fun k _ => le_trans (le_of_eq (h3 k).symm) (Finset.le_sup (h2 k))

/-- The positions of a window's elements that drop to bin `(p, q)` of region `n`. -/
theorem drop_mask (n : Fin 300) (p q : Fin 7) (i : S300x7x7x10x10.Idx) :
    reducesTo_S300x7x7x10x10_S300x7x7_d3_4.drop i = ix3 n p q ↔ i = ix5 n p q (i 3) (i 4) := by
  constructor
  · intro e
    funext a
    fin_cases a
    · exact congrFun e 0
    · exact congrFun e 1
    · exact congrFun e 2
    · rfl
    · rfl
  · intro e
    rw [e]
    funext a
    fin_cases a <;> rfl

/-- The same with the channel. -/
theorem drop_win (n : Fin 300) (p q : Fin 7) (ch : Fin 512) (i : S300x7x7x512x10x10.Idx) :
    reducesTo_S300x7x7x512x10x10_S300x7x7x512_d4_5.drop i = ix4 n p q ch ↔ i = ix6 n p q ch (i 4) (i 5) := by
  constructor
  · intro e
    funext a
    fin_cases a
    · exact congrFun e 0
    · exact congrFun e 1
    · exact congrFun e 2
    · exact congrFun e 3
    · rfl
    · rfl
  · intro e
    rw [e]
    funext a
    fin_cases a <;> rfl

/-- The reference's result. -/
def out (V0 : Valuation τ sig (Elt F)) : S300x512x7x7.Idx → F .f32 :=
  transpose S300x512x7x7 [0, 2, 1, 3] (transpose S300x7x512x7 [0, 1, 3, 2] (select (broadcastInDim S300x7x7x512 ![0, 1, 2] bcast_S300x7x7_S300x7x7x512_0_1_2 (Host.reduce IntOp.ori (res_main_v158 V0) (constantI S_ 1 0#1) reducesTo_S300x7x7x10x10_S300x7x7_d3_4 h_S_)) (Host.reduce FloatOps.maximumf (select (broadcastInDim S300x7x7x512x10x10 ![0, 1, 2, 3, 4, 5] bcast_S300x7x7x1x10x10_S300x7x7x512x10x10_0_1_2_3_4_5 (broadcastInDim S300x7x7x1x10x10 ![0, 1, 2, 4, 5] bcast_S300x7x7x10x10_S300x7x7x1x10x10_0_1_2_4_5 (res_main_v158 V0))) (shapeCast _ (Host.gather gather_S2x512x50x50_S300x7x7x4_S300x7x7x1x512x10x10_3456_n_n_n_0123_3_15121010 (V0 (Proc.devRef .tc main_arg0)) ((starts V0))) shapeCasts_S300x7x7x1x512x10x10_S300x7x7x512x10x10) (broadcastInDim S300x7x7x512x10x10 ![1, 2, 3, 4, 5] bcast_S7x7x512x10x10_S300x7x7x512x10x10_1_2_3_4_5 (broadcastInDim S7x7x512x10x10 ![1, 2, 3, 4] bcast_S7x512x10x10_S7x7x512x10x10_1_2_3_4 (broadcastInDim S7x512x10x10 ![1, 2, 3] bcast_S512x10x10_S7x512x10x10_1_2_3 (broadcastInDim S512x10x10 ![] bcast_S_S512x10x10 (id (constant S_ .f32 0xFF800000#32))))))) (constant S_ .f32 0xFF800000#32) reducesTo_S300x7x7x512x10x10_S300x7x7x512_d4_5 h_S_) (broadcastInDim S300x7x7x512 ![1, 2, 3] bcast_S7x7x512_S300x7x7x512_1_2_3 (broadcastInDim S7x7x512 ![1, 2] bcast_S7x512_S7x7x512_1_2 (broadcastInDim S7x512 ![1] bcast_S512_S7x512_1 (broadcastInDim S512 ![] bcast_S_S512 (constant S_ .f32 0x00000000#32)))))) transposes_S300x7x7x512_S300x7x512x7_0_1_3_2) transposes_S300x7x512x7_S300x512x7x7_0_2_1_3

/-- The reference's result for bin `(p, q)` of region `n`, channel `ch`: the maximum over the masked window of the region's image. -/
theorem out_at (V0 : Valuation τ sig (Elt Ideal)) (n : Fin 300) (p q : Fin 7) (ch : Fin 512)
    (hb : (FloatOps.fptosi (F := Ideal) (φ := .f32) 32 (rois V0 (ix2 n 0))).toNat ≤ 1) :
    ∃ any : BitVec 1, (any = 1#1 ↔ ∃ r s, Cert.Roi.mask (hs V0 n p) (he V0 n p) (ws V0 n q) (we V0 n q) r s = 1#1)
      ∧ out V0 (ix4 n ch p q) = Cert.Roi.refPool (hs V0 n p) (he V0 n p) (ws V0 n q) (we V0 n q) any
          fun h w => image V0 (ix4 ⟨(FloatOps.fptosi (F := Ideal) (φ := .f32) 32 (rois V0 (ix2 n 0))).toNat, by omega⟩ ch h w) := by
  classical
  refine ⟨Finset.fold IntOp.ori 0#1 (res_main_v158 V0 : S300x7x7x10x10.Idx → BitVec 1) {i | reducesTo_S300x7x7x10x10_S300x7x7_d3_4.drop i = ix3 n p q}, ?_, ?_⟩
  · rw [fold_ori_iff]
    constructor
    · rintro ⟨i, hi, e⟩
      have hi := (drop_mask n p q i).1 (Finset.mem_filter.1 hi).2
      rw [hi] at e
      exact ⟨i 3, i 4, (v158_at V0 n p q (i 3) (i 4)).symm.trans e⟩
    · rintro ⟨r, s, e⟩
      exact ⟨ix5 n p q r s, Finset.mem_filter.2 ⟨Finset.mem_univ _, (drop_mask n p q _).2 rfl⟩, (v158_at V0 n p q r s).trans e⟩
  · unfold out
    pointwise
    unfold Cert.Roi.refPool
    refine congrArg₂ (Scalar.select _) ?_ rfl
    have cell : ∀ r s : Fin 10, Scalar.select ((res_main_v158 V0 : S300x7x7x10x10.Idx → BitVec 1) (ix5 n p q r s))
        (Host.gather gather_S2x512x50x50_S300x7x7x4_S300x7x7x1x512x10x10_3456_n_n_n_0123_3_15121010 (image V0) (starts V0) (ix7 n p q 0 ch r s))
        (Ideal.ofBits .f32 0xFF800000#32)
        = Cert.Roi.winCell (hs V0 n p) (he V0 n p) (ws V0 n q) (we V0 n q)
          (fun h w => image V0 (ix4 ⟨(FloatOps.fptosi (F := Ideal) (φ := .f32) 32 (rois V0 (ix2 n 0))).toNat, by omega⟩ ch h w)) (r, s) := by
      intro r s
      rw [window_at (image V0) V0 n p q ch r s hb, v158_at]
      rfl
    refine fold_max_eq _ _ _ (fun rs => ix6 n p q ch rs.1 rs.2) (fun i => (i 4, i 5)) ?_ ?_ ?_
    · intro i hi
      have hi := (drop_win n p q ch i).1 (Finset.mem_filter.1 hi).2
      rw [hi]
      exact cell (i 4) (i 5)
    · exact fun rs => Finset.mem_filter.2 ⟨Finset.mem_univ _, (drop_win n p q ch _).2 rfl⟩
    · exact fun rs => cell rs.1 rs.2

end Cert.ReferenceIdeal.Roi

end
-- ==== Proof.Roi.Width.lean ====
/- A bin's bounds over the extended reals: they lie in [0, 50], and a bin of a range inside the feature map is at most ten
   positions wide. -/
module

public import proofs.«01_k».proof.Proof.Roi.Pool
public import Idealize.ShloMosaic.PureOps.Ideal
public import Idealize.ShloMosaic.PureOps.Ideal.Laws

@[expose] public section

noncomputable section

namespace Cert.Roi

open Idealize.ShloMosaic Idealize.ShloMosaic.WordArith

/-- A clipped position, as a number. -/
theorem clip_toInt (w : BitVec 32) : (clip w).toInt = min 50 (max 0 w.toInt) := by
  unfold clip
  rw [SortNet.toInt_minsi, SortNet.toInt_maxsi]; rfl

/-- A whole number converted to a word is that number. -/
theorem fptosi_int (z : ℤ) (h0 : -1000 ≤ z) (h1 : z ≤ 1000) : (FloatOps.fptosi (F := Ideal) (φ := .f32) 32 (((z : ℝ) : EReal))).toInt = z := by
  show (BitVec.ofInt 32 (max (-(2 ^ 31 : Nat)) (min ((2 ^ 31 : Nat) - 1) (if (0 : ℝ) ≤ (z : ℝ) then ⌊(z : ℝ)⌋ else ⌈(z : ℝ)⌉)))).toInt = z
  rw [Int.floor_intCast, Int.ceil_intCast, ite_self, BitVec.toInt_ofInt_eq_self (by decide) (by norm_num) (by norm_num)]
  norm_num
  omega

/-- The scale 1/16. -/
theorem sixteenth : FloatOps.ofBits (F := Ideal) .f32 0x3D800000#32 = ((1 / 16 : ℝ) : EReal) := by
  show Ideal.ofBits .f32 0x3D800000#32 = _
  simp [Ideal.ofBits, Ideal.ieee]
  rw [← EReal.coe_mul]
  norm_num

/-- The number of bins along a side, 7. -/
theorem seven : FloatOps.ofBits (F := Ideal) .f32 0x40E00000#32 = ((7 : ℝ) : EReal) := by
  show Ideal.ofBits .f32 0x40E00000#32 = _
  simp [Ideal.ofBits, Ideal.ieee]
  rw [← EReal.coe_mul]
  norm_num

/-- The largest coordinate the precondition allows, 799. -/
theorem top_coord : FloatOps.ofBits (F := Ideal) .f32 0x4447C000#32 = ((799 : ℝ) : EReal) := by
  show Ideal.ofBits .f32 0x4447C000#32 = _
  simp [Ideal.ofBits, Ideal.ieee]
  rw [← EReal.coe_mul]
  norm_num

/-- The words of the floats 0 to 7 are the numbers 0 to 7. -/
theorem word8_eq (k : Fin 8) : FloatOps.ofBits (F := Ideal) .f32 (word8 k) = ((k.val : ℝ) : EReal) := by
  show Ideal.ofBits .f32 (word8 k) = _
  fin_cases k <;> simp [word8, Ideal.ofBits, Ideal.ieee] <;> rw [← EReal.coe_mul] <;> norm_num

/-- A rounded number is between whole bounds of the number. -/
theorem roundHalfEven_bounds (r : ℝ) (h0 : 0 ≤ r) (h1 : r ≤ 50) : 0 ≤ Ideal.roundHalfEven r ∧ Ideal.roundHalfEven r ≤ 50 := by
  have f0 : 0 ≤ ⌊r⌋ := Int.floor_nonneg.2 h0
  have f1 : ⌊r⌋ ≤ 50 := by
    have := Int.floor_le r
    exact_mod_cast this.trans h1
  have f2 : ⌊r⌋ = 50 → r - ⌊r⌋ < 1 / 2 := fun e => by rw [e]; norm_num; linarith
  unfold Ideal.roundHalfEven
  simp only
  split
  · exact ⟨f0, f1⟩
  · have : ⌊r⌋ ≠ 50 := fun e => by rename_i hn; exact hn (f2 e)
    split_ifs <;> omega

/-- A coordinate of the image between 0 and 799 rounds to a position between 0 and 50. -/
theorem coord_bounds (v : Ideal .f32) (h0 : FloatOps.cmpf .oge v (FloatOps.ofBits (F := Ideal) .f32 0x00000000#32) = 1#1)
    (h1 : FloatOps.cmpf .ole v (FloatOps.ofBits (F := Ideal) .f32 0x4447C000#32) = 1#1) :
    0 ≤ (coord v).toInt ∧ (coord v).toInt ≤ 50 := by
  have z : FloatOps.ofBits (F := Ideal) .f32 0x00000000#32 = (((0 : ℝ) : EReal)) := by
    show Ideal.ofBits .f32 0x00000000#32 = _
    simp [Ideal.ofBits, Ideal.ieee]
  rw [z] at h0
  rw [top_coord] at h1
  have h0 : ((0 : ℝ) : EReal) ≤ (v : EReal) := of_decide_eq_true ((ofBool_eq_one_iff _).1 h0)
  have h1 : (v : EReal) ≤ ((799 : ℝ) : EReal) := of_decide_eq_true ((ofBool_eq_one_iff _).1 h1)
  obtain ⟨r, rfl⟩ : ∃ r : ℝ, v = (r : EReal) := by
    induction v using EReal.rec with
    | bot => exact absurd h0 (not_le.2 (EReal.bot_lt_coe 0))
    | top => exact absurd h1 (not_le.2 (EReal.coe_lt_top 799))
    | coe r => exact ⟨r, rfl⟩
  have h0 := EReal.coe_le_coe_iff.1 h0
  have h1 := EReal.coe_le_coe_iff.1 h1
  have b := roundHalfEven_bounds (r * (1 / 16)) (by linarith) (by linarith)
  have e : coord (F := Ideal) (r : EReal) = FloatOps.fptosi (F := Ideal) (φ := .f32) 32 (((Ideal.roundHalfEven (r * (1 / 16)) : ℝ) : EReal)) := by
    unfold coord
    rw [sixteenth]
    show FloatOps.fptosi (F := Ideal) (φ := .f32) 32 (Ideal.liftRound Ideal.roundHalfEven ((r : EReal) * ((1 / 16 : ℝ) : EReal))) = _
    rw [← EReal.coe_mul]
    rfl
  rw [e, fptosi_int _ (by omega) (by omega)]
  exact b

/-- The length of a range inside the map, at least one. -/
def len (a b : BitVec 32) : ℤ := max (b.toInt - a.toInt + 1) 1

/-- A bin's width is a seventh of the length. -/
theorem bin_eq (a b : BitVec 32) (a0 : 0 ≤ a.toInt) (a1 : a.toInt ≤ 50) (b0 : 0 ≤ b.toInt) (b1 : b.toInt ≤ 50) :
    bin (F := Ideal) a b = (((len a b : ℝ) * (1 / 7) : ℝ) : EReal) := by
  have e : (IntOp.maxsi (IntOp.addi (IntOp.subi b a) 1#32) 1#32).toInt = len a b := by
    have s : (b - a).toInt = b.toInt - a.toInt := toInt_sub_of_bounds _ _ (by omega) (by omega)
    have o : (1#32 : BitVec 32).toInt = 1 := by decide
    have p : (b - a + 1#32).toInt = b.toInt - a.toInt + 1 := by
      rw [toInt_add_of_bounds _ _ (by omega) (by omega), s, o]
    rw [SortNet.toInt_maxsi]
    show max (b - a + 1#32).toInt (1#32 : BitVec 32).toInt = _
    rw [p, o]
    rfl
  unfold bin
  rw [seven]
  show Ideal.div (((IntOp.maxsi (IntOp.addi (IntOp.subi b a) 1#32) 1#32).toInt : ℝ) : EReal) ((7 : ℝ) : EReal) = _
  rw [e, Ideal.div_coe (by norm_num), ← EReal.coe_mul]

/-- Where bin edge `q` lies, in bins' widths from the range's start. -/
def off (q : ℕ) (a b : BitVec 32) : ℝ := (q : ℝ) * ((len a b : ℝ) * (1 / 7))

/-- Edge 0 to 7 lies between 0 and 51. -/
theorem off_bounds (q : ℕ) (hq : q ≤ 7) (a b : BitVec 32) (a0 : 0 ≤ a.toInt) (b1 : b.toInt ≤ 50) : 0 ≤ off q a b ∧ off q a b ≤ 51 := by
  have l1 : (1 : ℝ) ≤ len a b := by
    have : 1 ≤ len a b := by unfold len; omega
    exact_mod_cast this
  have l2 : (len a b : ℝ) ≤ 51 := by
    have : len a b ≤ 51 := by unfold len; omega
    exact_mod_cast this
  have q1 : (q : ℝ) ≤ 7 := by exact_mod_cast hq
  have q0 : (0 : ℝ) ≤ q := Nat.cast_nonneg q
  unfold off
  constructor
  · positivity
  · nlinarith

/-- A whole offset added to a position of the map, clipped to the map. -/
theorem clip_add (z : ℤ) (a : BitVec 32) (h0 : 0 ≤ z) (h1 : z ≤ 51) (a0 : 0 ≤ a.toInt) (a1 : a.toInt ≤ 50) :
    (clip (IntOp.addi (FloatOps.fptosi (F := Ideal) (φ := .f32) 32 (((z : ℝ) : EReal))) a)).toInt = min 50 (z + a.toInt) := by
  have f := fptosi_int z (by omega) (by omega)
  rw [clip_toInt]
  show min 50 (max 0 (FloatOps.fptosi (F := Ideal) (φ := .f32) 32 (((z : ℝ) : EReal)) + a).toInt) = _
  rw [toInt_add_of_bounds _ _ (by omega) (by omega), f]
  omega

/-- The first position of the bin that starts at edge `q`. -/
theorem lo_eq (q : ℕ) (hq : q ≤ 7) (a b : BitVec 32) (a0 : 0 ≤ a.toInt) (a1 : a.toInt ≤ 50) (b0 : 0 ≤ b.toInt) (b1 : b.toInt ≤ 50) :
    (lo (F := Ideal) (((q : ℝ) : EReal)) a b).toInt = min 50 (⌊off q a b⌋ + a.toInt) := by
  obtain ⟨o0, o1⟩ := off_bounds q hq a b a0 b1
  have f0 : 0 ≤ ⌊off q a b⌋ := Int.floor_nonneg.2 o0
  have f1 : ⌊off q a b⌋ ≤ 51 := by exact_mod_cast (Int.floor_le _).trans o1
  unfold lo
  rw [bin_eq a b a0 a1 b0 b1]
  show (clip (IntOp.addi (FloatOps.fptosi (F := Ideal) (φ := .f32) 32 (Ideal.liftRound Int.floor (((q : ℝ) : EReal) * (((len a b : ℝ) * (1 / 7) : ℝ) : EReal)))) a)).toInt = _
  rw [← EReal.coe_mul]
  exact clip_add ⌊off q a b⌋ a f0 f1 a0 a1

/-- One past the last position of the bin that ends at edge `q`. -/
theorem hi_eq (q : ℕ) (hq : q ≤ 7) (a b : BitVec 32) (a0 : 0 ≤ a.toInt) (a1 : a.toInt ≤ 50) (b0 : 0 ≤ b.toInt) (b1 : b.toInt ≤ 50) :
    (hi (F := Ideal) (((q : ℝ) : EReal)) a b).toInt = min 50 (⌈off q a b⌉ + a.toInt) := by
  obtain ⟨o0, o1⟩ := off_bounds q hq a b a0 b1
  have f0 : 0 ≤ ⌈off q a b⌉ := Int.ceil_nonneg o0
  have f1 : ⌈off q a b⌉ ≤ 51 := Int.ceil_le.2 (by exact_mod_cast o1)
  unfold hi
  rw [bin_eq a b a0 a1 b0 b1]
  show (clip (IntOp.addi (FloatOps.fptosi (F := Ideal) (φ := .f32) 32 (Ideal.liftRound Int.ceil (((q : ℝ) : EReal) * (((len a b : ℝ) * (1 / 7) : ℝ) : EReal)))) a)).toInt = _
  rw [← EReal.coe_mul]
  exact clip_add ⌈off q a b⌉ a f0 f1 a0 a1

/-- A bin of a range inside the map is at most ten positions wide. -/
theorem width_le (q : ℕ) (hq : q + 1 ≤ 7) (a b : BitVec 32) (a0 : 0 ≤ a.toInt) (a1 : a.toInt ≤ 50) (b0 : 0 ≤ b.toInt) (b1 : b.toInt ≤ 50) :
    (hi (F := Ideal) ((((q + 1 : ℕ) : ℝ) : EReal)) a b).toInt ≤ (lo (F := Ideal) (((q : ℝ) : EReal)) a b).toInt + 10 := by
  rw [lo_eq q (by omega) a b a0 a1 b0 b1, hi_eq (q + 1) hq a b a0 a1 b0 b1]
  have l2 : (len a b : ℝ) ≤ 51 := by
    have : len a b ≤ 51 := by unfold len; omega
    exact_mod_cast this
  have d : off (q + 1) a b = off q a b + (len a b : ℝ) * (1 / 7) := by unfold off; push_cast; ring
  have u := Int.ceil_lt_add_one (off (q + 1) a b)
  have w := Int.lt_floor_add_one (off q a b)
  have h : (⌈off (q + 1) a b⌉ : ℝ) < (⌊off q a b⌋ : ℝ) + 10 := by linarith
  have h' : ⌈off (q + 1) a b⌉ < ⌊off q a b⌋ + 10 := by exact_mod_cast h
  omega

/-- A clipped position lies in [0, 50]. -/
theorem clip_bounds (w : BitVec 32) : 0 ≤ (clip w).toInt ∧ (clip w).toInt ≤ 50 := by
  rw [clip_toInt]; omega

/-- A number's float is the number. -/
theorem sitofp_word (k : ℕ) (hk : k < 100) : FloatOps.sitofp (F := Ideal) .f32 (BitVec.ofNat 32 k) = ((k : ℝ) : EReal) := by
  show (((BitVec.ofNat 32 k).toInt : ℝ) : EReal) = _
  rw [toInt_ofNat_small _ (by omega)]
  rfl

end Cert.Roi

end
-- ==== Proof.Roi.Algebraic.lean ====
/- Over the extended reals the kernel and the reference compute the same array. -/
module

public import proofs.«01_k».proof.Proof.Roi.KernelValue
public import proofs.«01_k».proof.Proof.Roi.RefValue
public import proofs.«01_k».proof.Proof.Roi.Width
public import proofs.«01_k».proof.Proof.Roi.Frames

@[expose] public section

set_option maxRecDepth 16384

noncomputable section

namespace Cert.Roi

open Idealize.ShloMosaic Idealize.ShloMosaic.TcCoe Idealize.ShloMosaic.StableHlo

/-- A bin's number is the same float in both programs: the kernel's constant, the reference's converted counter. -/
theorem num_eq (p : Fin 7) : FloatOps.sitofp (F := Ideal) .f32 (BitVec.ofNat 32 p.val) = ((p.val : ℝ) : EReal) := sitofp_word p.val (by omega)
theorem nxt_eq (p : Fin 7) : FloatOps.sitofp (F := Ideal) .f32 (IntOp.addi (BitVec.ofNat 32 p.val) 1#32) = (((p.val + 1 : ℕ) : ℝ) : EReal) := by
  have e : IntOp.addi (BitVec.ofNat 32 p.val) 1#32 = BitVec.ofNat 32 (p.val + 1) := by fin_cases p <;> rfl
  rw [e]
  exact sitofp_word (p.val + 1) (by omega)
theorem castSucc_eq (p : Fin 7) : FloatOps.ofBits (F := Ideal) .f32 (word8 p.castSucc) = ((p.val : ℝ) : EReal) := word8_eq p.castSucc
theorem succ_eq (p : Fin 7) : FloatOps.ofBits (F := Ideal) .f32 (word8 p.succ) = (((p.val + 1 : ℕ) : ℝ) : EReal) := word8_eq p.succ

section
variable (m : (ℓ : Loc Cert.KernelIdeal.nD Cert.KernelIdeal.τ Cert.KernelIdeal.sig) → Buf (Elt Ideal) ℓ)
  (W : Valuation Cert.ReferenceIdeal.τ Cert.ReferenceIdeal.sig (Elt Ideal))
  (hr : Cert.ReferenceIdeal.Roi.rois W = Cert.KernelIdeal.Gen.rois m)

include hr in
/-- From equal rois the two programs round equal coordinates. -/
theorem edge_eq (n : Fin 300) (k : Fin 5) : Cert.ReferenceIdeal.Roi.edge W n k = coord (Cert.KernelIdeal.Gen.rois m (ix2 n k)) :=
  congrArg (coord (F := Ideal)) (congrFun hr (ix2 n k))

include hr in
/-- The two programs' bins have equal bounds. -/
theorem rowLo_eq (n : Fin 300) (p : Fin 7) : Cert.ReferenceIdeal.Roi.hs W n p = Cert.KernelIdeal.Gen.rowLo m n p := by
  unfold Cert.ReferenceIdeal.Roi.hs Cert.KernelIdeal.Gen.rowLo
  rw [edge_eq m W hr, edge_eq m W hr, castSucc_eq, ← num_eq]
include hr in
theorem rowHi_eq (n : Fin 300) (p : Fin 7) : Cert.ReferenceIdeal.Roi.he W n p = Cert.KernelIdeal.Gen.rowHi m n p := by
  unfold Cert.ReferenceIdeal.Roi.he Cert.KernelIdeal.Gen.rowHi
  rw [edge_eq m W hr, edge_eq m W hr, succ_eq, ← nxt_eq]
include hr in
theorem colLo_eq (n : Fin 300) (p : Fin 7) : Cert.ReferenceIdeal.Roi.ws W n p = Cert.KernelIdeal.Gen.colLo m n p := by
  unfold Cert.ReferenceIdeal.Roi.ws Cert.KernelIdeal.Gen.colLo
  rw [edge_eq m W hr, edge_eq m W hr, castSucc_eq, ← num_eq]
include hr in
theorem colHi_eq (n : Fin 300) (p : Fin 7) : Cert.ReferenceIdeal.Roi.we W n p = Cert.KernelIdeal.Gen.colHi m n p := by
  unfold Cert.ReferenceIdeal.Roi.we Cert.KernelIdeal.Gen.colHi
  rw [edge_eq m W hr, edge_eq m W hr, succ_eq, ← nxt_eq]

variable (h : Cert.Pre_rois_in_range.fn (F := Ideal) (Cert.KernelIdeal.Gen.image m) (Cert.KernelIdeal.Gen.rois m) = fun _ => 1#1)

include h in
/-- Under the precondition a bin is at most ten columns wide. -/
theorem col_width (n : Fin 300) (q : Fin 7) : (Cert.KernelIdeal.Gen.colHi m n q).toInt ≤ (Cert.KernelIdeal.Gen.colLo m n q).toInt + 10 := by
  obtain ⟨_, ⟨x1, x1'⟩, x2, x2'⟩ := pre_at _ _ h n
  obtain ⟨a0, a1⟩ := coord_bounds _ x1 x1'
  obtain ⟨b0, b1⟩ := coord_bounds _ x2 x2'
  unfold Cert.KernelIdeal.Gen.colHi Cert.KernelIdeal.Gen.colLo
  rw [castSucc_eq, succ_eq]
  exact width_le q.val (by omega) _ _ a0 a1 b0 b1

include hr in
/-- One bin's result: the kernel's pooled value is the reference's. -/
theorem value_at (hi : Cert.ReferenceIdeal.Roi.image W = Cert.KernelIdeal.Gen.image m) (n : Fin 300) (ch : Fin 512) (p q : Fin 7) :
    Cert.ReferenceIdeal.Roi.out W (ix4 n ch p q) = Cert.KernelIdeal.Gen.pooled m h n p q ch := by
  have en : FloatOps.fptosi (F := Ideal) (φ := .f32) 32 (Cert.ReferenceIdeal.Roi.rois W (ix2 n 0)) = FloatOps.fptosi (F := Ideal) (φ := .f32) 32 (Cert.KernelIdeal.Gen.rois m (ix2 n 0)) :=
    congrArg (FloatOps.fptosi (F := Ideal) (φ := .f32) 32) (congrFun hr (ix2 n 0))
  have hb := (congrArg BitVec.toNat en).trans_le (Cert.KernelIdeal.Gen.img_le m h n)
  obtain ⟨any, hany, e⟩ := Cert.ReferenceIdeal.Roi.out_at W n p q ch hb
  rw [rowLo_eq m W hr, rowHi_eq m W hr, colLo_eq m W hr, colHi_eq m W hr] at e
  rw [rowLo_eq m W hr, rowHi_eq m W hr, colLo_eq m W hr, colHi_eq m W hr] at hany
  refine e.trans ((pool_eq _ _ _ _ any _ hany (clip_bounds _).1 (clip_bounds _).2 (clip_bounds _).1 (clip_bounds _).2 (col_width m h n q)).symm.trans ?_)
  unfold Cert.KernelIdeal.Gen.pooled
  refine congrArg (kernelPool _ _ _ _) (funext fun i => funext fun j => ?_)
  refine (congrFun hi _).trans (congrArg (fun b : Fin 2 => Cert.KernelIdeal.Gen.image m (ix4 b ch i j)) (Fin.ext (congrArg BitVec.toNat en)))

end

section
variable (m : (ℓ : Loc Cert.KernelIdeal.nD Cert.KernelIdeal.τ Cert.KernelIdeal.sig) → Buf (Elt Ideal) ℓ)
  (W : Valuation Cert.ReferenceIdeal.τ Cert.ReferenceIdeal.sig (Elt Ideal))
  (h : Cert.Pre_rois_in_range.fn (F := Ideal) (Cert.KernelIdeal.Gen.image m) (Cert.KernelIdeal.Gen.rois m) = fun _ => 1#1)
  (hi : Cert.ReferenceIdeal.Roi.image W = Cert.KernelIdeal.Gen.image m) (hr : Cert.ReferenceIdeal.Roi.rois W = Cert.KernelIdeal.Gen.rois m)

include h hi hr in
/-- The kernel's whole result is the reference's. -/
theorem result_eq (hO : Cert.KernelIdeal.Gen.Ok m) (hH : Cert.KernelIdeal.Gen.Hyps m hO) :
    (Pipeline.afterTail Cert.KernelIdeal.pcfgs (fun _ => Cert.KernelIdeal.Gen.adm m hO) (Cert.KernelIdeal.Gen.dats m hO hH) 0 (Cert.KernelIdeal.Gen.V0 m) [Cert.KernelIdeal.Gen.hostOps1] 0 Cert.KernelIdeal.main_v246
      : Cert.KernelIdeal.S300x512x7x7.Idx → EReal) = Cert.ReferenceIdeal.Roi.out W := by
  funext i
  have ei : i = (ix4 (i 0) (i 1) (i 2) (i 3) : Cert.KernelIdeal.S300x512x7x7.Idx) := by funext a; fin_cases a <;> rfl
  rw [ei]
  exact (Cert.KernelIdeal.Gen.result_at m h hO hH _ _ _ _).trans (value_at m W hr h hi _ _ _ _).symm

end

/-- The kernel and the reference, run from equal arguments that meet the precondition, end with equal results and unchanged
    arguments. -/
theorem algebraic : Cert.algebraic_KernelIdeal_ReferenceIdeal := by
  intro m g m' g' h hargs
  have hO := Cert.KernelIdeal.Gen.ok_all m
  have hH := Cert.KernelIdeal.Gen.hyps_of_pre m (h 0) hO
  have kernel_result : ∀ c : Dev Cert.KernelIdeal.nD, Pipeline.afterTail Cert.KernelIdeal.pcfgs (fun _ => Cert.KernelIdeal.Gen.adm m hO) (Cert.KernelIdeal.Gen.dats m hO hH) 0
      (Cert.KernelIdeal.Gen.V0 m) [Cert.KernelIdeal.Gen.hostOps1] c Cert.KernelIdeal.main_v246 = Cert.ReferenceIdeal.Roi.out (launchContents m' c) := fun c => by
    obtain rfl : c = 0 := Subsingleton.elim _ _
    exact result_eq m (launchContents m' 0) (h 0) (hargs 0).1 (hargs 0).2 hO hH
  refine ⟨fun c => Cert.ReferenceIdeal.Roi.out (launchContents m' c), ?_, ?_⟩
  · refine (θ_run Cert.KernelIdeal.defs _ _).mono (fun r hr c => ⟨?_, ?_, ?_⟩) (Cert.KernelIdeal.Gen.run_main m g hO hH)
    · exact ((hr c).2 Cert.KernelIdeal.main_v246 (by decide : Cert.KernelIdeal.main_v246 ∈ Pipeline.restRefs Cert.KernelIdeal.sig Cert.KernelIdeal.spec0)).trans (kernel_result c)
    · exact ((hr c).2 Cert.KernelIdeal.main_arg0 (by decide : Cert.KernelIdeal.main_arg0 ∈ Pipeline.restRefs Cert.KernelIdeal.sig Cert.KernelIdeal.spec0)).trans (Cert.KernelIdeal.Gen.W_main_arg0 m hO _ c)
    · exact ((hr c).2 Cert.KernelIdeal.main_arg1 (by decide : Cert.KernelIdeal.main_arg1 ∈ Pipeline.restRefs Cert.KernelIdeal.sig Cert.KernelIdeal.spec0)).trans (Cert.KernelIdeal.Gen.W_main_arg1 m hO _ c)
  · exact Cert.ReferenceIdeal.Roi.run m' g'

end Cert.Roi

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_rois_in_range
public import proofs.«01_k».proof.Proof.Roi.Frames
public import proofs.«01_k».proof.Proof.Roi.Algebraic

public section

namespace Cert.Proof

/-- The five claims: the three programs run and keep their arguments, the kernel's mask constant is named minus infinity,
    and over the extended reals the kernel computes what the reference computes. -/
theorem claim : Cert.Claim := ⟨Cert.Kernel.Gen.facts, Cert.KernelIdeal.Gen.facts, Cert.ReferenceIdeal.Gen.facts, Cert.Pre_rois_in_range.Gen.facts,
  Cert.Roi.frame_word, Cert.Roi.frame_ideal, Cert.Roi.frame_ref, Cert.Roi.preserves, Cert.Roi.algebraic⟩

end Cert.Proof
